-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectedIdeal (m : (ℓ : Loc Cert.ProjectedIdeal.nD Cert.ProjectedIdeal.τ Cert.ProjectedIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergedIdeal (m : (ℓ : Loc Cert.MergedIdeal.nD Cert.MergedIdeal.τ Cert.MergedIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_RememberedIdeal (m : (ℓ : Loc Cert.RememberedIdeal.nD Cert.RememberedIdeal.τ Cert.RememberedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2)
      ∧ r.2.mem ((c.tc : Thread Cert.Projection.nD Cert.Projection.τ).loc Cert.Projection.main_arg3) = m ((c.tc : Thread Cert.Projection.nD Cert.Projection.τ).loc Cert.Projection.main_arg3)
      ∧ r.2.mem ((c.tc : Thread Cert.Projection.nD Cert.Projection.τ).loc Cert.Projection.main_arg4) = m ((c.tc : Thread Cert.Projection.nD Cert.Projection.τ).loc Cert.Projection.main_arg4))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
      ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
      ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ r.2.sem = fun _ => 0)

def quiescent_ProjectedIdeal [hProjectedIdeal : Cert.ProjectedIdeal.Facts] : Prop :=
  ∀ (m : (ℓ : Loc Cert.ProjectedIdeal.nD Cert.ProjectedIdeal.τ Cert.ProjectedIdeal.sig) → Buf (Elt Ideal) ℓ) (g : Dev Cert.ProjectedIdeal.nD → PrngReg), Pre_ProjectedIdeal m →
    θ_run (Cert.ProjectedIdeal.defs (F := Ideal)) (onTc (τ := Cert.ProjectedIdeal.τ) (Cert.ProjectedIdeal.main (F := Ideal))) ⟨m, fun _ => 0, g⟩ (fun r => (∀ c : Dev Cert.ProjectedIdeal.nD,
      r.2.mem ((c.tc : Thread Cert.ProjectedIdeal.nD Cert.ProjectedIdeal.τ).loc Cert.ProjectedIdeal.main_arg0) = m ((c.tc : Thread Cert.ProjectedIdeal.nD Cert.ProjectedIdeal.τ).loc Cert.ProjectedIdeal.main_arg0)
      ∧ r.2.mem ((c.tc : Thread Cert.ProjectedIdeal.nD Cert.ProjectedIdeal.τ).loc Cert.ProjectedIdeal.main_arg1) = m ((c.tc : Thread Cert.ProjectedIdeal.nD Cert.ProjectedIdeal.τ).loc Cert.ProjectedIdeal.main_arg1)
      ∧ r.2.mem ((c.tc : Thread Cert.ProjectedIdeal.nD Cert.ProjectedIdeal.τ).loc Cert.ProjectedIdeal.main_arg2) = m ((c.tc : Thread Cert.ProjectedIdeal.nD Cert.ProjectedIdeal.τ).loc Cert.ProjectedIdeal.main_arg2)
      ∧ r.2.mem ((c.tc : Thread Cert.ProjectedIdeal.nD Cert.ProjectedIdeal.τ).loc Cert.ProjectedIdeal.main_arg3) = m ((c.tc : Thread Cert.ProjectedIdeal.nD Cert.ProjectedIdeal.τ).loc Cert.ProjectedIdeal.main_arg3)
      ∧ r.2.mem ((c.tc : Thread Cert.ProjectedIdeal.nD Cert.ProjectedIdeal.τ).loc Cert.ProjectedIdeal.main_arg4) = m ((c.tc : Thread Cert.ProjectedIdeal.nD Cert.ProjectedIdeal.τ).loc Cert.ProjectedIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18)
      ∧ r.2.mem ((c.tc : Thread Cert.Merge.nD Cert.Merge.τ).loc Cert.Merge.main_arg19) = m ((c.tc : Thread Cert.Merge.nD Cert.Merge.τ).loc Cert.Merge.main_arg19))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
      ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
      ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2)
      ∧ r.2.mem ((c.tc : Thread Cert.MergedIdeal.nD Cert.MergedIdeal.τ).loc Cert.MergedIdeal.main_arg3) = m ((c.tc : Thread Cert.MergedIdeal.nD Cert.MergedIdeal.τ).loc Cert.MergedIdeal.main_arg3)
      ∧ r.2.mem ((c.tc : Thread Cert.MergedIdeal.nD Cert.MergedIdeal.τ).loc Cert.MergedIdeal.main_arg4) = m ((c.tc : Thread Cert.MergedIdeal.nD Cert.MergedIdeal.τ).loc Cert.MergedIdeal.main_arg4)
      ∧ r.2.mem ((c.tc : Thread Cert.MergedIdeal.nD Cert.MergedIdeal.τ).loc Cert.MergedIdeal.main_arg5) = m ((c.tc : Thread Cert.MergedIdeal.nD Cert.MergedIdeal.τ).loc Cert.MergedIdeal.main_arg5)
      ∧ r.2.mem ((c.tc : Thread Cert.MergedIdeal.nD Cert.MergedIdeal.τ).loc Cert.MergedIdeal.main_arg6) = m ((c.tc : Thread Cert.MergedIdeal.nD Cert.MergedIdeal.τ).loc Cert.MergedIdeal.main_arg6)
      ∧ r.2.mem ((c.tc : Thread Cert.MergedIdeal.nD Cert.MergedIdeal.τ).loc Cert.MergedIdeal.main_arg7) = m ((c.tc : Thread Cert.MergedIdeal.nD Cert.MergedIdeal.τ).loc Cert.MergedIdeal.main_arg7)
      ∧ r.2.mem ((c.tc : Thread Cert.MergedIdeal.nD Cert.MergedIdeal.τ).loc Cert.MergedIdeal.main_arg8) = m ((c.tc : Thread Cert.MergedIdeal.nD Cert.MergedIdeal.τ).loc Cert.MergedIdeal.main_arg8)
      ∧ r.2.mem ((c.tc : Thread Cert.MergedIdeal.nD Cert.MergedIdeal.τ).loc Cert.MergedIdeal.main_arg9) = m ((c.tc : Thread Cert.MergedIdeal.nD Cert.MergedIdeal.τ).loc Cert.MergedIdeal.main_arg9)
      ∧ r.2.mem ((c.tc : Thread Cert.MergedIdeal.nD Cert.MergedIdeal.τ).loc Cert.MergedIdeal.main_arg10) = m ((c.tc : Thread Cert.MergedIdeal.nD Cert.MergedIdeal.τ).loc Cert.MergedIdeal.main_arg10)
      ∧ r.2.mem ((c.tc : Thread Cert.MergedIdeal.nD Cert.MergedIdeal.τ).loc Cert.MergedIdeal.main_arg11) = m ((c.tc : Thread Cert.MergedIdeal.nD Cert.MergedIdeal.τ).loc Cert.MergedIdeal.main_arg11)
      ∧ r.2.mem ((c.tc : Thread Cert.MergedIdeal.nD Cert.MergedIdeal.τ).loc Cert.MergedIdeal.main_arg12) = m ((c.tc : Thread Cert.MergedIdeal.nD Cert.MergedIdeal.τ).loc Cert.MergedIdeal.main_arg12)
      ∧ r.2.mem ((c.tc : Thread Cert.MergedIdeal.nD Cert.MergedIdeal.τ).loc Cert.MergedIdeal.main_arg13) = m ((c.tc : Thread Cert.MergedIdeal.nD Cert.MergedIdeal.τ).loc Cert.MergedIdeal.main_arg13)
      ∧ r.2.mem ((c.tc : Thread Cert.MergedIdeal.nD Cert.MergedIdeal.τ).loc Cert.MergedIdeal.main_arg14) = m ((c.tc : Thread Cert.MergedIdeal.nD Cert.MergedIdeal.τ).loc Cert.MergedIdeal.main_arg14)
      ∧ r.2.mem ((c.tc : Thread Cert.MergedIdeal.nD Cert.MergedIdeal.τ).loc Cert.MergedIdeal.main_arg15) = m ((c.tc : Thread Cert.MergedIdeal.nD Cert.MergedIdeal.τ).loc Cert.MergedIdeal.main_arg15)
      ∧ r.2.mem ((c.tc : Thread Cert.MergedIdeal.nD Cert.MergedIdeal.τ).loc Cert.MergedIdeal.main_arg16) = m ((c.tc : Thread Cert.MergedIdeal.nD Cert.MergedIdeal.τ).loc Cert.MergedIdeal.main_arg16)
      ∧ r.2.mem ((c.tc : Thread Cert.MergedIdeal.nD Cert.MergedIdeal.τ).loc Cert.MergedIdeal.main_arg17) = m ((c.tc : Thread Cert.MergedIdeal.nD Cert.MergedIdeal.τ).loc Cert.MergedIdeal.main_arg17)
      ∧ r.2.mem ((c.tc : Thread Cert.MergedIdeal.nD Cert.MergedIdeal.τ).loc Cert.MergedIdeal.main_arg18) = m ((c.tc : Thread Cert.MergedIdeal.nD Cert.MergedIdeal.τ).loc Cert.MergedIdeal.main_arg18)
      ∧ r.2.mem ((c.tc : Thread Cert.MergedIdeal.nD Cert.MergedIdeal.τ).loc Cert.MergedIdeal.main_arg19) = m ((c.tc : Thread Cert.MergedIdeal.nD Cert.MergedIdeal.τ).loc Cert.MergedIdeal.main_arg19))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_RememberedIdeal [hRememberedIdeal : Cert.RememberedIdeal.Facts] : Prop :=
  ∀ (m : (ℓ : Loc Cert.RememberedIdeal.nD Cert.RememberedIdeal.τ Cert.RememberedIdeal.sig) → Buf (Elt Ideal) ℓ) (g : Dev Cert.RememberedIdeal.nD → PrngReg), Pre_RememberedIdeal m →
    θ_run (Cert.RememberedIdeal.defs (F := Ideal)) (onTc (τ := Cert.RememberedIdeal.τ) (Cert.RememberedIdeal.main (F := Ideal))) ⟨m, fun _ => 0, g⟩ (fun r => (∀ c : Dev Cert.RememberedIdeal.nD,
      r.2.mem ((c.tc : Thread Cert.RememberedIdeal.nD Cert.RememberedIdeal.τ).loc Cert.RememberedIdeal.main_arg0) = m ((c.tc : Thread Cert.RememberedIdeal.nD Cert.RememberedIdeal.τ).loc Cert.RememberedIdeal.main_arg0)
      ∧ r.2.mem ((c.tc : Thread Cert.RememberedIdeal.nD Cert.RememberedIdeal.τ).loc Cert.RememberedIdeal.main_arg1) = m ((c.tc : Thread Cert.RememberedIdeal.nD Cert.RememberedIdeal.τ).loc Cert.RememberedIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)) (v2 : (c : Dev Cert.KernelIdeal.nD) → Buf (Elt Ideal) ((c.tc : Thread Cert.KernelIdeal.nD Cert.KernelIdeal.τ).loc Cert.KernelIdeal.main_v64_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_v64_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Projection_ProjectionIdeal : Prop :=
  True

def algebraic_ProjectionIdeal_ProjectedIdeal [hProjectionIdeal : Cert.ProjectionIdeal.Facts] [hProjectedIdeal : Cert.ProjectedIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectedIdeal.nD Cert.ProjectedIdeal.τ Cert.ProjectedIdeal.sig) → Buf (Elt Ideal) ℓ) (g' : Dev Cert.ProjectedIdeal.nD → PrngReg), Pre_ProjectionIdeal m →
    (∀ c : Dev Cert.ProjectionIdeal.nD,
      m' ((c.tc : Thread Cert.ProjectedIdeal.nD Cert.ProjectedIdeal.τ).loc Cert.ProjectedIdeal.main_arg0) = m ((c.tc : Thread Cert.ProjectionIdeal.nD Cert.ProjectionIdeal.τ).loc Cert.ProjectionIdeal.main_arg0)
      ∧ m' ((c.tc : Thread Cert.ProjectedIdeal.nD Cert.ProjectedIdeal.τ).loc Cert.ProjectedIdeal.main_arg1) = m ((c.tc : Thread Cert.ProjectionIdeal.nD Cert.ProjectionIdeal.τ).loc Cert.ProjectionIdeal.main_arg1)
      ∧ m' ((c.tc : Thread Cert.ProjectedIdeal.nD Cert.ProjectedIdeal.τ).loc Cert.ProjectedIdeal.main_arg2) = m ((c.tc : Thread Cert.ProjectionIdeal.nD Cert.ProjectionIdeal.τ).loc Cert.ProjectionIdeal.main_arg2)
      ∧ m' ((c.tc : Thread Cert.ProjectedIdeal.nD Cert.ProjectedIdeal.τ).loc Cert.ProjectedIdeal.main_arg3) = m ((c.tc : Thread Cert.ProjectionIdeal.nD Cert.ProjectionIdeal.τ).loc Cert.ProjectionIdeal.main_arg3)
      ∧ m' ((c.tc : Thread Cert.ProjectedIdeal.nD Cert.ProjectedIdeal.τ).loc Cert.ProjectedIdeal.main_arg4) = m ((c.tc : Thread Cert.ProjectionIdeal.nD Cert.ProjectionIdeal.τ).loc Cert.ProjectionIdeal.main_arg4)) →
    ∃ (v0 : (c : Dev Cert.ProjectionIdeal.nD) → Buf (Elt Ideal) ((c.tc : Thread Cert.ProjectionIdeal.nD Cert.ProjectionIdeal.τ).loc Cert.ProjectionIdeal.main_v7_0)) (v1 : (c : Dev Cert.ProjectionIdeal.nD) → Buf (Elt Ideal) ((c.tc : Thread Cert.ProjectionIdeal.nD Cert.ProjectionIdeal.τ).loc Cert.ProjectionIdeal.main_v7_1)) (v2 : (c : Dev Cert.ProjectionIdeal.nD) → Buf (Elt Ideal) ((c.tc : Thread Cert.ProjectionIdeal.nD Cert.ProjectionIdeal.τ).loc Cert.ProjectionIdeal.main_v7_2)) (v3 : (c : Dev Cert.ProjectionIdeal.nD) → Buf (Elt Ideal) ((c.tc : Thread Cert.ProjectionIdeal.nD Cert.ProjectionIdeal.τ).loc Cert.ProjectionIdeal.main_v7_3)) (v4 : (c : Dev Cert.ProjectionIdeal.nD) → Buf (Elt Ideal) ((c.tc : Thread Cert.ProjectionIdeal.nD Cert.ProjectionIdeal.τ).loc Cert.ProjectionIdeal.main_v7_4)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v7_0) = v0 c
          ∧ r.2.mem ((c.tc : Thread Cert.ProjectionIdeal.nD Cert.ProjectionIdeal.τ).loc Cert.ProjectionIdeal.main_v7_1) = v1 c
          ∧ r.2.mem ((c.tc : Thread Cert.ProjectionIdeal.nD Cert.ProjectionIdeal.τ).loc Cert.ProjectionIdeal.main_v7_2) = v2 c
          ∧ r.2.mem ((c.tc : Thread Cert.ProjectionIdeal.nD Cert.ProjectionIdeal.τ).loc Cert.ProjectionIdeal.main_v7_3) = v3 c
          ∧ r.2.mem ((c.tc : Thread Cert.ProjectionIdeal.nD Cert.ProjectionIdeal.τ).loc Cert.ProjectionIdeal.main_v7_4) = v4 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2)
          ∧ r.2.mem ((c.tc : Thread Cert.ProjectionIdeal.nD Cert.ProjectionIdeal.τ).loc Cert.ProjectionIdeal.main_arg3) = m ((c.tc : Thread Cert.ProjectionIdeal.nD Cert.ProjectionIdeal.τ).loc Cert.ProjectionIdeal.main_arg3)
          ∧ r.2.mem ((c.tc : Thread Cert.ProjectionIdeal.nD Cert.ProjectionIdeal.τ).loc Cert.ProjectionIdeal.main_arg4) = m ((c.tc : Thread Cert.ProjectionIdeal.nD Cert.ProjectionIdeal.τ).loc Cert.ProjectionIdeal.main_arg4))
      ∧ θ_run (Cert.ProjectedIdeal.defs (F := Ideal)) (onTc (τ := Cert.ProjectedIdeal.τ) (Cert.ProjectedIdeal.main (F := Ideal))) ⟨m', fun _ => 0, g'⟩ (fun r => ∀ c : Dev Cert.ProjectedIdeal.nD,
          r.2.mem ((c.tc : Thread Cert.ProjectedIdeal.nD Cert.ProjectedIdeal.τ).loc Cert.ProjectedIdeal.main_v36) = v0 c
          ∧ r.2.mem ((c.tc : Thread Cert.ProjectedIdeal.nD Cert.ProjectedIdeal.τ).loc Cert.ProjectedIdeal.main_v38) = v1 c
          ∧ r.2.mem ((c.tc : Thread Cert.ProjectedIdeal.nD Cert.ProjectedIdeal.τ).loc Cert.ProjectedIdeal.main_v32) = v2 c
          ∧ r.2.mem ((c.tc : Thread Cert.ProjectedIdeal.nD Cert.ProjectedIdeal.τ).loc Cert.ProjectedIdeal.main_v35) = v3 c
          ∧ r.2.mem ((c.tc : Thread Cert.ProjectedIdeal.nD Cert.ProjectedIdeal.τ).loc Cert.ProjectedIdeal.main_v40) = v4 c
          ∧ r.2.mem ((c.tc : Thread Cert.ProjectedIdeal.nD Cert.ProjectedIdeal.τ).loc Cert.ProjectedIdeal.main_arg0) = m' ((c.tc : Thread Cert.ProjectedIdeal.nD Cert.ProjectedIdeal.τ).loc Cert.ProjectedIdeal.main_arg0)
          ∧ r.2.mem ((c.tc : Thread Cert.ProjectedIdeal.nD Cert.ProjectedIdeal.τ).loc Cert.ProjectedIdeal.main_arg1) = m' ((c.tc : Thread Cert.ProjectedIdeal.nD Cert.ProjectedIdeal.τ).loc Cert.ProjectedIdeal.main_arg1)
          ∧ r.2.mem ((c.tc : Thread Cert.ProjectedIdeal.nD Cert.ProjectedIdeal.τ).loc Cert.ProjectedIdeal.main_arg2) = m' ((c.tc : Thread Cert.ProjectedIdeal.nD Cert.ProjectedIdeal.τ).loc Cert.ProjectedIdeal.main_arg2)
          ∧ r.2.mem ((c.tc : Thread Cert.ProjectedIdeal.nD Cert.ProjectedIdeal.τ).loc Cert.ProjectedIdeal.main_arg3) = m' ((c.tc : Thread Cert.ProjectedIdeal.nD Cert.ProjectedIdeal.τ).loc Cert.ProjectedIdeal.main_arg3)
          ∧ r.2.mem ((c.tc : Thread Cert.ProjectedIdeal.nD Cert.ProjectedIdeal.τ).loc Cert.ProjectedIdeal.main_arg4) = m' ((c.tc : Thread Cert.ProjectedIdeal.nD Cert.ProjectedIdeal.τ).loc Cert.ProjectedIdeal.main_arg4))

def preserves_Merge_MergeIdeal : Prop :=
  True

def algebraic_MergeIdeal_MergedIdeal [hMergeIdeal : Cert.MergeIdeal.Facts] [hMergedIdeal : Cert.MergedIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergedIdeal.nD Cert.MergedIdeal.τ Cert.MergedIdeal.sig) → Buf (Elt Ideal) ℓ) (g' : Dev Cert.MergedIdeal.nD → PrngReg), Pre_MergeIdeal m →
    (∀ c : Dev Cert.MergeIdeal.nD,
      m' ((c.tc : Thread Cert.MergedIdeal.nD Cert.MergedIdeal.τ).loc Cert.MergedIdeal.main_arg0) = m ((c.tc : Thread Cert.MergeIdeal.nD Cert.MergeIdeal.τ).loc Cert.MergeIdeal.main_arg0)
      ∧ m' ((c.tc : Thread Cert.MergedIdeal.nD Cert.MergedIdeal.τ).loc Cert.MergedIdeal.main_arg1) = m ((c.tc : Thread Cert.MergeIdeal.nD Cert.MergeIdeal.τ).loc Cert.MergeIdeal.main_arg1)
      ∧ m' ((c.tc : Thread Cert.MergedIdeal.nD Cert.MergedIdeal.τ).loc Cert.MergedIdeal.main_arg2) = m ((c.tc : Thread Cert.MergeIdeal.nD Cert.MergeIdeal.τ).loc Cert.MergeIdeal.main_arg2)
      ∧ m' ((c.tc : Thread Cert.MergedIdeal.nD Cert.MergedIdeal.τ).loc Cert.MergedIdeal.main_arg3) = m ((c.tc : Thread Cert.MergeIdeal.nD Cert.MergeIdeal.τ).loc Cert.MergeIdeal.main_arg3)
      ∧ m' ((c.tc : Thread Cert.MergedIdeal.nD Cert.MergedIdeal.τ).loc Cert.MergedIdeal.main_arg4) = m ((c.tc : Thread Cert.MergeIdeal.nD Cert.MergeIdeal.τ).loc Cert.MergeIdeal.main_arg4)
      ∧ m' ((c.tc : Thread Cert.MergedIdeal.nD Cert.MergedIdeal.τ).loc Cert.MergedIdeal.main_arg5) = m ((c.tc : Thread Cert.MergeIdeal.nD Cert.MergeIdeal.τ).loc Cert.MergeIdeal.main_arg5)
      ∧ m' ((c.tc : Thread Cert.MergedIdeal.nD Cert.MergedIdeal.τ).loc Cert.MergedIdeal.main_arg6) = m ((c.tc : Thread Cert.MergeIdeal.nD Cert.MergeIdeal.τ).loc Cert.MergeIdeal.main_arg6)
      ∧ m' ((c.tc : Thread Cert.MergedIdeal.nD Cert.MergedIdeal.τ).loc Cert.MergedIdeal.main_arg7) = m ((c.tc : Thread Cert.MergeIdeal.nD Cert.MergeIdeal.τ).loc Cert.MergeIdeal.main_arg7)
      ∧ m' ((c.tc : Thread Cert.MergedIdeal.nD Cert.MergedIdeal.τ).loc Cert.MergedIdeal.main_arg8) = m ((c.tc : Thread Cert.MergeIdeal.nD Cert.MergeIdeal.τ).loc Cert.MergeIdeal.main_arg8)
      ∧ m' ((c.tc : Thread Cert.MergedIdeal.nD Cert.MergedIdeal.τ).loc Cert.MergedIdeal.main_arg9) = m ((c.tc : Thread Cert.MergeIdeal.nD Cert.MergeIdeal.τ).loc Cert.MergeIdeal.main_arg9)
      ∧ m' ((c.tc : Thread Cert.MergedIdeal.nD Cert.MergedIdeal.τ).loc Cert.MergedIdeal.main_arg10) = m ((c.tc : Thread Cert.MergeIdeal.nD Cert.MergeIdeal.τ).loc Cert.MergeIdeal.main_arg10)
      ∧ m' ((c.tc : Thread Cert.MergedIdeal.nD Cert.MergedIdeal.τ).loc Cert.MergedIdeal.main_arg11) = m ((c.tc : Thread Cert.MergeIdeal.nD Cert.MergeIdeal.τ).loc Cert.MergeIdeal.main_arg11)
      ∧ m' ((c.tc : Thread Cert.MergedIdeal.nD Cert.MergedIdeal.τ).loc Cert.MergedIdeal.main_arg12) = m ((c.tc : Thread Cert.MergeIdeal.nD Cert.MergeIdeal.τ).loc Cert.MergeIdeal.main_arg12)
      ∧ m' ((c.tc : Thread Cert.MergedIdeal.nD Cert.MergedIdeal.τ).loc Cert.MergedIdeal.main_arg13) = m ((c.tc : Thread Cert.MergeIdeal.nD Cert.MergeIdeal.τ).loc Cert.MergeIdeal.main_arg13)
      ∧ m' ((c.tc : Thread Cert.MergedIdeal.nD Cert.MergedIdeal.τ).loc Cert.MergedIdeal.main_arg14) = m ((c.tc : Thread Cert.MergeIdeal.nD Cert.MergeIdeal.τ).loc Cert.MergeIdeal.main_arg14)
      ∧ m' ((c.tc : Thread Cert.MergedIdeal.nD Cert.MergedIdeal.τ).loc Cert.MergedIdeal.main_arg15) = m ((c.tc : Thread Cert.MergeIdeal.nD Cert.MergeIdeal.τ).loc Cert.MergeIdeal.main_arg15)
      ∧ m' ((c.tc : Thread Cert.MergedIdeal.nD Cert.MergedIdeal.τ).loc Cert.MergedIdeal.main_arg16) = m ((c.tc : Thread Cert.MergeIdeal.nD Cert.MergeIdeal.τ).loc Cert.MergeIdeal.main_arg16)
      ∧ m' ((c.tc : Thread Cert.MergedIdeal.nD Cert.MergedIdeal.τ).loc Cert.MergedIdeal.main_arg17) = m ((c.tc : Thread Cert.MergeIdeal.nD Cert.MergeIdeal.τ).loc Cert.MergeIdeal.main_arg17)
      ∧ m' ((c.tc : Thread Cert.MergedIdeal.nD Cert.MergedIdeal.τ).loc Cert.MergedIdeal.main_arg18) = m ((c.tc : Thread Cert.MergeIdeal.nD Cert.MergeIdeal.τ).loc Cert.MergeIdeal.main_arg18)
      ∧ m' ((c.tc : Thread Cert.MergedIdeal.nD Cert.MergedIdeal.τ).loc Cert.MergedIdeal.main_arg19) = m ((c.tc : Thread Cert.MergeIdeal.nD Cert.MergeIdeal.τ).loc Cert.MergeIdeal.main_arg19)) →
    ∃ (v0 : (c : Dev Cert.MergeIdeal.nD) → Buf (Elt Ideal) ((c.tc : Thread Cert.MergeIdeal.nD Cert.MergeIdeal.τ).loc Cert.MergeIdeal.main_v12)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v12) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18)
          ∧ r.2.mem ((c.tc : Thread Cert.MergeIdeal.nD Cert.MergeIdeal.τ).loc Cert.MergeIdeal.main_arg19) = m ((c.tc : Thread Cert.MergeIdeal.nD Cert.MergeIdeal.τ).loc Cert.MergeIdeal.main_arg19))
      ∧ θ_run (Cert.MergedIdeal.defs (F := Ideal)) (onTc (τ := Cert.MergedIdeal.τ) (Cert.MergedIdeal.main (F := Ideal))) ⟨m', fun _ => 0, g'⟩ (fun r => ∀ c : Dev Cert.MergedIdeal.nD,
          r.2.mem ((c.tc : Thread Cert.MergedIdeal.nD Cert.MergedIdeal.τ).loc Cert.MergedIdeal.main_v94) = v0 c
          ∧ r.2.mem ((c.tc : Thread Cert.MergedIdeal.nD Cert.MergedIdeal.τ).loc Cert.MergedIdeal.main_arg0) = m' ((c.tc : Thread Cert.MergedIdeal.nD Cert.MergedIdeal.τ).loc Cert.MergedIdeal.main_arg0)
          ∧ r.2.mem ((c.tc : Thread Cert.MergedIdeal.nD Cert.MergedIdeal.τ).loc Cert.MergedIdeal.main_arg1) = m' ((c.tc : Thread Cert.MergedIdeal.nD Cert.MergedIdeal.τ).loc Cert.MergedIdeal.main_arg1)
          ∧ r.2.mem ((c.tc : Thread Cert.MergedIdeal.nD Cert.MergedIdeal.τ).loc Cert.MergedIdeal.main_arg2) = m' ((c.tc : Thread Cert.MergedIdeal.nD Cert.MergedIdeal.τ).loc Cert.MergedIdeal.main_arg2)
          ∧ r.2.mem ((c.tc : Thread Cert.MergedIdeal.nD Cert.MergedIdeal.τ).loc Cert.MergedIdeal.main_arg3) = m' ((c.tc : Thread Cert.MergedIdeal.nD Cert.MergedIdeal.τ).loc Cert.MergedIdeal.main_arg3)
          ∧ r.2.mem ((c.tc : Thread Cert.MergedIdeal.nD Cert.MergedIdeal.τ).loc Cert.MergedIdeal.main_arg4) = m' ((c.tc : Thread Cert.MergedIdeal.nD Cert.MergedIdeal.τ).loc Cert.MergedIdeal.main_arg4)
          ∧ r.2.mem ((c.tc : Thread Cert.MergedIdeal.nD Cert.MergedIdeal.τ).loc Cert.MergedIdeal.main_arg5) = m' ((c.tc : Thread Cert.MergedIdeal.nD Cert.MergedIdeal.τ).loc Cert.MergedIdeal.main_arg5)
          ∧ r.2.mem ((c.tc : Thread Cert.MergedIdeal.nD Cert.MergedIdeal.τ).loc Cert.MergedIdeal.main_arg6) = m' ((c.tc : Thread Cert.MergedIdeal.nD Cert.MergedIdeal.τ).loc Cert.MergedIdeal.main_arg6)
          ∧ r.2.mem ((c.tc : Thread Cert.MergedIdeal.nD Cert.MergedIdeal.τ).loc Cert.MergedIdeal.main_arg7) = m' ((c.tc : Thread Cert.MergedIdeal.nD Cert.MergedIdeal.τ).loc Cert.MergedIdeal.main_arg7)
          ∧ r.2.mem ((c.tc : Thread Cert.MergedIdeal.nD Cert.MergedIdeal.τ).loc Cert.MergedIdeal.main_arg8) = m' ((c.tc : Thread Cert.MergedIdeal.nD Cert.MergedIdeal.τ).loc Cert.MergedIdeal.main_arg8)
          ∧ r.2.mem ((c.tc : Thread Cert.MergedIdeal.nD Cert.MergedIdeal.τ).loc Cert.MergedIdeal.main_arg9) = m' ((c.tc : Thread Cert.MergedIdeal.nD Cert.MergedIdeal.τ).loc Cert.MergedIdeal.main_arg9)
          ∧ r.2.mem ((c.tc : Thread Cert.MergedIdeal.nD Cert.MergedIdeal.τ).loc Cert.MergedIdeal.main_arg10) = m' ((c.tc : Thread Cert.MergedIdeal.nD Cert.MergedIdeal.τ).loc Cert.MergedIdeal.main_arg10)
          ∧ r.2.mem ((c.tc : Thread Cert.MergedIdeal.nD Cert.MergedIdeal.τ).loc Cert.MergedIdeal.main_arg11) = m' ((c.tc : Thread Cert.MergedIdeal.nD Cert.MergedIdeal.τ).loc Cert.MergedIdeal.main_arg11)
          ∧ r.2.mem ((c.tc : Thread Cert.MergedIdeal.nD Cert.MergedIdeal.τ).loc Cert.MergedIdeal.main_arg12) = m' ((c.tc : Thread Cert.MergedIdeal.nD Cert.MergedIdeal.τ).loc Cert.MergedIdeal.main_arg12)
          ∧ r.2.mem ((c.tc : Thread Cert.MergedIdeal.nD Cert.MergedIdeal.τ).loc Cert.MergedIdeal.main_arg13) = m' ((c.tc : Thread Cert.MergedIdeal.nD Cert.MergedIdeal.τ).loc Cert.MergedIdeal.main_arg13)
          ∧ r.2.mem ((c.tc : Thread Cert.MergedIdeal.nD Cert.MergedIdeal.τ).loc Cert.MergedIdeal.main_arg14) = m' ((c.tc : Thread Cert.MergedIdeal.nD Cert.MergedIdeal.τ).loc Cert.MergedIdeal.main_arg14)
          ∧ r.2.mem ((c.tc : Thread Cert.MergedIdeal.nD Cert.MergedIdeal.τ).loc Cert.MergedIdeal.main_arg15) = m' ((c.tc : Thread Cert.MergedIdeal.nD Cert.MergedIdeal.τ).loc Cert.MergedIdeal.main_arg15)
          ∧ r.2.mem ((c.tc : Thread Cert.MergedIdeal.nD Cert.MergedIdeal.τ).loc Cert.MergedIdeal.main_arg16) = m' ((c.tc : Thread Cert.MergedIdeal.nD Cert.MergedIdeal.τ).loc Cert.MergedIdeal.main_arg16)
          ∧ r.2.mem ((c.tc : Thread Cert.MergedIdeal.nD Cert.MergedIdeal.τ).loc Cert.MergedIdeal.main_arg17) = m' ((c.tc : Thread Cert.MergedIdeal.nD Cert.MergedIdeal.τ).loc Cert.MergedIdeal.main_arg17)
          ∧ r.2.mem ((c.tc : Thread Cert.MergedIdeal.nD Cert.MergedIdeal.τ).loc Cert.MergedIdeal.main_arg18) = m' ((c.tc : Thread Cert.MergedIdeal.nD Cert.MergedIdeal.τ).loc Cert.MergedIdeal.main_arg18)
          ∧ r.2.mem ((c.tc : Thread Cert.MergedIdeal.nD Cert.MergedIdeal.τ).loc Cert.MergedIdeal.main_arg19) = m' ((c.tc : Thread Cert.MergedIdeal.nD Cert.MergedIdeal.τ).loc Cert.MergedIdeal.main_arg19))

def preserves_Memory_MemoryIdeal : Prop :=
  True

def algebraic_MemoryIdeal_RememberedIdeal [hMemoryIdeal : Cert.MemoryIdeal.Facts] [hRememberedIdeal : Cert.RememberedIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.RememberedIdeal.nD Cert.RememberedIdeal.τ Cert.RememberedIdeal.sig) → Buf (Elt Ideal) ℓ) (g' : Dev Cert.RememberedIdeal.nD → PrngReg), Pre_MemoryIdeal m →
    (∀ c : Dev Cert.MemoryIdeal.nD,
      m' ((c.tc : Thread Cert.RememberedIdeal.nD Cert.RememberedIdeal.τ).loc Cert.RememberedIdeal.main_arg0) = m ((c.tc : Thread Cert.MemoryIdeal.nD Cert.MemoryIdeal.τ).loc Cert.MemoryIdeal.main_arg0)
      ∧ m' ((c.tc : Thread Cert.RememberedIdeal.nD Cert.RememberedIdeal.τ).loc Cert.RememberedIdeal.main_arg1) = m ((c.tc : Thread Cert.MemoryIdeal.nD Cert.MemoryIdeal.τ).loc Cert.MemoryIdeal.main_arg1)) →
    ∃ (v0 : (c : Dev Cert.MemoryIdeal.nD) → Buf (Elt Ideal) ((c.tc : Thread Cert.MemoryIdeal.nD Cert.MemoryIdeal.τ).loc Cert.MemoryIdeal.main_v3)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v3) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ θ_run (Cert.RememberedIdeal.defs (F := Ideal)) (onTc (τ := Cert.RememberedIdeal.τ) (Cert.RememberedIdeal.main (F := Ideal))) ⟨m', fun _ => 0, g'⟩ (fun r => ∀ c : Dev Cert.RememberedIdeal.nD,
          r.2.mem ((c.tc : Thread Cert.RememberedIdeal.nD Cert.RememberedIdeal.τ).loc Cert.RememberedIdeal.main_v3) = v0 c
          ∧ r.2.mem ((c.tc : Thread Cert.RememberedIdeal.nD Cert.RememberedIdeal.τ).loc Cert.RememberedIdeal.main_arg0) = m' ((c.tc : Thread Cert.RememberedIdeal.nD Cert.RememberedIdeal.τ).loc Cert.RememberedIdeal.main_arg0)
          ∧ r.2.mem ((c.tc : Thread Cert.RememberedIdeal.nD Cert.RememberedIdeal.τ).loc Cert.RememberedIdeal.main_arg1) = m' ((c.tc : Thread Cert.RememberedIdeal.nD Cert.RememberedIdeal.τ).loc Cert.RememberedIdeal.main_arg1))

def Claim : Prop :=
  ∃ (hKernel : Cert.Kernel.Facts) (hKernelIdeal : Cert.KernelIdeal.Facts) (hReferenceIdeal : Cert.ReferenceIdeal.Facts) (hProjection : Cert.Projection.Facts) (hProjectionIdeal : Cert.ProjectionIdeal.Facts) (hProjectedIdeal : Cert.ProjectedIdeal.Facts) (hMerge : Cert.Merge.Facts) (hMergeIdeal : Cert.MergeIdeal.Facts) (hMergedIdeal : Cert.MergedIdeal.Facts) (hMemory : Cert.Memory.Facts) (hMemoryIdeal : Cert.MemoryIdeal.Facts) (hRememberedIdeal : Cert.RememberedIdeal.Facts),
    quiescent_Kernel (hKernel := hKernel)
    ∧ quiescent_KernelIdeal (hKernelIdeal := hKernelIdeal)
    ∧ quiescent_ReferenceIdeal (hReferenceIdeal := hReferenceIdeal)
    ∧ quiescent_Projection (hProjection := hProjection)
    ∧ quiescent_ProjectionIdeal (hProjectionIdeal := hProjectionIdeal)
    ∧ quiescent_ProjectedIdeal (hProjectedIdeal := hProjectedIdeal)
    ∧ quiescent_Merge (hMerge := hMerge)
    ∧ quiescent_MergeIdeal (hMergeIdeal := hMergeIdeal)
    ∧ quiescent_MergedIdeal (hMergedIdeal := hMergedIdeal)
    ∧ quiescent_Memory (hMemory := hMemory)
    ∧ quiescent_MemoryIdeal (hMemoryIdeal := hMemoryIdeal)
    ∧ quiescent_RememberedIdeal (hRememberedIdeal := hRememberedIdeal)
    ∧ preserves_Kernel_KernelIdeal
    ∧ algebraic_KernelIdeal_ReferenceIdeal (hKernelIdeal := hKernelIdeal) (hReferenceIdeal := hReferenceIdeal)
    ∧ preserves_Projection_ProjectionIdeal
    ∧ algebraic_ProjectionIdeal_ProjectedIdeal (hProjectionIdeal := hProjectionIdeal) (hProjectedIdeal := hProjectedIdeal)
    ∧ preserves_Merge_MergeIdeal
    ∧ algebraic_MergeIdeal_MergedIdeal (hMergeIdeal := hMergeIdeal) (hMergedIdeal := hMergedIdeal)
    ∧ preserves_Memory_MemoryIdeal
    ∧ algebraic_MemoryIdeal_RememberedIdeal (hMemoryIdeal := hMemoryIdeal) (hRememberedIdeal := hRememberedIdeal)
-- ==== Kernel.lean ====
abbrev S32768x2304 : Shape := ⟨2, ![32768, 2304]⟩
abbrev S32x12 : Shape := ⟨2, ![32, 12]⟩
abbrev S32x4 : Shape := ⟨2, ![32, 4]⟩
abbrev S384 : Shape := ⟨1, ![384]⟩
abbrev S1x384 : Shape := ⟨2, ![1, 384]⟩
abbrev S_ : Shape := ⟨0, ![]⟩
abbrev S256 : Shape := ⟨1, ![256]⟩
abbrev S256x1 : Shape := ⟨2, ![256, 1]⟩
abbrev S256x384 : Shape := ⟨2, ![256, 384]⟩
abbrev S1x1x256x384 : Shape := ⟨4, ![1, 1, 256, 384]⟩
abbrev S32 : Shape := ⟨1, ![32]⟩
abbrev S32x1x1x1 : Shape := ⟨4, ![32, 1, 1, 1]⟩
abbrev S32x1x256x384 : Shape := ⟨4, ![32, 1, 256, 384]⟩
abbrev S32x4x1x1 : Shape := ⟨4, ![32, 4, 1, 1]⟩
abbrev S32x4x256x384 : Shape := ⟨4, ![32, 4, 256, 384]⟩
abbrev S4x256x384 : Shape := ⟨3, ![4, 256, 384]⟩
abbrev S1x256x384 : Shape := ⟨3, ![1, 256, 384]⟩
abbrev S32768x256 : Shape := ⟨2, ![32768, 256]⟩
abbrev S2x16384x1x256 : Shape := ⟨4, ![2, 16384, 1, 256]⟩
abbrev S2x1x16384x256 : Shape := ⟨4, ![2, 1, 16384, 256]⟩
abbrev S2x16384x256 : Shape := ⟨3, ![2, 16384, 256]⟩
abbrev S2x16512x256 : Shape := ⟨3, ![2, 16512, 256]⟩
abbrev S1x256x256 : Shape := ⟨3, ![1, 256, 256]⟩
abbrev S1x16512x256 : Shape := ⟨3, ![1, 16512, 256]⟩
abbrev S1x384x256 : Shape := ⟨3, ![1, 384, 256]⟩
abbrev S384x256 : Shape := ⟨2, ![384, 256]⟩
abbrev S1x256x64 : Shape := ⟨3, ![1, 256, 64]⟩
abbrev S256x64 : Shape := ⟨2, ![256, 64]⟩
abbrev S384x64 : Shape := ⟨2, ![384, 64]⟩

abbrev nBuf : Space → Nat
  | .hbm => 98
  | .vmem => 13
  | .smem => 0
  | _ => 0

abbrev bufTy : (tb : Table) → Fin (tcTables nBuf tb) → BufTy
  | .hbm, ⟨0, _⟩ => ⟨S32768x2304, .bf16⟩
  | .hbm, ⟨1, _⟩ => ⟨S32x12, .f32⟩
  | .hbm, ⟨2, _⟩ => ⟨S32x4, .f32⟩
  | .hbm, ⟨3, _⟩ => ⟨S384, .i32⟩
  | .hbm, ⟨4, _⟩ => ⟨S1x384, .i32⟩
  | .hbm, ⟨5, _⟩ => ⟨S_, .i32⟩
  | .hbm, ⟨6, _⟩ => ⟨S1x384, .i32⟩
  | .hbm, ⟨7, _⟩ => ⟨S1x384, .i32⟩
  | .hbm, ⟨8, _⟩ => ⟨S256, .i32⟩
  | .hbm, ⟨9, _⟩ => ⟨S256x1, .i32⟩
  | .hbm, ⟨10, _⟩ => ⟨S256x384, .i32⟩
  | .hbm, ⟨11, _⟩ => ⟨S256x384, .i32⟩
  | .hbm, ⟨12, _⟩ => ⟨S256x384, .i32⟩
  | .hbm, ⟨13, _⟩ => ⟨S256x384, .i32⟩
  | .hbm, ⟨14, _⟩ => ⟨S_, .i32⟩
  | .hbm, ⟨15, _⟩ => ⟨S256x384, .i32⟩
  | .hbm, ⟨16, _⟩ => ⟨S256x384, .i1⟩
  | .hbm, ⟨17, _⟩ => ⟨S_, .i32⟩
  | .hbm, ⟨18, _⟩ => ⟨S256x384, .i32⟩
  | .hbm, ⟨19, _⟩ => ⟨S256x384, .i32⟩
  | .hbm, ⟨20, _⟩ => ⟨S_, .i32⟩
  | .hbm, ⟨21, _⟩ => ⟨S256x384, .i32⟩
  | .hbm, ⟨22, _⟩ => ⟨S256x384, .i1⟩
  | .hbm, ⟨23, _⟩ => ⟨S_, .i32⟩
  | .hbm, ⟨24, _⟩ => ⟨S_, .i32⟩
  | .hbm, ⟨25, _⟩ => ⟨S256x384, .i32⟩
  | .hbm, ⟨26, _⟩ => ⟨S256x384, .i32⟩
  | .hbm, ⟨27, _⟩ => ⟨S256x384, .i32⟩
  | .hbm, ⟨28, _⟩ => ⟨S256x384, .i32⟩
  | .hbm, ⟨29, _⟩ => ⟨S_, .i32⟩
  | .hbm, ⟨30, _⟩ => ⟨S256x384, .i32⟩
  | .hbm, ⟨31, _⟩ => ⟨S256x384, .i32⟩
  | .hbm, ⟨32, _⟩ => ⟨S256x384, .f32⟩
  | .hbm, ⟨33, _⟩ => ⟨S_, .f32⟩
  | .hbm, ⟨34, _⟩ => ⟨S256x384, .f32⟩
  | .hbm, ⟨35, _⟩ => ⟨S256x384, .f32⟩
  | .hbm, ⟨36, _⟩ => ⟨S256x384, .f32⟩
  | .hbm, ⟨37, _⟩ => ⟨S_, .f32⟩
  | .hbm, ⟨38, _⟩ => ⟨S256x384, .f32⟩
  | .hbm, ⟨39, _⟩ => ⟨S256x384, .f32⟩
  | .hbm, ⟨40, _⟩ => ⟨S_, .f32⟩
  | .hbm, ⟨41, _⟩ => ⟨S256x384, .f32⟩
  | .hbm, ⟨42, _⟩ => ⟨S256x384, .f32⟩
  | .hbm, ⟨43, _⟩ => ⟨S256x384, .i32⟩
  | .hbm, ⟨44, _⟩ => ⟨S_, .i32⟩
  | .hbm, ⟨45, _⟩ => ⟨S256x384, .i32⟩
  | .hbm, ⟨46, _⟩ => ⟨S256x384, .i32⟩
  | .hbm, ⟨47, _⟩ => ⟨S_, .i32⟩
  | .hbm, ⟨48, _⟩ => ⟨S256x384, .i32⟩
  | .hbm, ⟨49, _⟩ => ⟨S256x384, .i32⟩
  | .hbm, ⟨50, _⟩ => ⟨S_, .i32⟩
  | .hbm, ⟨51, _⟩ => ⟨S256x384, .i32⟩
  | .hbm, ⟨52, _⟩ => ⟨S256x384, .i1⟩
  | .hbm, ⟨53, _⟩ => ⟨S256x384, .i32⟩
  | .hbm, ⟨54, _⟩ => ⟨S256x384, .i32⟩
  | .hbm, ⟨55, _⟩ => ⟨S256x384, .i32⟩
  | .hbm, ⟨56, _⟩ => ⟨S1x1x256x384, .i32⟩
  | .hbm, ⟨57, _⟩ => ⟨S32, .i32⟩
  | .hbm, ⟨58, _⟩ => ⟨S32x1x1x1, .i32⟩
  | .hbm, ⟨59, _⟩ => ⟨S32x1x256x384, .i32⟩
  | .hbm, ⟨60, _⟩ => ⟨S32x1x256x384, .i32⟩
  | .hbm, ⟨61, _⟩ => ⟨S32x1x256x384, .i1⟩
  | .hbm, ⟨62, _⟩ => ⟨S32x4x1x1, .f32⟩
  | .hbm, ⟨63, _⟩ => ⟨S_, .f32⟩
  | .hbm, ⟨64, _⟩ => ⟨S_, .f32⟩
  | .hbm, ⟨65, _⟩ => ⟨S32x4x256x384, .i1⟩
  | .hbm, ⟨66, _⟩ => ⟨S32x4x256x384, .f32⟩
  | .hbm, ⟨67, _⟩ => ⟨S32x4x256x384, .f32⟩
  | .hbm, ⟨68, _⟩ => ⟨S32x4x256x384, .f32⟩
  | .hbm, ⟨69, _⟩ => ⟨S_, .f32⟩
  | .hbm, ⟨70, _⟩ => ⟨S4x256x384, .f32⟩
  | .hbm, ⟨71, _⟩ => ⟨S1x256x384, .i1⟩
  | .hbm, ⟨72, _⟩ => ⟨S_, .f32⟩
  | .hbm, ⟨73, _⟩ => ⟨S_, .f32⟩
  | .hbm, ⟨74, _⟩ => ⟨S4x256x384, .i1⟩
  | .hbm, ⟨75, _⟩ => ⟨S4x256x384, .f32⟩
  | .hbm, ⟨76, _⟩ => ⟨S4x256x384, .f32⟩
  | .hbm, ⟨77, _⟩ => ⟨S32768x256, .bf16⟩
  | .hbm, ⟨78, _⟩ => ⟨S2x16384x1x256, .bf16⟩
  | .hbm, ⟨79, _⟩ => ⟨S2x1x16384x256, .bf16⟩
  | .hbm, ⟨80, _⟩ => ⟨S2x16384x256, .bf16⟩
  | .hbm, ⟨81, _⟩ => ⟨S32768x256, .bf16⟩
  | .hbm, ⟨82, _⟩ => ⟨S2x16384x1x256, .bf16⟩
  | .hbm, ⟨83, _⟩ => ⟨S2x1x16384x256, .bf16⟩
  | .hbm, ⟨84, _⟩ => ⟨S2x16384x256, .bf16⟩
  | .hbm, ⟨85, _⟩ => ⟨S_, .i32⟩
  | .hbm, ⟨86, _⟩ => ⟨S_, .bf16⟩
  | .hbm, ⟨87, _⟩ => ⟨S2x16512x256, .bf16⟩
  | .hbm, ⟨88, _⟩ => ⟨S32768x256, .bf16⟩
  | .hbm, ⟨89, _⟩ => ⟨S2x16384x1x256, .bf16⟩
  | .hbm, ⟨90, _⟩ => ⟨S2x1x16384x256, .bf16⟩
  | .hbm, ⟨91, _⟩ => ⟨S2x16384x256, .bf16⟩
  | .hbm, ⟨92, _⟩ => ⟨S_, .i32⟩
  | .hbm, ⟨93, _⟩ => ⟨S_, .bf16⟩
  | .hbm, ⟨94, _⟩ => ⟨S2x16512x256, .bf16⟩
  | .hbm, ⟨95, _⟩ => ⟨S2x16384x256, .f32⟩
  | .hbm, ⟨96, _⟩ => ⟨S2x16384x256, .f32⟩
  | .hbm, ⟨97, _⟩ => ⟨S2x16384x256, .f32⟩
  | .local _ .vmem, ⟨0, _⟩ => ⟨S1x256x256, .bf16⟩
  | .local _ .vmem, ⟨1, _⟩ => ⟨S1x256x256, .bf16⟩
  | .local _ .vmem, ⟨2, _⟩ => ⟨S1x16512x256, .bf16⟩
  | .local _ .vmem, ⟨3, _⟩ => ⟨S1x16512x256, .bf16⟩
  | .local _ .vmem, ⟨4, _⟩ => ⟨S1x16512x256, .bf16⟩
  | .local _ .vmem, ⟨5, _⟩ => ⟨S1x16512x256, .bf16⟩
  | .local _ .vmem, ⟨6, _⟩ => ⟨S4x256x384, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | _, _ => ⟨S32768x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_c_4 : Ref sig .tc := ⟨.hbm, 24, rfl⟩
abbrev main_call0_v0 : Ref sig .tc := ⟨.hbm, 25, rfl⟩
abbrev main_call0_v1 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_8 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_c_10 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_cst_13 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_14 : Ref sig .tc := ⟨.hbm, 85, rfl⟩
abbrev main_call4_v0 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_call5_v0 : Ref sig .tc := ⟨.hbm, 93, rfl⟩
abbrev main_v63 : Ref sig .tc := ⟨.hbm, 94, rfl⟩
abbrev main_v64_0 : Ref sig .tc := ⟨.hbm, 95, rfl⟩
abbrev main_v64_1 : Ref sig .tc := ⟨.hbm, 96, rfl⟩
abbrev main_v64_2 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 3 → Nat :=
  let c0 : Index := 0#32
  let arg1 : BitVec 32 := BitVec.ofNat 32 (i 1).val
  let c256_i32 : BitVec 32 := 256#32
  let v0 : BitVec 32 := Scalar.muli arg1 c256_i32
  let v1 : BitVec 32 := v0
  let v2 : Index := Scalar.indexCast v1
  let c0_0 : Index := 0#32
  ![0, v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x256x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x2304 : Shape := ⟨2, ![32768, 2304]⟩
abbrev S32x12 : Shape := ⟨2, ![32, 12]⟩
abbrev S2x16384x3x3x4x64 : Shape := ⟨6, ![2, 16384, 3, 3, 4, 64]⟩
abbrev S2x16384x1x1x4x64 : Shape := ⟨6, ![2, 16384, 1, 1, 4, 64]⟩
abbrev S2x16384x4x64 : Shape := ⟨4, ![2, 16384, 4, 64]⟩
abbrev S32x4 : Shape := ⟨2, ![32, 4]⟩
abbrev S2x16384x1x4x64 : Shape := ⟨5, ![2, 16384, 1, 4, 64]⟩
abbrev S2x256x64x1x4x64 : Shape := ⟨6, ![2, 256, 64, 1, 4, 64]⟩
abbrev S_ : Shape := ⟨0, ![]⟩
abbrev S2x16512x1x4x64 : Shape := ⟨5, ![2, 16512, 1, 4, 64]⟩
abbrev S2x258x64x1x4x64 : Shape := ⟨6, ![2, 258, 64, 1, 4, 64]⟩
abbrev S2x256x192x1x4x64 : Shape := ⟨6, ![2, 256, 192, 1, 4, 64]⟩
abbrev S2x256x1x4x64x192 : Shape := ⟨6, ![2, 256, 1, 4, 64, 192]⟩
abbrev S192 : Shape := ⟨1, ![192]⟩
abbrev S1x192 : Shape := ⟨2, ![1, 192]⟩
abbrev S64 : Shape := ⟨1, ![64]⟩
abbrev S64x1 : Shape := ⟨2, ![64, 1]⟩
abbrev S64x192 : Shape := ⟨2, ![64, 192]⟩
abbrev S256 : Shape := ⟨1, ![256]⟩
abbrev S256x1 : Shape := ⟨2, ![256, 1]⟩
abbrev S256x192 : Shape := ⟨2, ![256, 192]⟩
abbrev S1x64x192 : Shape := ⟨3, ![1, 64, 192]⟩
abbrev S256x1x192 : Shape := ⟨3, ![256, 1, 192]⟩
abbrev S256x64x192 : Shape := ⟨3, ![256, 64, 192]⟩
abbrev S64x192x1 : Shape := ⟨3, ![64, 192, 1]⟩
abbrev S64x192x4 : Shape := ⟨3, ![64, 192, 4]⟩
abbrev S4x64x192 : Shape := ⟨3, ![4, 64, 192]⟩
abbrev S1x256x1x1x64x192 : Shape := ⟨6, ![1, 256, 1, 1, 64, 192]⟩
abbrev S1x1x1x4x64x192 : Shape := ⟨6, ![1, 1, 1, 4, 64, 192]⟩
abbrev S2x256x1x4x64 : Shape := ⟨5, ![2, 256, 1, 4, 64]⟩
abbrev S2x256x1x4x64x1 : Shape := ⟨6, ![2, 256, 1, 4, 64, 1]⟩
abbrev S2x256x1x4x64x64 : Shape := ⟨6, ![2, 256, 1, 4, 64, 64]⟩
abbrev S2x16384x1x256 : Shape := ⟨4, ![2, 16384, 1, 256]⟩
abbrev S2x1x16384x256 : Shape := ⟨4, ![2, 1, 16384, 256]⟩
abbrev S2x16384x256 : Shape := ⟨3, ![2, 16384, 256]⟩
abbrev S2x256x64x1x4 : Shape := ⟨5, ![2, 256, 64, 1, 4]⟩
abbrev S2x256x64x1x4x1 : Shape := ⟨6, ![2, 256, 64, 1, 4, 1]⟩

abbrev nBuf : Space → Nat
  | .hbm => 158
  | .vmem => 0
  | .smem => 0
  | _ => 0

abbrev hbmTy0_0 (i : Nat) : BufTy := match i % 128 with
  | 0 => ⟨S32768x2304, .bf16⟩
  | 1 => ⟨S32x12, .f32⟩
  | 2 => ⟨S32768x2304, .f32⟩
  | 3 => ⟨S2x16384x3x3x4x64, .f32⟩
  | 4 => ⟨S2x16384x1x1x4x64, .f32⟩
  | 5 => ⟨S2x16384x4x64, .f32⟩
  | 6 => ⟨S2x16384x1x1x4x64, .f32⟩
  | 7 => ⟨S2x16384x4x64, .f32⟩
  | 8 => ⟨S2x16384x1x1x4x64, .f32⟩
  | 9 => ⟨S2x16384x4x64, .f32⟩
  | 10 => ⟨S32x4, .f32⟩
  | 11 => ⟨S2x16384x1x4x64, .f32⟩
  | 12 => ⟨S2x256x64x1x4x64, .f32⟩
  | 13 => ⟨S2x16384x1x4x64, .f32⟩
  | 14 => ⟨S_, .i32⟩
  | 15 => ⟨S_, .f32⟩
  | 16 => ⟨S2x16512x1x4x64, .f32⟩
  | 17 => ⟨S2x258x64x1x4x64, .f32⟩
  | 18 => ⟨S2x256x64x1x4x64, .f32⟩
  | 19 => ⟨S2x256x64x1x4x64, .f32⟩
  | 20 => ⟨S2x256x64x1x4x64, .f32⟩
  | 21 => ⟨S2x256x192x1x4x64, .f32⟩
  | 22 => ⟨S2x16384x1x4x64, .f32⟩
  | 23 => ⟨S_, .i32⟩
  | 24 => ⟨S_, .f32⟩
  | 25 => ⟨S2x16512x1x4x64, .f32⟩
  | 26 => ⟨S2x258x64x1x4x64, .f32⟩
  | 27 => ⟨S2x256x64x1x4x64, .f32⟩
  | 28 => ⟨S2x256x64x1x4x64, .f32⟩
  | 29 => ⟨S2x256x64x1x4x64, .f32⟩
  | 30 => ⟨S2x256x192x1x4x64, .f32⟩
  | 31 => ⟨S2x256x1x4x64x192, .f32⟩
  | 32 => ⟨S_, .f32⟩
  | 33 => ⟨S2x256x1x4x64x192, .f32⟩
  | 34 => ⟨S2x256x1x4x64x192, .f32⟩
  | 35 => ⟨S192, .i32⟩
  | 36 => ⟨S1x192, .i32⟩
  | 37 => ⟨S_, .i32⟩
  | 38 => ⟨S1x192, .i32⟩
  | 39 => ⟨S1x192, .i32⟩
  | 40 => ⟨S64, .i32⟩
  | 41 => ⟨S64x1, .i32⟩
  | 42 => ⟨S64x192, .i32⟩
  | 43 => ⟨S64x192, .i32⟩
  | 44 => ⟨S64x192, .i32⟩
  | 45 => ⟨S64x192, .i32⟩
  | 46 => ⟨S_, .i32⟩
  | 47 => ⟨S64x192, .i32⟩
  | 48 => ⟨S64x192, .i1⟩
  | 49 => ⟨S256, .i32⟩
  | 50 => ⟨S256x1, .i32⟩
  | 51 => ⟨S_, .i32⟩
  | 52 => ⟨S256x1, .i32⟩
  | 53 => ⟨S256x1, .i32⟩
  | 54 => ⟨S192, .i32⟩
  | 55 => ⟨S1x192, .i32⟩
  | 56 => ⟨S256x192, .i32⟩
  | 57 => ⟨S256x192, .i32⟩
  | 58 => ⟨S256x192, .i32⟩
  | 59 => ⟨S_, .i32⟩
  | 60 => ⟨S256x192, .i32⟩
  | 61 => ⟨S256x192, .i32⟩
  | 62 => ⟨S_, .i32⟩
  | 63 => ⟨S256x192, .i32⟩
  | 64 => ⟨S256x192, .i1⟩
  | 65 => ⟨S_, .i32⟩
  | 66 => ⟨S256x192, .i32⟩
  | 67 => ⟨S256x192, .i1⟩
  | 68 => ⟨S256x192, .i1⟩
  | 69 => ⟨S1x64x192, .i1⟩
  | 70 => ⟨S256x1x192, .i1⟩
  | 71 => ⟨S256x64x192, .i1⟩
  | 72 => ⟨S256x64x192, .i1⟩
  | 73 => ⟨S256x64x192, .i1⟩
  | 74 => ⟨S_, .i32⟩
  | 75 => ⟨S64x192, .i32⟩
  | 76 => ⟨S64x192, .i32⟩
  | 77 => ⟨S_, .i32⟩
  | 78 => ⟨S64x192, .i32⟩
  | 79 => ⟨S64x192, .i1⟩
  | 80 => ⟨S_, .i32⟩
  | 81 => ⟨S_, .i32⟩
  | 82 => ⟨S64x192, .i32⟩
  | 83 => ⟨S64x192, .i32⟩
  | 84 => ⟨S64x192, .i32⟩
  | 85 => ⟨S64x192, .i32⟩
  | 86 => ⟨S_, .i32⟩
  | 87 => ⟨S64x192, .i32⟩
  | 88 => ⟨S64x192, .i32⟩
  | 89 => ⟨S64x192, .f32⟩
  | 90 => ⟨S_, .f32⟩
  | 91 => ⟨S64x192, .f32⟩
  | 92 => ⟨S64x192, .f32⟩
  | 93 => ⟨S64x192, .f32⟩
  | 94 => ⟨S_, .f32⟩
  | 95 => ⟨S64x192, .f32⟩
  | 96 => ⟨S64x192, .f32⟩
  | 97 => ⟨S_, .f32⟩
  | 98 => ⟨S64x192, .f32⟩
  | 99 => ⟨S64x192, .f32⟩
  | 100 => ⟨S64x192, .i32⟩
  | 101 => ⟨S_, .i32⟩
  | 102 => ⟨S64x192, .i32⟩
  | 103 => ⟨S64x192, .i32⟩
  | 104 => ⟨S_, .i32⟩
  | 105 => ⟨S64x192, .i32⟩
  | 106 => ⟨S64x192, .i32⟩
  | 107 => ⟨S_, .i32⟩
  | 108 => ⟨S64x192, .i32⟩
  | 109 => ⟨S64x192, .i1⟩
  | 110 => ⟨S64x192, .i32⟩
  | 111 => ⟨S64x192, .i32⟩
  | 112 => ⟨S64x192, .i32⟩
  | 113 => ⟨S_, .i32⟩
  | 114 => ⟨S64x192, .i32⟩
  | 115 => ⟨S64x192, .i1⟩
  | 116 => ⟨S_, .i32⟩
  | 117 => ⟨S64x192, .i32⟩
  | 118 => ⟨S64x192, .i32⟩
  | 119 => ⟨S64x192, .i32⟩
  | 120 => ⟨S64x192x1, .i32⟩
  | 121 => ⟨S64x192x4, .f32⟩
  | 122 => ⟨S4x64x192, .f32⟩
  | 123 => ⟨S1x256x1x1x64x192, .i1⟩
  | 124 => ⟨S1x1x1x4x64x192, .f32⟩
  | 125 => ⟨S2x256x1x4x64x192, .f32⟩
  | 126 => ⟨S2x256x1x4x64x192, .f32⟩
  | 127 => ⟨S_, .f32⟩
  | _ => ⟨S32768x2304, .bf16⟩

abbrev hbmTy0_1 (i : Nat) : BufTy := match i % 128 with
  | 0 => ⟨S_, .f32⟩
  | 1 => ⟨S2x256x1x4x64x192, .i1⟩
  | 2 => ⟨S2x256x1x4x64x192, .f32⟩
  | 3 => ⟨S2x256x1x4x64x192, .f32⟩
  | 4 => ⟨S_, .f32⟩
  | 5 => ⟨S2x256x1x4x64, .f32⟩
  | 6 => ⟨S2x256x1x4x64x1, .f32⟩
  | 7 => ⟨S2x256x1x4x64x192, .f32⟩
  | 8 => ⟨S2x256x1x4x64x192, .f32⟩
  | 9 => ⟨S2x256x1x4x64x192, .f32⟩
  | 10 => ⟨S_, .f32⟩
  | 11 => ⟨S2x256x1x4x64, .f32⟩
  | 12 => ⟨S2x256x1x4x64x64, .f32⟩
  | 13 => ⟨S2x256x64x1x4x64, .f32⟩
  | 14 => ⟨S2x256x1x4x64, .f32⟩
  | 15 => ⟨S2x16384x1x256, .f32⟩
  | 16 => ⟨S2x1x16384x256, .f32⟩
  | 17 => ⟨S2x16384x256, .f32⟩
  | 18 => ⟨S2x256x64x1x4, .f32⟩
  | 19 => ⟨S2x256x64x1x4x1, .f32⟩
  | 20 => ⟨S2x256x64x1x4x64, .f32⟩
  | 21 => ⟨S2x16384x1x256, .f32⟩
  | 22 => ⟨S2x1x16384x256, .f32⟩
  | 23 => ⟨S2x16384x256, .f32⟩
  | 24 => ⟨S2x256x64x1x4, .f32⟩
  | 25 => ⟨S2x256x64x1x4x1, .f32⟩
  | 26 => ⟨S2x256x64x1x4x64, .f32⟩
  | 27 => ⟨S2x16384x1x256, .f32⟩
  | 28 => ⟨S2x1x16384x256, .f32⟩
  | 29 => ⟨S2x16384x256, .f32⟩
  | _ => ⟨S32768x2304, .bf16⟩

abbrev hbmTy (i : Nat) : BufTy := match i / 128 with
  | 0 => hbmTy0_0 i
  | 1 => hbmTy0_1 i
  | _ => ⟨S32768x2304, .bf16⟩

abbrev bufTy : (tb : Table) → Fin (tcTables nBuf tb) → BufTy
  | .hbm, ⟨i, _⟩ => hbmTy i
  | _, _ => ⟨S32768x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_call1_v0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_1 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_c_2 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c_3 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_4 : Ref sig .tc := ⟨.hbm, 59, rfl⟩
abbrev main_v49 : Ref sig .tc := ⟨.hbm, 60, rfl⟩
abbrev main_v50 : Ref sig .tc := ⟨.hbm, 61, rfl⟩
abbrev main_c_5 : Ref sig .tc := ⟨.hbm, 62, rfl⟩
abbrev main_v51 : Ref sig .tc := ⟨.hbm, 63, rfl⟩
abbrev main_v52 : Ref sig .tc := ⟨.hbm, 64, rfl⟩
abbrev main_c_6 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_c_7 : Ref sig .tc := ⟨.hbm, 74, rfl⟩
abbrev main_v61 : Ref sig .tc := ⟨.hbm, 75, rfl⟩
abbrev main_v62 : Ref sig .tc := ⟨.hbm, 76, rfl⟩
abbrev main_c_8 : Ref sig .tc := ⟨.hbm, 77, rfl⟩
abbrev main_v63 : Ref sig .tc := ⟨.hbm, 78, rfl⟩
abbrev main_v64 : Ref sig .tc := ⟨.hbm, 79, rfl⟩
abbrev main_c_9 : Ref sig .tc := ⟨.hbm, 80, rfl⟩
abbrev main_c_10 : Ref sig .tc := ⟨.hbm, 81, rfl⟩
abbrev main_call2_v0 : Ref sig .tc := ⟨.hbm, 82, rfl⟩
abbrev main_call2_v1 : Ref sig .tc := ⟨.hbm, 83, rfl⟩
abbrev main_v65 : Ref sig .tc := ⟨.hbm, 84, rfl⟩
abbrev main_v66 : Ref sig .tc := ⟨.hbm, 85, rfl⟩
abbrev main_c_11 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_12 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_13 : Ref sig .tc := ⟨.hbm, 94, rfl⟩
abbrev main_v73 : Ref sig .tc := ⟨.hbm, 95, rfl⟩
abbrev main_v74 : Ref sig .tc := ⟨.hbm, 96, rfl⟩
abbrev main_cst_14 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_15 : Ref sig .tc := ⟨.hbm, 101, rfl⟩
abbrev main_v78 : Ref sig .tc := ⟨.hbm, 102, rfl⟩
abbrev main_v79 : Ref sig .tc := ⟨.hbm, 103, rfl⟩
abbrev main_c_16 : Ref sig .tc := ⟨.hbm, 104, rfl⟩
abbrev main_v80 : Ref sig .tc := ⟨.hbm, 105, rfl⟩
abbrev main_v81 : Ref sig .tc := ⟨.hbm, 106, rfl⟩
abbrev main_c_17 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_c_18 : Ref sig .tc := ⟨.hbm, 113, rfl⟩
abbrev main_v87 : Ref sig .tc := ⟨.hbm, 114, rfl⟩
abbrev main_v88 : Ref sig .tc := ⟨.hbm, 115, rfl⟩
abbrev main_c_19 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_20 : Ref sig .tc := ⟨.hbm, 127, rfl⟩
abbrev main_call4_v0 : Ref sig .tc := ⟨.hbm, 128, rfl⟩
abbrev main_call4_v1 : Ref sig .tc := ⟨.hbm, 129, rfl⟩
abbrev main_call4_v2 : Ref sig .tc := ⟨.hbm, 130, rfl⟩
abbrev main_v99 : Ref sig .tc := ⟨.hbm, 131, rfl⟩
abbrev main_cst_21 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_22 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩

abbrev nD : Nat := 1
abbrev τ : Topo := Topo.v7x

variable {F : FTy → Type} [FloatOps F]
-- ==== Projection.lean ====
abbrev S2x16384x1024 : Shape := ⟨3, ![2, 16384, 1024]⟩
abbrev S1024 : Shape := ⟨1, ![1024]⟩
abbrev S1x1024x6400 : Shape := ⟨3, ![1, 1024, 6400]⟩
abbrev S1x6400 : Shape := ⟨2, ![1, 6400]⟩
abbrev S32768x1024 : Shape := ⟨2, ![32768, 1024]⟩
abbrev S1x1024 : Shape := ⟨2, ![1, 1024]⟩
abbrev S1024x6400 : Shape := ⟨2, ![1024, 6400]⟩
abbrev S6400 : Shape := ⟨1, ![6400]⟩
abbrev S32768x512 : Shape := ⟨2, ![32768, 512]⟩
abbrev S32768x2304 : Shape := ⟨2, ![32768, 2304]⟩
abbrev S32768x3072 : Shape := ⟨2, ![32768, 3072]⟩
abbrev S256x1024 : Shape := ⟨2, ![256, 1024]⟩
abbrev S256x512 : Shape := ⟨2, ![256, 512]⟩
abbrev S256x2304 : Shape := ⟨2, ![256, 2304]⟩
abbrev S256x3072 : Shape := ⟨2, ![256, 3072]⟩
abbrev S256 : Shape := ⟨1, ![256]⟩
abbrev S256x1 : Shape := ⟨2, ![256, 1]⟩
abbrev S1024x512 : Shape := ⟨2, ![1024, 512]⟩
abbrev S1x512 : Shape := ⟨2, ![1, 512]⟩
abbrev S1024x768 : Shape := ⟨2, ![1024, 768]⟩
abbrev S256x768 : Shape := ⟨2, ![256, 768]⟩
abbrev S1x768 : Shape := ⟨2, ![1, 768]⟩

abbrev nBuf : Space → Nat
  | .hbm => 17
  | .vmem => 16
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024, .f32⟩
  | .hbm, ⟨3, _⟩ => ⟨S1x1024x6400, .f32⟩
  | .hbm, ⟨4, _⟩ => ⟨S1x6400, .f32⟩
  | .hbm, ⟨5, _⟩ => ⟨S32768x1024, .f32⟩
  | .hbm, ⟨6, _⟩ => ⟨S1x1024, .f32⟩
  | .hbm, ⟨7, _⟩ => ⟨S1x1024, .f32⟩
  | .hbm, ⟨8, _⟩ => ⟨S1024x6400, .f32⟩
  | .hbm, ⟨9, _⟩ => ⟨S1024x6400, .bf16⟩
  | .hbm, ⟨10, _⟩ => ⟨S6400, .f32⟩
  | .hbm, ⟨11, _⟩ => ⟨S1x6400, .f32⟩
  | .hbm, ⟨12, _⟩ => ⟨S32768x1024, .f32⟩
  | .hbm, ⟨13, _⟩ => ⟨S32768x512, .f32⟩
  | .hbm, ⟨14, _⟩ => ⟨S32768x2304, .bf16⟩
  | .hbm, ⟨15, _⟩ => ⟨S32768x512, .bf16⟩
  | .hbm, ⟨16, _⟩ => ⟨S32768x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x6400, .bf16⟩
  | .local _ .vmem, ⟨5, _⟩ => ⟨S1x6400, .f32⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S256x2304, .bf16⟩
  | .local _ .vmem, ⟨11, _⟩ => ⟨S256x2304, .bf16⟩
  | .local _ .vmem, ⟨12, _⟩ => ⟨S256x512, .bf16⟩
  | .local _ .vmem, ⟨13, _⟩ => ⟨S256x512, .bf16⟩
  | .local _ .vmem, ⟨14, _⟩ => ⟨S256x3072, .f32⟩
  | .local _ .vmem, ⟨15, _⟩ => ⟨S256x3072, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6400 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6400 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2304 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjectedIdeal.lean ====
abbrev S2x16384x1024 : Shape := ⟨3, ![2, 16384, 1024]⟩
abbrev S1024 : Shape := ⟨1, ![1024]⟩
abbrev S1x1024x6400 : Shape := ⟨3, ![1, 1024, 6400]⟩
abbrev S1x6400 : Shape := ⟨2, ![1, 6400]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1024x6400 : Shape := ⟨2, ![1024, 6400]⟩
abbrev S2x16384x6400 : Shape := ⟨3, ![2, 16384, 6400]⟩
abbrev S6400 : Shape := ⟨1, ![6400]⟩
abbrev S1x1x6400 : Shape := ⟨3, ![1, 1, 6400]⟩
abbrev S2x16384x2304 : Shape := ⟨3, ![2, 16384, 2304]⟩
abbrev S32768x2304 : Shape := ⟨2, ![32768, 2304]⟩
abbrev S2x16384x512 : Shape := ⟨3, ![2, 16384, 512]⟩
abbrev S32768x512 : Shape := ⟨2, ![32768, 512]⟩
abbrev S32768x1024 : Shape := ⟨2, ![32768, 1024]⟩
abbrev S2x16384x3072 : Shape := ⟨3, ![2, 16384, 3072]⟩
abbrev S32768x3072 : Shape := ⟨2, ![32768, 3072]⟩

abbrev nBuf : Space → Nat
  | .hbm => 51
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024, .f32⟩
  | .hbm, ⟨3, _⟩ => ⟨S1x1024x6400, .f32⟩
  | .hbm, ⟨4, _⟩ => ⟨S1x6400, .f32⟩
  | .hbm, ⟨5, _⟩ => ⟨S_, .f32⟩
  | .hbm, ⟨6, _⟩ => ⟨S2x16384, .f32⟩
  | .hbm, ⟨7, _⟩ => ⟨S2x16384x1, .f32⟩
  | .hbm, ⟨8, _⟩ => ⟨S_, .f32⟩
  | .hbm, ⟨9, _⟩ => ⟨S2x16384x1, .f32⟩
  | .hbm, ⟨10, _⟩ => ⟨S2x16384x1, .f32⟩
  | .hbm, ⟨11, _⟩ => ⟨S2x16384x1024, .f32⟩
  | .hbm, ⟨12, _⟩ => ⟨S2x16384x1024, .f32⟩
  | .hbm, ⟨13, _⟩ => ⟨S2x16384x1024, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1024, .f32⟩
  | .hbm, ⟨21, _⟩ => ⟨S2x16384x1024, .f32⟩
  | .hbm, ⟨22, _⟩ => ⟨S_, .f32⟩
  | .hbm, ⟨23, _⟩ => ⟨S2x16384x1, .f32⟩
  | .hbm, ⟨24, _⟩ => ⟨S2x16384x1, .f32⟩
  | .hbm, ⟨25, _⟩ => ⟨S2x16384x1, .f32⟩
  | .hbm, ⟨26, _⟩ => ⟨S2x16384x1024, .f32⟩
  | .hbm, ⟨27, _⟩ => ⟨S2x16384x1024, .f32⟩
  | .hbm, ⟨28, _⟩ => ⟨S1x1x1024, .f32⟩
  | .hbm, ⟨29, _⟩ => ⟨S2x16384x1024, .f32⟩
  | .hbm, ⟨30, _⟩ => ⟨S2x16384x1024, .f32⟩
  | .hbm, ⟨31, _⟩ => ⟨S1x1x1024, .f32⟩
  | .hbm, ⟨32, _⟩ => ⟨S2x16384x1024, .f32⟩
  | .hbm, ⟨33, _⟩ => ⟨S2x16384x1024, .f32⟩
  | .hbm, ⟨34, _⟩ => ⟨S1024x6400, .f32⟩
  | .hbm, ⟨35, _⟩ => ⟨S2x16384x6400, .f32⟩
  | .hbm, ⟨36, _⟩ => ⟨S6400, .f32⟩
  | .hbm, ⟨37, _⟩ => ⟨S1x1x6400, .f32⟩
  | .hbm, ⟨38, _⟩ => ⟨S2x16384x6400, .f32⟩
  | .hbm, ⟨39, _⟩ => ⟨S2x16384x6400, .f32⟩
  | .hbm, ⟨40, _⟩ => ⟨S2x16384x2304, .f32⟩
  | .hbm, ⟨41, _⟩ => ⟨S32768x2304, .f32⟩
  | .hbm, ⟨42, _⟩ => ⟨S32768x2304, .bf16⟩
  | .hbm, ⟨43, _⟩ => ⟨S2x16384x512, .f32⟩
  | .hbm, ⟨44, _⟩ => ⟨S32768x512, .f32⟩
  | .hbm, ⟨45, _⟩ => ⟨S32768x512, .bf16⟩
  | .hbm, ⟨46, _⟩ => ⟨S32768x1024, .f32⟩
  | .hbm, ⟨47, _⟩ => ⟨S2x16384x512, .f32⟩
  | .hbm, ⟨48, _⟩ => ⟨S32768x512, .f32⟩
  | .hbm, ⟨49, _⟩ => ⟨S2x16384x3072, .f32⟩
  | .hbm, ⟨50, _⟩ => ⟨S32768x3072, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩

abbrev nD : Nat := 1
abbrev τ : Topo := Topo.v7x

variable {F : FTy → Type} [FloatOps F]
-- ==== Merge.lean ====
abbrev S32768x1024 : Shape := ⟨2, ![32768, 1024]⟩
abbrev S32768x512 : Shape := ⟨2, ![32768, 512]⟩
abbrev S32768x256 : Shape := ⟨2, ![32768, 256]⟩
abbrev S2x256x1024 : Shape := ⟨3, ![2, 256, 1024]⟩
abbrev S32768x3072 : Shape := ⟨2, ![32768, 3072]⟩
abbrev S1x512x1024 : Shape := ⟨3, ![1, 512, 1024]⟩
abbrev S1x256x1024 : Shape := ⟨3, ![1, 256, 1024]⟩
abbrev S1x1024x1024 : Shape := ⟨3, ![1, 1024, 1024]⟩
abbrev S1x1024 : Shape := ⟨2, ![1, 1024]⟩
abbrev S512x1024 : Shape := ⟨2, ![512, 1024]⟩
abbrev S256x1024 : Shape := ⟨2, ![256, 1024]⟩
abbrev S1024x1024 : Shape := ⟨2, ![1024, 1024]⟩
abbrev S1024 : Shape := ⟨1, ![1024]⟩
abbrev S256x512 : Shape := ⟨2, ![256, 512]⟩
abbrev S256x256 : Shape := ⟨2, ![256, 256]⟩
abbrev S256x3072 : Shape := ⟨2, ![256, 3072]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩

abbrev nBuf : Space → Nat
  | .hbm => 33
  | .vmem => 36
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S32768x512, .bf16⟩
  | .hbm, ⟨12, _⟩ => ⟨S2x256x1024, .bf16⟩
  | .hbm, ⟨13, _⟩ => ⟨S32768x3072, .f32⟩
  | .hbm, ⟨14, _⟩ => ⟨S1x512x1024, .f32⟩
  | .hbm, ⟨15, _⟩ => ⟨S1x256x1024, .f32⟩
  | .hbm, ⟨16, _⟩ => ⟨S1x512x1024, .f32⟩
  | .hbm, ⟨17, _⟩ => ⟨S1x1024x1024, .f32⟩
  | .hbm, ⟨18, _⟩ => ⟨S1x1024, .f32⟩
  | .hbm, ⟨19, _⟩ => ⟨S1x1024, .f32⟩
  | .hbm, ⟨20, _⟩ => ⟨S512x1024, .f32⟩
  | .hbm, ⟨21, _⟩ => ⟨S512x1024, .bf16⟩
  | .hbm, ⟨22, _⟩ => ⟨S256x1024, .f32⟩
  | .hbm, ⟨23, _⟩ => ⟨S256x1024, .bf16⟩
  | .hbm, ⟨24, _⟩ => ⟨S512x1024, .f32⟩
  | .hbm, ⟨25, _⟩ => ⟨S512x1024, .bf16⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x512, .bf16⟩
  | .local _ .vmem, ⟨23, _⟩ => ⟨S256x512, .bf16⟩
  | .local _ .vmem, ⟨24, _⟩ => ⟨S1x256x1024, .bf16⟩
  | .local _ .vmem, ⟨25, _⟩ => ⟨S1x256x1024, .bf16⟩
  | .local _ .vmem, ⟨26, _⟩ => ⟨S256x3072, .f32⟩
  | .local _ .vmem, ⟨27, _⟩ => ⟨S256x3072, .f32⟩
  | .local _ .vmem, ⟨28, _⟩ => ⟨S512x1024, .bf16⟩
  | .local _ .vmem, ⟨29, _⟩ => ⟨S256x1024, .bf16⟩
  | .local _ .vmem, ⟨30, _⟩ => ⟨S512x1024, .bf16⟩
  | .local _ .vmem, ⟨31, _⟩ => ⟨S1024x1024, .bf16⟩
  | .local _ .vmem, ⟨32, _⟩ => ⟨S1x1024, .f32⟩
  | .local _ .vmem, ⟨33, _⟩ => ⟨S1x1024, .f32⟩
  | .local _ .vmem, ⟨34, _⟩ => ⟨S256x1024, .f32⟩
  | .local _ .vmem, ⟨35, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem19_0 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== MergedIdeal.lean ====
abbrev S32768x1024 : Shape := ⟨2, ![32768, 1024]⟩
abbrev S32768x512 : Shape := ⟨2, ![32768, 512]⟩
abbrev S32768x256 : Shape := ⟨2, ![32768, 256]⟩
abbrev S2x256x1024 : Shape := ⟨3, ![2, 256, 1024]⟩
abbrev S32768x3072 : Shape := ⟨2, ![32768, 3072]⟩
abbrev S1x512x1024 : Shape := ⟨3, ![1, 512, 1024]⟩
abbrev S1x256x1024 : Shape := ⟨3, ![1, 256, 1024]⟩
abbrev S1x1024x1024 : Shape := ⟨3, ![1, 1024, 1024]⟩
abbrev S1x1024 : Shape := ⟨2, ![1, 1024]⟩
abbrev S512x1024 : Shape := ⟨2, ![512, 1024]⟩
abbrev S256x1024 : Shape := ⟨2, ![256, 1024]⟩
abbrev S2x16384x4x128 : Shape := ⟨4, ![2, 16384, 4, 128]⟩
abbrev S2x256x2x4x128 : Shape := ⟨5, ![2, 256, 2, 4, 128]⟩
abbrev S2x256x1x4x128 : Shape := ⟨5, ![2, 256, 1, 4, 128]⟩
abbrev S2x256x4x128 : Shape := ⟨4, ![2, 256, 4, 128]⟩
abbrev S2x4x16384x256 : Shape := ⟨4, ![2, 4, 16384, 256]⟩
abbrev S_ : Shape := ⟨0, ![]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩

abbrev nBuf : Space → Nat
  | .hbm => 127
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S32768x256, .f32⟩
  | .hbm, ⟨7, _⟩ => ⟨S32768x256, .f32⟩
  | .hbm, ⟨8, _⟩ => ⟨S32768x256, .f32⟩
  | .hbm, ⟨9, _⟩ => ⟨S32768x256, .f32⟩
  | .hbm, ⟨10, _⟩ => ⟨S32768x256, .f32⟩
  | .hbm, ⟨11, _⟩ => ⟨S32768x512, .bf16⟩
  | .hbm, ⟨12, _⟩ => ⟨S2x256x1024, .bf16⟩
  | .hbm, ⟨13, _⟩ => ⟨S32768x3072, .f32⟩
  | .hbm, ⟨14, _⟩ => ⟨S1x512x1024, .f32⟩
  | .hbm, ⟨15, _⟩ => ⟨S1x256x1024, .f32⟩
  | .hbm, ⟨16, _⟩ => ⟨S1x512x1024, .f32⟩
  | .hbm, ⟨17, _⟩ => ⟨S1x1024x1024, .f32⟩
  | .hbm, ⟨18, _⟩ => ⟨S1x1024, .f32⟩
  | .hbm, ⟨19, _⟩ => ⟨S1x1024, .f32⟩
  | .hbm, ⟨20, _⟩ => ⟨S512x1024, .f32⟩
  | .hbm, ⟨21, _⟩ => ⟨S32768x1024, .f32⟩
  | .hbm, ⟨22, _⟩ => ⟨S32768x256, .f32⟩
  | .hbm, ⟨23, _⟩ => ⟨S32768x256, .f32⟩
  | .hbm, ⟨24, _⟩ => ⟨S32768x256, .f32⟩
  | .hbm, ⟨25, _⟩ => ⟨S32768x256, .f32⟩
  | .hbm, ⟨26, _⟩ => ⟨S32768x256, .f32⟩
  | .hbm, ⟨27, _⟩ => ⟨S32768x256, .f32⟩
  | .hbm, ⟨28, _⟩ => ⟨S32768x256, .f32⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S32768x256, .f32⟩
  | .hbm, ⟨36, _⟩ => ⟨S32768x256, .f32⟩
  | .hbm, ⟨37, _⟩ => ⟨S32768x256, .f32⟩
  | .hbm, ⟨38, _⟩ => ⟨S32768x256, .f32⟩
  | .hbm, ⟨39, _⟩ => ⟨S32768x256, .f32⟩
  | .hbm, ⟨40, _⟩ => ⟨S32768x256, .f32⟩
  | .hbm, ⟨41, _⟩ => ⟨S256x1024, .f32⟩
  | .hbm, ⟨42, _⟩ => ⟨S32768x1024, .f32⟩
  | .hbm, ⟨43, _⟩ => ⟨S32768x512, .f32⟩
  | .hbm, ⟨44, _⟩ => ⟨S2x16384x4x128, .f32⟩
  | .hbm, ⟨45, _⟩ => ⟨S2x256x1024, .f32⟩
  | .hbm, ⟨46, _⟩ => ⟨S2x256x2x4x128, .f32⟩
  | .hbm, ⟨47, _⟩ => ⟨S2x256x1x4x128, .f32⟩
  | .hbm, ⟨48, _⟩ => ⟨S2x256x4x128, .f32⟩
  | .hbm, ⟨49, _⟩ => ⟨S2x4x16384x256, .f32⟩
  | .hbm, ⟨50, _⟩ => ⟨S_, .f32⟩
  | .hbm, ⟨51, _⟩ => ⟨S2x4x16384x256, .f32⟩
  | .hbm, ⟨52, _⟩ => ⟨S2x4x16384x256, .f32⟩
  | .hbm, ⟨53, _⟩ => ⟨S_, .f32⟩
  | .hbm, ⟨54, _⟩ => ⟨S2x4x16384, .f32⟩
  | .hbm, ⟨55, _⟩ => ⟨S_, .f32⟩
  | .hbm, ⟨56, _⟩ => ⟨S2x4x16384, .f32⟩
  | .hbm, ⟨57, _⟩ => ⟨S2x4x16384, .f32⟩
  | .hbm, ⟨58, _⟩ => ⟨S2x4x16384x1, .f32⟩
  | .hbm, ⟨59, _⟩ => ⟨S2x4x16384x256, .f32⟩
  | .hbm, ⟨60, _⟩ => ⟨S2x4x16384x256, .f32⟩
  | .hbm, ⟨61, _⟩ => ⟨S2x4x16384x256, .f32⟩
  | .hbm, ⟨62, _⟩ => ⟨S_, .f32⟩
  | .hbm, ⟨63, _⟩ => ⟨S2x4x16384, .f32⟩
  | .hbm, ⟨64, _⟩ => ⟨S2x4x16384x1, .f32⟩
  | .hbm, ⟨65, _⟩ => ⟨S2x4x16384x256, .f32⟩
  | .hbm, ⟨66, _⟩ => ⟨S2x4x16384x256, .f32⟩
  | .hbm, ⟨67, _⟩ => ⟨S2x256x1x4x128, .f32⟩
  | .hbm, ⟨68, _⟩ => ⟨S2x256x4x128, .f32⟩
  | .hbm, ⟨69, _⟩ => ⟨S2x4x128x16384, .f32⟩
  | .hbm, ⟨70, _⟩ => ⟨S2x16384x4x128, .f32⟩
  | .hbm, ⟨71, _⟩ => ⟨S32768x512, .f32⟩
  | .hbm, ⟨72, _⟩ => ⟨S512x1024, .f32⟩
  | .hbm, ⟨73, _⟩ => ⟨S32768x1024, .f32⟩
  | .hbm, ⟨74, _⟩ => ⟨S32768x3072, .f32⟩
  | .hbm, ⟨75, _⟩ => ⟨S32768x3072, .f32⟩
  | .hbm, ⟨76, _⟩ => ⟨S_, .f32⟩
  | .hbm, ⟨77, _⟩ => ⟨S32768x3072, .f32⟩
  | .hbm, ⟨78, _⟩ => ⟨S32768x3072, .f32⟩
  | .hbm, ⟨79, _⟩ => ⟨S_, .f32⟩
  | .hbm, ⟨80, _⟩ => ⟨S32768x3072, .f32⟩
  | .hbm, ⟨81, _⟩ => ⟨S32768x3072, .f32⟩
  | .hbm, ⟨82, _⟩ => ⟨S32768x1024, .f32⟩
  | .hbm, ⟨83, _⟩ => ⟨S32768x1024, .f32⟩
  | .hbm, ⟨84, _⟩ => ⟨S32768x1024, .f32⟩
  | .hbm, ⟨85, _⟩ => ⟨S32768x1024, .f32⟩
  | .hbm, ⟨86, _⟩ => ⟨S32768x1024, .f32⟩
  | .hbm, ⟨87, _⟩ => ⟨S32768x1024, .f32⟩
  | .hbm, ⟨88, _⟩ => ⟨S32768x1024, .f32⟩
  | .hbm, ⟨89, _⟩ => ⟨S32768x1024, .f32⟩
  | .hbm, ⟨90, _⟩ => ⟨S_, .f32⟩
  | .hbm, ⟨91, _⟩ => ⟨S32768x1024, .f32⟩
  | .hbm, ⟨92, _⟩ => ⟨S32768x1024, .f32⟩
  | .hbm, ⟨93, _⟩ => ⟨S1024x1024, .f32⟩
  | .hbm, ⟨94, _⟩ => ⟨S32768x1024, .f32⟩
  | .hbm, ⟨95, _⟩ => ⟨S32768x1024, .f32⟩
  | .hbm, ⟨96, _⟩ => ⟨S1024, .f32⟩
  | .hbm, ⟨97, _⟩ => ⟨S1024, .f32⟩
  | .hbm, ⟨98, _⟩ => ⟨S_, .f32⟩
  | .hbm, ⟨99, _⟩ => ⟨S32768, .f32⟩
  | .hbm, ⟨100, _⟩ => ⟨S32768x1, .f32⟩
  | .hbm, ⟨101, _⟩ => ⟨S_, .f32⟩
  | .hbm, ⟨102, _⟩ => ⟨S32768x1, .f32⟩
  | .hbm, ⟨103, _⟩ => ⟨S32768x1, .f32⟩
  | .hbm, ⟨104, _⟩ => ⟨S32768x1024, .f32⟩
  | .hbm, ⟨105, _⟩ => ⟨S32768x1024, .f32⟩
  | .hbm, ⟨106, _⟩ => ⟨S32768x1024, .f32⟩
  | .hbm, ⟨107, _⟩ => ⟨S_, .f32⟩
  | .hbm, ⟨108, _⟩ => ⟨S32768, .f32⟩
  | .hbm, ⟨109, _⟩ => ⟨S32768x1, .f32⟩
  | .hbm, ⟨110, _⟩ => ⟨S_, .f32⟩
  | .hbm, ⟨111, _⟩ => ⟨S32768x1, .f32⟩
  | .hbm, ⟨112, _⟩ => ⟨S32768x1, .f32⟩
  | .hbm, ⟨113, _⟩ => ⟨S32768x1024, .f32⟩
  | .hbm, ⟨114, _⟩ => ⟨S32768x1024, .f32⟩
  | .hbm, ⟨115, _⟩ => ⟨S_, .f32⟩
  | .hbm, ⟨116, _⟩ => ⟨S32768x1, .f32⟩
  | .hbm, ⟨117, _⟩ => ⟨S32768x1, .f32⟩
  | .hbm, ⟨118, _⟩ => ⟨S32768x1, .f32⟩
  | .hbm, ⟨119, _⟩ => ⟨S32768x1024, .f32⟩
  | .hbm, ⟨120, _⟩ => ⟨S32768x1024, .f32⟩
  | .hbm, ⟨121, _⟩ => ⟨S1x1024, .f32⟩
  | .hbm, ⟨122, _⟩ => ⟨S32768x1024, .f32⟩
  | .hbm, ⟨123, _⟩ => ⟨S32768x1024, .f32⟩
  | .hbm, ⟨124, _⟩ => ⟨S1x1024, .f32⟩
  | .hbm, ⟨125, _⟩ => ⟨S32768x1024, .f32⟩
  | .hbm, ⟨126, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst : Ref sig .tc := ⟨.hbm, 50, rfl⟩
abbrev main_v30 : Ref sig .tc := ⟨.hbm, 51, rfl⟩
abbrev main_v31 : Ref sig .tc := ⟨.hbm, 52, rfl⟩
abbrev main_cst_0 : Ref sig .tc := ⟨.hbm, 53, rfl⟩
abbrev main_v32 : Ref sig .tc := ⟨.hbm, 54, rfl⟩
abbrev main_cst_1 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_3 : Ref sig .tc := ⟨.hbm, 76, rfl⟩
abbrev main_v52 : Ref sig .tc := ⟨.hbm, 77, rfl⟩
abbrev main_v53 : Ref sig .tc := ⟨.hbm, 78, rfl⟩
abbrev main_cst_4 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_5 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_6 : Ref sig .tc := ⟨.hbm, 98, rfl⟩
abbrev main_v71 : Ref sig .tc := ⟨.hbm, 99, rfl⟩
abbrev main_v72 : Ref sig .tc := ⟨.hbm, 100, rfl⟩
abbrev main_cst_7 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_8 : Ref sig .tc := ⟨.hbm, 107, rfl⟩
abbrev main_v78 : Ref sig .tc := ⟨.hbm, 108, rfl⟩
abbrev main_v79 : Ref sig .tc := ⟨.hbm, 109, rfl⟩
abbrev main_cst_9 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_10 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]
-- ==== Memory.lean ====
abbrev S2x256x1024 : Shape := ⟨3, ![2, 256, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 6
  | .vmem => 3
  | .smem => 0
  | _ => 0

abbrev bufTy : (tb : Table) → Fin (tcTables nBuf tb) → BufTy
  | .hbm, ⟨0, _⟩ => ⟨S2x256x1024, .f32⟩
  | .hbm, ⟨1, _⟩ => ⟨S1x1024x1024, .f32⟩
  | .hbm, ⟨2, _⟩ => ⟨S512x1024, .f32⟩
  | .hbm, ⟨3, _⟩ => ⟨S1024x1024, .f32⟩
  | .hbm, ⟨4, _⟩ => ⟨S1024x1024, .bf16⟩
  | .hbm, ⟨5, _⟩ => ⟨S512x1024, .bf16⟩
  | .local _ .vmem, ⟨0, _⟩ => ⟨S512x1024, .f32⟩
  | .local _ .vmem, ⟨1, _⟩ => ⟨S1024x1024, .bf16⟩
  | .local _ .vmem, ⟨2, _⟩ => ⟨S512x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RememberedIdeal.lean ====
abbrev S2x256x1024 : Shape := ⟨3, ![2, 256, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024x1024, .f32⟩
  | .hbm, ⟨2, _⟩ => ⟨S1024x1024, .f32⟩
  | .hbm, ⟨3, _⟩ => ⟨S2x256x1024, .f32⟩
  | .hbm, ⟨4, _⟩ => ⟨S512x1024, .f32⟩
  | .hbm, ⟨5, _⟩ => ⟨S512x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Bucket.lean ====
/- The bucket of a distance: the word both programs compute from it, and its range over the band. -/
module

public import Idealize.ShloMosaic.Lib.Pointwise

@[expose] public section

noncomputable section

namespace Cert.Bucket

open Idealize.ShloMosaic

/-- the logarithmic bucket of a distance `n`: `8 + ⌊log (n / 8) / log 128 · 8⌋` -/
def far (n : BitVec 32) : BitVec 32 :=
  IntOp.addi 8#32 (FloatOps.fptosi (F := Ideal) (φ := .f32) 32 (Ideal.div (Ideal.log (Ideal.div (FloatOps.sitofp (F := Ideal) .f32 (IntOp.maxsi n 1#32))
    (Ideal.ofBits .f32 1090519040#32))) (Ideal.ofBits .f32 1083917269#32) * Ideal.ofBits .f32 1090519040#32))

/-- the bucket of a signed distance -/
def bucket (w : BitVec 32) : BitVec 32 :=
  IntOp.addi (Scalar.select (IntOp.cmpi .sgt w 0#32) 16#32 0#32)
    (Scalar.select (IntOp.cmpi .slt (IntOp.absi w) 8#32) (IntOp.absi w) (IntOp.minsi (far (IntOp.absi w)) 15#32))

theorem eight : Ideal.ofBits .f32 1090519040#32 = ((8 : ℝ) : EReal) := by
  simp [Ideal.ofBits, Ideal.ieee]; rw [← EReal.coe_mul]; norm_num

theorem scale : ∃ s : ℝ, 1 < s ∧ Ideal.ofBits .f32 1083917269#32 = (s : EReal) := by
  refine ⟨_, ?_, by simp [Ideal.ofBits, Ideal.ieee]; rfl⟩
  norm_num

theorem absi_toInt (w : BitVec 32) (hw : w.toInt.natAbs ≤ 2048) : (IntOp.absi w).toInt = w.toInt.natAbs := by
  unfold IntOp.absi
  rw [BitVec.msb_eq_toInt]
  by_cases h : w.toInt < 0
  · rw [if_pos (by simpa using h), BitVec.toInt_neg]
    simp only [Int.bmod]; omega
  · rw [if_neg (by simpa using h)]; omega

theorem far_range (n : BitVec 32) (k : ℕ) (hn : n.toInt = k) (h8 : 8 ≤ k) (hk : k ≤ 2048) :
    ∃ t : ℕ, 8 ≤ t ∧ t < 10000 ∧ (far n).toInt = t := by
  have hmax : IntOp.maxsi n 1#32 = n := by
    unfold IntOp.maxsi
    rw [if_pos]
    simp only [BitVec.slt, hn, decide_eq_true_eq]
    show (1 : ℤ) < k
    omega
  obtain ⟨s, hs, he⟩ := scale
  have hr : (1 : ℝ) ≤ (k : ℝ) / 8 := by
    rw [le_div_iff₀ (by norm_num)]; norm_num; exact_mod_cast h8
  have hlog0 : 0 ≤ Real.log ((k : ℝ) / 8) := Real.log_nonneg hr
  have hlog1 : Real.log ((k : ℝ) / 8) ≤ 256 := by
    have h1 := Real.log_le_sub_one_of_pos (lt_of_lt_of_le one_pos hr)
    have h2 : (k : ℝ) ≤ 2048 := by exact_mod_cast hk
    linarith [div_le_div_of_nonneg_right h2 (by norm_num : (0 : ℝ) ≤ 8)]
  have hv : Ideal.div (Ideal.log (Ideal.div (FloatOps.sitofp (F := Ideal) .f32 n) (Ideal.ofBits .f32 1090519040#32)))
      (Ideal.ofBits .f32 1083917269#32) * Ideal.ofBits .f32 1090519040#32
      = ((Real.log ((k : ℝ) / 8) / s * 8 : ℝ) : EReal) := by
    have h1 : Ideal.div (FloatOps.sitofp (F := Ideal) .f32 n) (Ideal.ofBits .f32 1090519040#32) = (((k : ℝ) / 8 : ℝ) : EReal) := by
      have : (FloatOps.sitofp (F := Ideal) .f32 n : EReal) = ((k : ℝ) : EReal) := by
        show (((n.toInt : ℝ)) : EReal) = _
        rw [hn]; norm_cast
      rw [this, eight, Ideal.div, if_neg (by norm_cast), ← EReal.coe_inv, ← EReal.coe_mul, div_eq_mul_inv]
    have h2 : Ideal.log (((k : ℝ) / 8 : ℝ) : EReal) = ((Real.log ((k : ℝ) / 8) : ℝ) : EReal) := by
      show (if (k : ℝ) / 8 ≤ 0 then ⊥ else ((Real.log ((k : ℝ) / 8) : ℝ) : EReal)) = _
      rw [if_neg (by linarith)]
    rw [h1, h2, he, eight, Ideal.div, if_neg (by intro h; have := EReal.coe_eq_zero.1 h; linarith), ← EReal.coe_inv, ← EReal.coe_mul, ← EReal.coe_mul,
      div_eq_mul_inv _ s]
  have hx0 : 0 ≤ Real.log ((k : ℝ) / 8) / s * 8 := by positivity
  have hx1 : Real.log ((k : ℝ) / 8) / s * 8 ≤ 2048 := by
    have : Real.log ((k : ℝ) / 8) / s ≤ Real.log ((k : ℝ) / 8) := div_le_self hlog0 hs.le
    linarith
  unfold far
  rw [hmax, hv]
  obtain ⟨z, hz⟩ := Int.eq_ofNat_of_zero_le (Int.floor_nonneg.2 hx0)
  have hz1 : (z : ℤ) ≤ 2048 := by
    rw [← hz]
    exact Int.floor_le_iff.2 (by push_cast; linarith)
  have hf : FloatOps.fptosi (F := Ideal) (φ := .f32) 32 ((Real.log ((k : ℝ) / 8) / s * 8 : ℝ) : EReal) = BitVec.ofInt 32 z := by
    show Ideal.fptosi 32 _ = _
    rw [Ideal.fptosi, Ideal.toIntClamped_coe, if_pos hx0, hz]
    congr 1
    simp only [Nat.reduceSub, Nat.reducePow]
    omega
  refine ⟨8 + z, by omega, by omega, ?_⟩
  have h8' : (8#32).toInt = 8 := by decide
  rw [hf, IntOp.addi, BitVec.toInt_add, BitVec.toInt_ofInt, h8']
  simp only [Int.bmod]
  norm_num
  omega

/-- the bucket of a distance of at most 2048 is one of the table's 32 rows -/
theorem bucket_lt (w : BitVec 32) (hw : w.toInt.natAbs ≤ 2048) : (bucket w).toNat < 32 := by
  have ha := absi_toInt w hw
  have hin : ∃ b : ℕ, b < 16 ∧ (Scalar.select (IntOp.cmpi .slt (IntOp.absi w) 8#32) (IntOp.absi w) (IntOp.minsi (far (IntOp.absi w)) 15#32))
      = BitVec.ofNat 32 b := by
    by_cases h8 : w.toInt.natAbs < 8
    · refine ⟨w.toInt.natAbs, by omega, ?_⟩
      have hc : IntOp.cmpi .slt (IntOp.absi w) 8#32 = 1#1 := by
        simp only [IntOp.cmpi, BitVec.slt, ha]
        rw [decide_eq_true (by show ((w.toInt.natAbs : ℕ) : ℤ) < 8; omega)]; rfl
      rw [hc]
      show IntOp.absi w = _
      apply BitVec.eq_of_toInt_eq
      rw [ha]
      generalize w.toInt.natAbs = n at h8
      simp only [BitVec.toInt_eq_toNat_bmod, BitVec.toNat_ofNat, Int.bmod]; omega
    · obtain ⟨t, h1, h2, h3⟩ := far_range (IntOp.absi w) w.toInt.natAbs ha (by omega) hw
      have hc : IntOp.cmpi .slt (IntOp.absi w) 8#32 = 0#1 := by
        simp only [IntOp.cmpi, BitVec.slt, ha]
        rw [decide_eq_false (by show ¬ ((w.toInt.natAbs : ℕ) : ℤ) < 8; omega)]; rfl
      rw [hc]
      show ∃ b : ℕ, b < 16 ∧ IntOp.minsi (far (IntOp.absi w)) 15#32 = _
      unfold IntOp.minsi
      by_cases h15 : t < 15
      · refine ⟨t, by omega, ?_⟩
        rw [if_pos (by simp only [BitVec.slt, h3, decide_eq_true_eq]; show (t : ℤ) < 15; omega)]
        apply BitVec.eq_of_toInt_eq
        rw [h3, BitVec.toInt_eq_toNat_bmod, BitVec.toNat_ofNat]
        simp only [Int.bmod]; omega
      · refine ⟨15, by omega, ?_⟩
        rw [if_neg (by simp only [BitVec.slt, h3, decide_eq_true_eq]; show ¬ (t : ℤ) < 15; omega)]
  obtain ⟨b, hb, he⟩ := hin
  unfold bucket
  rw [he]
  have hs : ∀ x : BitVec 1, (IntOp.addi (Scalar.select x 16#32 0#32) (BitVec.ofNat 32 b)).toNat < 32 := by
    intro x
    unfold Scalar.select IntOp.addi
    split <;> simp only [BitVec.toNat_add, BitVec.toNat_ofNat] <;> omega
  exact hs _

/-- the entry of a table's column at a distance's bucket -/
def pick (T : Fin 32 → EReal) (w : BitVec 32) : EReal := T ⟨(bucket w).toNat % 32, Nat.mod_lt _ (by decide)⟩

/-- the sum over the table's rows of those whose number is the bucket -/
theorem sum_pick (T : Fin 32 → EReal) (w : BitVec 32) (hw : w.toInt.natAbs ≤ 2048) :
    (∑ x : Fin 32, Scalar.select (IntOp.cmpi .eq (bucket w) (BitVec.ofNat 32 x.val)) (T x) 0) = pick T w := by
  have hb := bucket_lt w hw
  rw [Finset.sum_eq_single (⟨(bucket w).toNat % 32, Nat.mod_lt _ (by decide)⟩ : Fin 32)]
  · have : IntOp.cmpi .eq (bucket w) (BitVec.ofNat 32 ((bucket w).toNat % 32)) = 1#1 := by
      rw [Nat.mod_eq_of_lt hb]
      simp [IntOp.cmpi]
    simp only [this]
    rfl
  · intro x _ hx
    have : IntOp.cmpi .eq (bucket w) (BitVec.ofNat 32 x.val) = 0#1 := by
      have hne : ¬ bucket w = BitVec.ofNat 32 x.val := by
        intro h
        apply hx
        apply Fin.ext
        have := congrArg BitVec.toNat h
        rw [BitVec.toNat_ofNat] at this
        simp only
        omega
      simp only [IntOp.cmpi, beq_eq_false_iff_ne.2 hne]
      rfl
    simp only [this]
    rfl
  · intro h; exact absurd (Finset.mem_univ _) h

end Cert.Bucket

end
-- ==== Proof.Words.lean ====
/- The index arithmetic of the programs on 32-bit words, as numbers. -/
module

public import Idealize.ShloMosaic.Lib.Pointwise
public import proofs.«01_k».proof.Proof.Bucket

@[expose] public section

namespace Cert.Words

open Idealize.ShloMosaic

/-- where the window of keys of block `n` begins -/
theorem start (n : ℕ) (hn : n < 64) :
    BitVec.toNat (Scalar.indexCast (Scalar.muli (BitVec.ofNat 32 n) 256#32)) = 256 * n := by
  simp only [Scalar.indexCast, Scalar.muli, IntOp.muli, BitVec.toNat_mul, BitVec.toNat_ofNat]
  omega

/-- two comparisons of one word with bounds, joined -/
theorem between (w : BitVec 32) (z : ℤ) (h : w.toInt = z) (b : ℕ) (hb : b < 2 ^ 31) :
    IntOp.andi (IntOp.cmpi CmpIPredicate.sge w 0#32) (IntOp.cmpi CmpIPredicate.slt w (BitVec.ofNat 32 b))
      = BitVec.ofBool (decide (0 ≤ z ∧ z < b)) := by
  have hb' : (BitVec.ofNat 32 b).toInt = b := by
    simp only [BitVec.toInt_eq_toNat_bmod, BitVec.toNat_ofNat, Int.bmod]
    omega
  simp only [IntOp.cmpi, IntOp.andi, BitVec.slt, BitVec.sle, BitVec.ofBool_and_ofBool, h, hb']
  congr 1
  rw [Bool.decide_and]
  congr 1

/-- the kernel's position of a key -/
theorem key_pos (n k : ℕ) (hn : n < 64) (hk : k < 384) :
    (IntOp.addi (Scalar.subi (Scalar.muli (BitVec.ofNat 32 n) 256#32) 64#32) (BitVec.ofNat 32 k)).toInt = 256 * n + k - 64 := by
  simp only [Scalar.subi, Scalar.muli, IntOp.muli, IntOp.subi, IntOp.addi, BitVec.toInt_eq_toNat_bmod, BitVec.toNat_mul,
    BitVec.toNat_ofNat, BitVec.toNat_add, BitVec.toNat_sub, Int.bmod]
  omega

/-- the distance from a query to a key of its window -/
theorem step (c k r : ℕ) (hc : c < 1024) (hk : k < 1024) (hr : r < 1024) :
    (IntOp.subi (IntOp.subi (BitVec.ofNat 32 k) (BitVec.ofNat 32 c)) (BitVec.ofNat 32 r)).toInt = (k : ℤ) - c - r := by
  simp only [IntOp.subi, BitVec.toInt_eq_toNat_bmod, BitVec.toNat_ofNat, BitVec.toNat_sub, Int.bmod]
  omega

/-- whether a distance lies in the band -/
theorem band (w : BitVec 32) (z : ℤ) (h : w.toInt = z) (hz : z.natAbs < 2048) :
    IntOp.cmpi .sle (IntOp.absi w) 64#32 = BitVec.ofBool (decide (-64 ≤ z ∧ z ≤ 64)) := by
  have ha := Bucket.absi_toInt w (by omega)
  simp only [IntOp.cmpi, BitVec.sle, ha, h]
  congr 1
  refine decide_eq_decide.2 ?_
  show ((z.natAbs : ℕ) : ℤ) ≤ 64 ↔ _
  omega

/-- a distance in positions of the whole sequence -/
theorem times (w : BitVec 32) (z : ℤ) (h : w.toInt = z) (d : ℕ) (hd : d ≤ 16) (hz : z.natAbs < 2048) :
    (IntOp.muli w (BitVec.ofNat 32 d)).toInt = z * d := by
  have hd' : (BitVec.ofNat 32 d).toInt = d := by
    simp only [BitVec.toInt_eq_toNat_bmod, BitVec.toNat_ofNat, Int.bmod]
    omega
  have h1 : (z * d).natAbs ≤ 2048 * 16 := by
    rw [Int.natAbs_mul]
    exact Nat.mul_le_mul (by omega) (by simpa using hd)
  rw [IntOp.muli, BitVec.toInt_mul, h, hd']
  generalize z * d = y at h1
  simp only [Int.bmod]
  omega

/-- the position a place of the reference's window stands for -/
theorem place (n k : ℕ) (hn : n < 256) (hk : k < 1024) :
    (IntOp.subi (IntOp.addi (IntOp.muli (BitVec.ofNat 32 n) 64#32) (BitVec.ofNat 32 k)) 64#32).toInt = 64 * (n : ℤ) + k - 64 := by
  simp only [IntOp.subi, IntOp.addi, IntOp.muli, BitVec.toInt_eq_toNat_bmod, BitVec.toNat_ofNat, BitVec.toNat_sub, BitVec.toNat_add,
    BitVec.toNat_mul, Int.bmod]
  omega

end Cert.Words
-- ==== Proof.Band.lean ====
/- Sums and maxima over a window of keys of which only a band counts. A query looks at 129 offsets, from 64
   steps before it to 64 steps after it; a program lays the keys out in a wider window and gives those outside
   the band the weight −∞. The row's maximum, its sum of exponentials and its weighted sum of values are then
   the band's, whatever the window's width is and wherever the band lies in it. -/
module

public import Idealize.ShloMosaic.Lib.Pointwise

@[expose] public section

noncomputable section

namespace Cert.Band

open Idealize.ShloMosaic

/-- the greatest of a row's scores, `⊥` in an empty row -/
def top {n : ℕ} (s : Fin n → EReal) : EReal := Finset.univ.fold max ⊥ s

/-- a score's exponential relative to the row's greatest score -/
def weight {n : ℕ} (s : Fin n → EReal) (j : Fin n) : EReal := Ideal.exp (s j - top s)

/-- the sum of a row's weights -/
def total {n : ℕ} (s : Fin n → EReal) : EReal := ∑ j, weight s j

/-- the row's values added up with its weights -/
def mix {n : ℕ} (s : Fin n → EReal) (v : Fin n → EReal) : EReal := ∑ j, weight s j * v j

/-- the window's scores: those of the band where it lies, `⊥` elsewhere -/
structure Lies {W : ℕ} (r : ℕ) (f : Fin W → EReal) (g : Fin 129 → EReal) : Prop where
  fits : r + 128 < W
  inside : ∀ (k : Fin W) (j : Fin 129), (k : ℕ) = r + j → f k = g j
  outside : ∀ k : Fin W, ((k : ℕ) < r ∨ r + 128 < (k : ℕ)) → f k = ⊥

variable {W r : ℕ} {f : Fin W → EReal} {g : Fin 129 → EReal}

theorem fold_eq_sup {n : ℕ} (s : Fin n → EReal) : top s = Finset.univ.sup s := rfl

/-- the window's maximum is the band's -/
theorem Lies.top_eq (h : Lies r f g) : top f = top g := by
  rw [fold_eq_sup, fold_eq_sup]
  apply le_antisymm
  · refine Finset.sup_le fun k _ => ?_
    by_cases hk : (k : ℕ) < r ∨ r + 128 < (k : ℕ)
    · rw [h.outside k hk]; exact bot_le
    · have hj : (k : ℕ) - r < 129 := by omega
      rw [h.inside k ⟨(k : ℕ) - r, hj⟩ (by simp only; omega)]
      exact Finset.le_sup (f := g) (Finset.mem_univ _)
  · refine Finset.sup_le fun j _ => ?_
    have hk : r + (j : ℕ) < W := by have := h.fits; have := j.isLt; omega
    rw [← h.inside ⟨r + j, hk⟩ j rfl]
    exact Finset.le_sup (f := f) (Finset.mem_univ _)

theorem exp_bot_sub (x : EReal) : Ideal.exp (⊥ - x) = 0 := by
  rw [sub_eq_add_neg, EReal.bot_add]; rfl

/-- a sum over the window of terms that vanish outside the band is a sum over the band -/
theorem sum_window (hr : r + 128 < W) (F : Fin W → EReal) (G : Fin 129 → EReal)
    (hin : ∀ (k : Fin W) (j : Fin 129), (k : ℕ) = r + j → F k = G j)
    (hout : ∀ k : Fin W, ((k : ℕ) < r ∨ r + 128 < (k : ℕ)) → F k = 0) : ∑ k, F k = ∑ j, G j := by
  have hlt : ∀ j : Fin 129, r + (j : ℕ) < W := fun j => by have := j.isLt; omega
  refine (Fintype.sum_of_injective (fun j : Fin 129 => (⟨r + j, hlt j⟩ : Fin W)) ?_ G F ?_ ?_).symm
  · intro a b hab
    have := congrArg Fin.val hab
    simp only at this
    exact Fin.ext (by omega)
  · intro k hk
    refine hout k ?_
    by_contra hc
    have hj : (k : ℕ) - r < 129 := by omega
    exact hk ⟨⟨(k : ℕ) - r, hj⟩, Fin.ext (by simp only; omega)⟩
  · intro j
    exact (hin _ j rfl).symm

/-- the window's sum of weights is the band's -/
theorem Lies.total_eq (h : Lies r f g) : total f = total g := by
  refine sum_window h.fits _ _ (fun k j hk => ?_) fun k hk => ?_
  · unfold weight; rw [h.top_eq, h.inside k j hk]
  · unfold weight; rw [h.outside k hk, exp_bot_sub]

/-- the window's weighted sum of values is the band's, if the values agree where the score is not `⊥` -/
theorem Lies.mix_eq (h : Lies r f g) {v : Fin W → EReal} {w : Fin 129 → EReal}
    (hv : ∀ (k : Fin W) (j : Fin 129), (k : ℕ) = r + j → g j = ⊥ ∨ v k = w j) : mix f v = mix g w := by
  refine sum_window h.fits _ _ (fun k j hk => ?_) fun k hk => ?_
  · unfold weight; rw [h.top_eq, h.inside k j hk]
    rcases hv k j hk with h0 | h1
    · rw [h0, exp_bot_sub, zero_mul, zero_mul]
    · rw [h1]
  · unfold weight; rw [h.outside k hk, exp_bot_sub, zero_mul]

end Cert.Band

end
-- ==== Proof.Head.lean ====
/- One head of one block of queries, as the kernel's body computes it: the scores of 256 queries against a window
   of 384 keys, the maximum and the sum of exponentials of each row, and the values mixed with the row's weights.
   The four heads of a block, and the blocks of every launch, are this one computation at different channels. -/
module

public import proofs.«01_k».proof.Proof.Gen.KernelIdeal.Skeleton
public import Idealize.ShloMosaic.Lib.Pointwise
public import proofs.«01_k».proof.Proof.Band

@[expose] public section

set_option maxRecDepth 16384

noncomputable section

namespace Cert.Head

open Cert.KernelIdeal Cert.KernelIdeal.Gen Idealize.ShloMosaic Idealize.ShloMosaic.TcCoe

/-- the scores of a head whose channels begin at `o` -/
def scores (o : ℕ) (ho : S384x256.Slices ![0, o] S384x64) (mask : Ideal .f32) (ins : IVec S1x384 1)
    (k : FVec Ideal S384x256 .bf16) (q : Vec Ideal S1x256x64 .bf16) (b : Vec Ideal S1x256x384 .f32) : FVec Ideal S256x384 .f32 :=
  select (broadcastTo S256x384 (shapeCast S1x384 ins shapeCasts_S1x384_S1x384) broadcasts_S1x384_S256x384)
    (addf (mulf (matmul dot_S256x64_S384x64_S256x384_1_1_0_0_n_n none (φ₁ := .bf16) (shapeCast S256x64 q shapeCasts_S1x256x64_S256x64)
        (extractStridedSlice S384x64 ![0, o] k ho) (constant (F := Ideal) S256x384 .f32 0x00000000#32))
      (broadcast S256x384 (Scalar.ofBits (F := Ideal) .f32 0x3E000000#32)))
      (shapeCast S256x384 b shapeCasts_S1x256x384_S256x384))
    (broadcast S256x384 mask)

/-- each row's maximum -/
def maxima (s : FVec Ideal S256x384 .f32) : FVec Ideal S256x1 .f32 :=
  shapeCast S256x1 (multiReduction .maximumf [1] S256 s 0xFF800000#32 reduces_S256x384_S256 (.inl rfl) rfl) shapeCasts_S256_S256x1

/-- each row's exponentials relative to its maximum -/
def weights (s : FVec Ideal S256x384 .f32) : FVec Ideal S256x384 .f32 :=
  exp (subf s (broadcastTo S256x384 (maxima s) broadcasts_S256x1_S256x384))

/-- each row's sum of exponentials -/
def totals (s : FVec Ideal S256x384 .f32) : FVec Ideal S256x1 .f32 :=
  shapeCast S256x1 (multiReduction .add [1] S256 (weights s) 0x00000000#32 reduces_S256x384_S256 (.inl rfl) rfl) shapeCasts_S256_S256x1

/-- each row's weighted sum of the values -/
def mixed (o : ℕ) (ho : S384x256.Slices ![0, o] S384x64) (s : FVec Ideal S256x384 .f32) (v : FVec Ideal S384x256 .bf16) :
    FVec Ideal S1x256x64 .f32 :=
  shapeCast S1x256x64 (matmul dot_S256x384_S384x64_S256x64_1_0_0_1_n_n none (truncf .bf16 (weights s) bitsLt_bf16_f32)
    (extractStridedSlice S384x64 ![0, o] v ho) (constant (F := Ideal) S256x64 .f32 0x00000000#32)) shapeCasts_S256x64_S1x256x64

/-- a row's number in each of the head's 64 channels -/
def spread (x : FVec Ideal S256x1 .f32) : FVec Ideal S1x256x64 .f32 :=
  shapeCast S1x256x64 (broadcastTo S256x64 (shapeCast S256x1 x shapeCasts_S256x1_S256x1) broadcasts_S256x1_S256x64)
    shapeCasts_S256x64_S1x256x64

theorem neg_inf : Ideal.ofBits .f32 0xFF800000#32 = ⊥ := by simp [Ideal.ofBits, Ideal.ieee]

variable (o : ℕ) (ho : S384x256.Slices ![0, o] S384x64) (mask : Ideal .f32) (ins : IVec S1x384 1)
    (k : FVec Ideal S384x256 .bf16) (q : Vec Ideal S1x256x64 .bf16) (b : Vec Ideal S1x256x384 .f32)

theorem channel_lt (ho : S384x256.Slices ![0, o] S384x64) (c : Fin 64) : o + c.val < 256 := by
  have h := ho.2 1
  have : o + 64 ≤ 256 := h
  omega

theorem scores_at (r : Fin 256) (kk : Fin 384) : scores o ho mask ins k q b (ix2 r kk)
    = Scalar.select (ins (ix2 0 kk)) ((∑ c : Fin 64, q (ix3 0 r c) * k (ix2 kk ⟨o + c.val, channel_lt o ho c⟩))
        * Ideal.ofBits .f32 0x3E000000#32 + b (ix3 0 r kk)) mask := by
  pointwise [scores]

variable (s : FVec Ideal S256x384 .f32) (v : FVec Ideal S384x256 .bf16)

theorem maxima_at (r : Fin 256) : maxima s (ix2 r 0) = Band.top fun kk : Fin 384 => s (ix2 r kk) := by
  pointwise [maxima]
  rw [neg_inf]; rfl

theorem weights_at (r : Fin 256) (kk : Fin 384) : weights s (ix2 r kk) = Band.weight (fun kk : Fin 384 => s (ix2 r kk)) kk := by
  pointwise [weights]
  rw [maxima_at]; rfl

theorem totals_at (r : Fin 256) : totals s (ix2 r 0) = Band.total fun kk : Fin 384 => s (ix2 r kk) := by
  pointwise [totals, weights_at]
  rfl

theorem mixed_at (r : Fin 256) (c : Fin 64) : mixed o ho s v (ix3 0 r c)
    = Band.mix (fun kk : Fin 384 => s (ix2 r kk)) fun kk => v (ix2 kk ⟨o + c.val, channel_lt o ho c⟩) := by
  pointwise [mixed, weights_at]
  rfl

theorem spread_at (x : FVec Ideal S256x1 .f32) (r : Fin 256) (c : Fin 64) : spread x (ix3 0 r c) = x (ix2 r 0) := by
  pointwise [spread]

end Cert.Head

end
-- ==== Proof.KernelValue.lean ====
/- What the kernel's blocks compute, read off its generated launch: a row of scores over a window of 384 keys, its greatest entry,
   the sum of its exponentials and the values mixed by them. -/
module

public import proofs.«01_k».proof.Proof.Gen.KernelIdeal.Value
public import Idealize.ShloMosaic.Lib.Pipeline.ValueKit
public import proofs.«01_k».proof.Proof.Words
public import proofs.«01_k».proof.Proof.Head

@[expose] public section

set_option maxRecDepth 16384

noncomputable section

namespace Cert.KernelValue

open Cert.KernelIdeal Cert.KernelIdeal.Gen Idealize.ShloMosaic Idealize.ShloMosaic.TcCoe

variable (m : (ℓ : Loc nD τ sig) → Buf (Elt Ideal) ℓ)

/-- position `kk` of the window of keys of the block holding position `l` lies inside the sequence, whose 16384 positions
    stand between 64 zeros on either side -/
def Inside (l : Fin 16384) (kk : Fin 384) : Prop := 64 ≤ 256 * (l.val / 256) + kk.val ∧ 256 * (l.val / 256) + kk.val < 16448

instance (l : Fin 16384) (kk : Fin 384) : Decidable (Inside l kk) := inferInstanceAs (Decidable (_ ∧ _))

/-- a row's position in the padded keys and values -/
def at_ (l : Fin 16384) (kk : Fin 384) : Fin 16512 := ⟨256 * (l.val / 256) + kk.val, by omega⟩

def chan (h : Fin 4) (c : Fin 64) : Fin 256 := ⟨64 * h.val + c.val, by omega⟩

/-- the scores of position `l` of sequence `s` in head `h` -/
def row (X0 : Vec Ideal S2x16384x256 .bf16) (X1 : Vec Ideal S2x16512x256 .bf16) (X3 : Vec Ideal S4x256x384 .f32)
    (s : Fin 2) (l : Fin 16384) (h : Fin 4) : Fin 384 → EReal := fun kk =>
  if Inside l kk then
    (∑ c : Fin 64, X0 (ix3 s l (chan h c)) * X1 (ix3 s (at_ l kk) (chan h c))) * Ideal.ofBits .f32 0x3E000000#32
      + X3 (ix3 h ⟨l.val % 256, by omega⟩ kk)
  else ⊥

def G4 (X0 : Vec Ideal S2x16384x256 .bf16) (X1 X2 : Vec Ideal S2x16512x256 .bf16) (X3 : Vec Ideal S4x256x384 .f32) :
    FVec Ideal S2x16384x256 .f32 := fun j =>
  Band.mix (row X0 X1 X3 (j 0) (j 1) ⟨(j 2).val / 64, Nat.div_lt_of_lt_mul (j 2).isLt⟩) fun kk => X2 (ix3 (j 0) (at_ (j 1) kk) (j 2))

def G5 (X0 : Vec Ideal S2x16384x256 .bf16) (X1 : Vec Ideal S2x16512x256 .bf16) (X3 : Vec Ideal S4x256x384 .f32) :
    FVec Ideal S2x16384x256 .f32 := fun j =>
  Band.top (row X0 X1 X3 (j 0) (j 1) ⟨(j 2).val / 64, Nat.div_lt_of_lt_mul (j 2).isLt⟩)

def G6 (X0 : Vec Ideal S2x16384x256 .bf16) (X1 : Vec Ideal S2x16512x256 .bf16) (X3 : Vec Ideal S4x256x384 .f32) :
    FVec Ideal S2x16384x256 .f32 := fun j =>
  Band.total (row X0 X1 X3 (j 0) (j 1) ⟨(j 2).val / 64, Nat.div_lt_of_lt_mul (j 2).isLt⟩)

theorem idx : ∀ t : Fin cfg0.N, win0_0.index t = ![t.val / 64, t.val % 64, 0] ∧ win0_1.index t = ![t.val / 64, 0, 0]
    ∧ win0_2.index t = ![t.val / 64, 0, 0] ∧ win0_3.index t = ![0, 0, 0] ∧ win0_4.index t = ![t.val / 64, t.val % 64, 0]
    ∧ win0_5.index t = ![t.val / 64, t.val % 64, 0] ∧ win0_6.index t = ![t.val / 64, t.val % 64, 0] :=
  (by decide +kernel : ∀ t : Fin grid0.N, _)

theorem coord : ∀ t : Fin grid0.N, (grid0.coords t 1).val = t.val % 64 := by decide +kernel

theorem mask_at (i : grid0.Coords) (kk : Fin 384) : k0_pay6 i (ix2 0 kk)
    = BitVec.ofBool (decide (64 ≤ 256 * (i 1).val + kk.val ∧ 256 * (i 1).val + kk.val < 16448)) := by
  have hi : (i 1).val < 64 := (i 1).isLt
  pointwise [k0_pay6]
  refine (Words.between _ _ (Words.key_pos _ _ hi kk.isLt) 16384 (by decide)).trans ?_
  congr 1
  refine decide_eq_decide.2 ?_
  omega

theorem named_mask : (Named.named κ "mask" 0xF149F2CA#32 : Ideal .f32) = ⊥ := rfl

/-- the scores a block computes are the scores of its rows -/
theorem scores_eq (c : Dev nD) (t : Fin cfg0.N) (o : ℕ) (ho : S384x256.Slices ![0, o] S384x64) (h : Fin 4) (oh : o = 64 * h.val)
    (hk) (q : Vec Ideal S1x256x64 .bf16) (b : Vec Ideal S1x256x384 .f32) (r : Fin 256) (s : Fin 2) (l : Fin 16384)
    (hs : s.val = t.val / 64) (hl : l.val = 256 * (t.val % 64) + r.val)
    (hq : ∀ ch : Fin 64, q (ix3 0 r ch) = V m c main_v53 (ix3 s l (chan h ch))) (hb : ∀ kk, b (ix3 0 r kk) = V m c main_v49 (ix3 h r kk))
    (kk : Fin 384) :
    Head.scores o ho (Named.named κ "mask" 0xF149F2CA#32) (k0_pay6 (grid0.coords t))
      (k0_pay4 (View.ld (iblk m c 1 t) (Rect.unit (k0_off1 (grid0.coords t)) ![1, 384, 256] hk))) q b (ix2 r kk)
      = row (V m c main_v53) (V m c main_v58) (V m c main_v49) s l h kk := by
  have hd : l.val / 256 = t.val % 64 := by omega
  have hr : (⟨l.val % 256, by omega⟩ : Fin 256) = r := Fin.ext (by simp only; omega)
  rw [Head.scores_at, mask_at, named_mask, coord t, row, hb, hr]
  have key : ∀ ch : Fin 64, k0_pay4 (F := Ideal) (View.ld (iblk m c 1 t) (Rect.unit (k0_off1 (grid0.coords t)) ![1, 384, 256] hk))
      (ix2 kk ⟨o + ch.val, Head.channel_lt o ho ch⟩) = V m c main_v58 (ix3 s (at_ l kk) (chan h ch)) := by
    intro ch
    pointwise [k0_pay4]
    blk_point [iblk, V, idx t, coord t, at_, chan, k0_off1]
    rw [Words.start _ (Nat.mod_lt _ (by decide))]; omega
  simp only [hq, key, Inside, hd]
  by_cases hin : 64 ≤ 256 * (t.val % 64) + kk.val ∧ 256 * (t.val % 64) + kk.val < 16448
  · rw [if_pos hin, decide_eq_true hin]; rfl
  · rw [if_neg hin, decide_eq_false hin]; rfl

theorem values_eq (c : Dev nD) (t : Fin cfg0.N) (hk) (s : Fin 2) (l : Fin 16384) (kk : Fin 384) (ch ch' : Fin 256)
    (hs : s.val = t.val / 64) (hl : l.val / 256 = t.val % 64) (hc : ch.val = ch'.val) :
    k0_pay5 (F := Ideal) (View.ld (iblk m c 2 t) (Rect.unit (k0_off1 (grid0.coords t)) ![1, 384, 256] hk)) (ix2 kk ch)
      = V m c main_v63 (ix3 s (at_ l kk) ch') := by
  pointwise [k0_pay5]
  blk_point [iblk, V, idx t, coord t, at_, chan, k0_off1]
  rw [Words.start _ (Nat.mod_lt _ (by decide))]; omega

/-! The payloads of the four heads, each as the computation of one head -/

section Payloads

variable (i : grid0.Coords) (k v : Vec Ideal S1x384x256 .bf16) (q : Vec Ideal S1x256x64 .bf16) (b : Vec Ideal S1x256x384 .f32)

/-- one head's scores at a grid point, from the windows of keys loaded there -/
def sc (o : ℕ) (ho : S384x256.Slices ![0, o] S384x64) : FVec Ideal S256x384 .f32 :=
  Head.scores o ho (Named.named κ "mask" 0xF149F2CA#32) (k0_pay6 i) (k0_pay4 k) q b

theorem mix0 : k0_pay13 (k0_pay11 i k q b) (k0_pay12 v)
    = Head.mixed 0 slices_S384x256_o0_0_S384x64 (sc i k q b 0 slices_S384x256_o0_0_S384x64) (k0_pay5 v) := rfl
theorem mix1 : k0_pay22 (k0_pay20 (k0_pay4 k) (k0_pay6 i) q b) (k0_pay21 (k0_pay5 v))
    = Head.mixed 64 slices_S384x256_o0_64_S384x64 (sc i k q b 64 slices_S384x256_o0_64_S384x64) (k0_pay5 v) := rfl
theorem mix2 : k0_pay31 (k0_pay29 (k0_pay4 k) (k0_pay6 i) q b) (k0_pay30 (k0_pay5 v))
    = Head.mixed 128 slices_S384x256_o0_128_S384x64 (sc i k q b 128 slices_S384x256_o0_128_S384x64) (k0_pay5 v) := rfl
theorem mix3 : k0_pay1 (k0_pay38 (k0_pay4 k) (k0_pay6 i) q b) (k0_pay39 (k0_pay5 v))
    = Head.mixed 192 slices_S384x256_o0_192_S384x64 (sc i k q b 192 slices_S384x256_o0_192_S384x64) (k0_pay5 v) := rfl
theorem top0 : k0_pay14 (k0_pay8 i k q b)
    = Head.spread (Head.maxima (sc i k q b 0 slices_S384x256_o0_0_S384x64)) := rfl
theorem top1 : k0_pay23 (k0_pay17 (k0_pay4 k) (k0_pay6 i) q b)
    = Head.spread (Head.maxima (sc i k q b 64 slices_S384x256_o0_64_S384x64)) := rfl
theorem top2 : k0_pay32 (k0_pay26 (k0_pay4 k) (k0_pay6 i) q b)
    = Head.spread (Head.maxima (sc i k q b 128 slices_S384x256_o0_128_S384x64)) := rfl
theorem top3 : k0_pay2 (k0_pay35 (k0_pay4 k) (k0_pay6 i) q b)
    = Head.spread (Head.maxima (sc i k q b 192 slices_S384x256_o0_192_S384x64)) := rfl
theorem total0 : k0_pay15 (k0_pay10 i k q b)
    = Head.spread (Head.totals (sc i k q b 0 slices_S384x256_o0_0_S384x64)) := rfl
theorem total1 : k0_pay24 (k0_pay19 (k0_pay4 k) (k0_pay6 i) q b)
    = Head.spread (Head.totals (sc i k q b 64 slices_S384x256_o0_64_S384x64)) := rfl
theorem total2 : k0_pay33 (k0_pay28 (k0_pay4 k) (k0_pay6 i) q b)
    = Head.spread (Head.totals (sc i k q b 128 slices_S384x256_o0_128_S384x64)) := rfl
theorem total3 : k0_pay3 (k0_pay37 (k0_pay4 k) (k0_pay6 i) q b)
    = Head.spread (Head.totals (sc i k q b 192 slices_S384x256_o0_192_S384x64)) := rfl

end Payloads

theorem head_of (h : Fin 4) (ch : Fin 64) (j : S2x16384x256.Idx) (hc : (j 2).val = 64 * h.val + ch.val) :
    (⟨(j 2).val / 64, Nat.div_lt_of_lt_mul (j 2).isLt⟩ : Fin 4) = h := Fin.ext (by simp only; omega)

/-- a head's mixed values in its channels of a block -/
theorem mix_eq (c : Dev nD) (t : Fin cfg0.N) (o : ℕ) (ho : S384x256.Slices ![0, o] S384x64) (h : Fin 4) (oh : o = 64 * h.val)
    (hk hv) (q : Vec Ideal S1x256x64 .bf16) (b : Vec Ideal S1x256x384 .f32) (r : Fin 256) (ch : Fin 64) (j : S2x16384x256.Idx)
    (hs : (j 0).val = t.val / 64) (hl : (j 1).val = 256 * (t.val % 64) + r.val) (hc : (j 2).val = 64 * h.val + ch.val)
    (hq : ∀ c' : Fin 64, q (ix3 0 r c') = V m c main_v53 (ix3 (j 0) (j 1) (chan h c')))
    (hb : ∀ kk, b (ix3 0 r kk) = V m c main_v49 (ix3 h r kk)) :
    Head.mixed o ho (sc (grid0.coords t) (View.ld (iblk m c 1 t) (Rect.unit (k0_off1 (grid0.coords t)) ![1, 384, 256] hk)) q b o ho)
        (k0_pay5 (View.ld (iblk m c 2 t) (Rect.unit (k0_off1 (grid0.coords t)) ![1, 384, 256] hv))) (ix3 0 r ch)
      = G4 (V m c main_v53) (V m c main_v58) (V m c main_v63) (V m c main_v49) j := by
  rw [Head.mixed_at, G4, head_of h ch j hc]
  congr 1
  · funext kk
    exact scores_eq m c t o ho h oh hk q b r (j 0) (j 1) hs hl hq hb kk
  · funext kk
    exact values_eq m c t hv (j 0) (j 1) kk _ _ hs (by omega) (by simp only; omega)

/-- a head's maximum in its channels of a block -/
theorem top_eq (c : Dev nD) (t : Fin cfg0.N) (o : ℕ) (ho : S384x256.Slices ![0, o] S384x64) (h : Fin 4) (oh : o = 64 * h.val)
    (hk) (q : Vec Ideal S1x256x64 .bf16) (b : Vec Ideal S1x256x384 .f32) (r : Fin 256) (ch : Fin 64) (j : S2x16384x256.Idx)
    (hs : (j 0).val = t.val / 64) (hl : (j 1).val = 256 * (t.val % 64) + r.val) (hc : (j 2).val = 64 * h.val + ch.val)
    (hq : ∀ c' : Fin 64, q (ix3 0 r c') = V m c main_v53 (ix3 (j 0) (j 1) (chan h c')))
    (hb : ∀ kk, b (ix3 0 r kk) = V m c main_v49 (ix3 h r kk)) :
    Head.spread (Head.maxima (sc (grid0.coords t) (View.ld (iblk m c 1 t)
        (Rect.unit (k0_off1 (grid0.coords t)) ![1, 384, 256] hk)) q b o ho)) (ix3 0 r ch)
      = G5 (V m c main_v53) (V m c main_v58) (V m c main_v49) j := by
  rw [Head.spread_at, Head.maxima_at, G5, head_of h ch j hc]
  congr 1
  funext kk
  exact scores_eq m c t o ho h oh hk q b r (j 0) (j 1) hs hl hq hb kk

/-- a head's sum of exponentials in its channels of a block -/
theorem total_eq (c : Dev nD) (t : Fin cfg0.N) (o : ℕ) (ho : S384x256.Slices ![0, o] S384x64) (h : Fin 4) (oh : o = 64 * h.val)
    (hk) (q : Vec Ideal S1x256x64 .bf16) (b : Vec Ideal S1x256x384 .f32) (r : Fin 256) (ch : Fin 64) (j : S2x16384x256.Idx)
    (hs : (j 0).val = t.val / 64) (hl : (j 1).val = 256 * (t.val % 64) + r.val) (hc : (j 2).val = 64 * h.val + ch.val)
    (hq : ∀ c' : Fin 64, q (ix3 0 r c') = V m c main_v53 (ix3 (j 0) (j 1) (chan h c')))
    (hb : ∀ kk, b (ix3 0 r kk) = V m c main_v49 (ix3 h r kk)) :
    Head.spread (Head.totals (sc (grid0.coords t) (View.ld (iblk m c 1 t)
        (Rect.unit (k0_off1 (grid0.coords t)) ![1, 384, 256] hk)) q b o ho)) (ix3 0 r ch)
      = G6 (V m c main_v53) (V m c main_v58) (V m c main_v49) j := by
  rw [Head.spread_at, Head.totals_at, G6, head_of h ch j hc]
  congr 1
  funext kk
  exact scores_eq m c t o ho h oh hk q b r (j 0) (j 1) hs hl hq hb kk

theorem queries_blk (c : Dev nD) (t : Fin cfg0.N) (r ch : Fin 256)
    (s : Fin 2) (l : Fin 16384) (hs : s.val = t.val / 64) (hl : l.val = 256 * (t.val % 64) + r.val) :
    (iblk m c 0 t : Vec Ideal S1x256x256 .bf16) (ix3 0 r ch) = V m c main_v53 (ix3 s l ch) := by
  blk_ext [iblk, V, idx t]

theorem biases_blk (c : Dev nD) (t : Fin cfg0.N) (h : Fin 4) (r : Fin 256) (kk : Fin 384) :
    (iblk m c 3 t : Vec Ideal S4x256x384 .f32) (ix3 h r kk) = V m c main_v49 (ix3 h r kk) := by
  blk_ext [iblk, V, idx t]

/-- one head's channels of a block of queries -/
theorem queries_ld (c : Dev nD) (t : Fin cfg0.N) (o : ℕ) (h : Fin 4) (oh : o = 64 * h.val) (hk) (r : Fin 256) (s : Fin 2) (l : Fin 16384)
    (hs : s.val = t.val / 64) (hl : l.val = 256 * (t.val % 64) + r.val) : ∀ c' : Fin 64,
    View.ld (iblk m c 0 t) (Rect.unit ![0, 0, o] ![1, 256, 64] hk) (ix3 0 r c') = V m c main_v53 (ix3 s l (chan h c')) := by
  intro c'
  pointwise
  exact (queries_blk m c t r _ s l hs hl).trans (congrArg (fun z => V m c main_v53 (ix3 s l z)) (Fin.ext (by simp only [chan]; omega)))

/-- one head's block of biases -/
theorem biases_ld (c : Dev nD) (t : Fin cfg0.N) (o : ℕ) (h : Fin 4) (oh : o = h.val) (hk) (r : Fin 256) : ∀ kk : Fin 384,
    View.ld (iblk m c 3 t) (Rect.unit ![o, 0, 0] ![1, 256, 384] hk) (ix3 0 r kk) = V m c main_v49 (ix3 h r kk) := by
  intro kk
  pointwise
  exact (biases_blk m c t _ r kk).trans (congrArg (fun z => V m c main_v49 (ix3 z r kk)) (Fin.ext (by simp only; omega)))

theorem emb4 (t : Fin cfg0.N) (y : S1x256x256.Idx) :
    ((((View.whole main_v64_0).slice (win0_4.rect t)).emb y : S2x16384x256.Idx) 0).val = t.val / 64
    ∧ ((((View.whole main_v64_0).slice (win0_4.rect t)).emb y : S2x16384x256.Idx) 1).val = 256 * (t.val % 64) + (y 1).val
    ∧ ((((View.whole main_v64_0).slice (win0_4.rect t)).emb y : S2x16384x256.Idx) 2).val = (y 2).val := by
  have h0 : (y 0).val < 1 := (y 0).isLt
  refine ⟨?_, ?_, ?_⟩ <;> blk_simp [idx t] <;> omega

theorem emb5 (t : Fin cfg0.N) (y : S1x256x256.Idx) :
    ((((View.whole main_v64_1).slice (win0_5.rect t)).emb y : S2x16384x256.Idx) 0).val = t.val / 64
    ∧ ((((View.whole main_v64_1).slice (win0_5.rect t)).emb y : S2x16384x256.Idx) 1).val = 256 * (t.val % 64) + (y 1).val
    ∧ ((((View.whole main_v64_1).slice (win0_5.rect t)).emb y : S2x16384x256.Idx) 2).val = (y 2).val := by
  have h0 : (y 0).val < 1 := (y 0).isLt
  refine ⟨?_, ?_, ?_⟩ <;> blk_simp [idx t] <;> omega

theorem emb6 (t : Fin cfg0.N) (y : S1x256x256.Idx) :
    ((((View.whole main_v64_2).slice (win0_6.rect t)).emb y : S2x16384x256.Idx) 0).val = t.val / 64
    ∧ ((((View.whole main_v64_2).slice (win0_6.rect t)).emb y : S2x16384x256.Idx) 1).val = 256 * (t.val % 64) + (y 1).val
    ∧ ((((View.whole main_v64_2).slice (win0_6.rect t)).emb y : S2x16384x256.Idx) 2).val = (y 2).val := by
  have h0 : (y 0).val < 1 := (y 0).isLt
  refine ⟨?_, ?_, ?_⟩ <;> blk_simp [idx t] <;> omega

end Cert.KernelValue

end
-- ==== Proof.FinalMixed.lean ====
/- The kernel's first result: the mixed values, over the whole array. -/
module

public import proofs.«01_k».proof.Proof.Gen.KernelIdeal.Value
public import Idealize.ShloMosaic.Lib.Pipeline.ValueKit
public import proofs.«01_k».proof.Proof.KernelValue

@[expose] public section

set_option maxRecDepth 16384

noncomputable section

namespace Cert.KernelValue

open Cert.KernelIdeal Cert.KernelIdeal.Gen Idealize.ShloMosaic Idealize.ShloMosaic.TcCoe

variable (m : (ℓ : Loc nD τ sig) → Buf (Elt Ideal) ℓ)

set_option maxHeartbeats 1000000 in
theorem final4 (c : Dev nD) : (dats m 0 c).arrAt 4 (cfgs 0).N
    = G4 (V m c main_v53) (V m c main_v58) (V m c main_v63) (V m c main_v49) := by
  refine (dats m 0 c).arrAt_eq_of_covers 4 _ (by decide +kernel) fun t hf y => ?_
  obtain ⟨e0, e1, e2⟩ := emb4 t y
  blk_simp
  rw [after0_4]
  unfold outsAt0
  frame_out
  canon_tiles x h
  all_goals idx_vars x
  all_goals obtain rfl : x0 = 0 := Subsingleton.elim _ _
  case' piece3 => rw [mix0]; refine mix_eq m c t 0 _ 0 rfl _ _ _ _ x1 x2 _ e0 (e1.trans ?_) (e2.trans ?_) ?_ ?_
  case' piece2 => rw [mix1]; refine mix_eq m c t 64 _ 1 rfl _ _ _ _ x1 x2 _ e0 (e1.trans ?_) (e2.trans ?_) ?_ ?_
  case' piece1 => rw [mix2]; refine mix_eq m c t 128 _ 2 rfl _ _ _ _ x1 x2 _ e0 (e1.trans ?_) (e2.trans ?_) ?_ ?_
  case' piece0 => rw [mix3]; refine mix_eq m c t 192 _ 3 rfl _ _ _ _ x1 x2 _ e0 (e1.trans ?_) (e2.trans ?_) ?_ ?_
  case' piece3.refine_3 => exact queries_ld m c t 0 0 rfl _ x1 _ _ e0 (e1.trans (by rw [h1]))
  case' piece2.refine_3 => exact queries_ld m c t 64 1 rfl _ x1 _ _ e0 (e1.trans (by rw [h1]))
  case' piece1.refine_3 => exact queries_ld m c t 128 2 rfl _ x1 _ _ e0 (e1.trans (by rw [h1]))
  case' piece0.refine_3 => exact queries_ld m c t 192 3 rfl _ x1 _ _ e0 (e1.trans (by rw [h1]))
  case' piece3.refine_4 => exact biases_ld m c t 0 0 rfl _ x1
  case' piece2.refine_4 => exact biases_ld m c t 1 1 rfl _ x1
  case' piece1.refine_4 => exact biases_ld m c t 2 2 rfl _ x1
  case' piece0.refine_4 => exact biases_ld m c t 3 3 rfl _ x1
  case' piece3.refine_1 => rw [h1]
  case' piece2.refine_1 => rw [h1]
  case' piece1.refine_1 => rw [h1]
  case' piece0.refine_1 => rw [h1]
  case' piece3.refine_2 => exact h2.trans (Nat.zero_add _).symm
  case' piece2.refine_2 => exact h2
  case' piece1.refine_2 => exact h2
  case' piece0.refine_2 => exact h2

end Cert.KernelValue

end
-- ==== Proof.FinalTop.lean ====
/- The kernel's second result: the greatest scores, over the whole array. -/
module

public import proofs.«01_k».proof.Proof.Gen.KernelIdeal.Value
public import Idealize.ShloMosaic.Lib.Pipeline.ValueKit
public import proofs.«01_k».proof.Proof.KernelValue

@[expose] public section

set_option maxRecDepth 16384

noncomputable section

namespace Cert.KernelValue

open Cert.KernelIdeal Cert.KernelIdeal.Gen Idealize.ShloMosaic Idealize.ShloMosaic.TcCoe

variable (m : (ℓ : Loc nD τ sig) → Buf (Elt Ideal) ℓ)

set_option maxHeartbeats 1000000 in
theorem final5 (c : Dev nD) : (dats m 0 c).arrAt 5 (cfgs 0).N
    = G5 (V m c main_v53) (V m c main_v58) (V m c main_v49) := by
  refine (dats m 0 c).arrAt_eq_of_covers 5 _ (by decide +kernel) fun t hf y => ?_
  obtain ⟨e0, e1, e2⟩ := emb5 t y
  blk_simp
  rw [after0_5]
  unfold outsAt0
  frame_out
  canon_tiles x h
  all_goals idx_vars x
  all_goals obtain rfl : x0 = 0 := Subsingleton.elim _ _
  case' piece3 => rw [top0]; refine top_eq m c t 0 _ 0 rfl _ _ _ x1 x2 _ e0 (e1.trans ?_) (e2.trans ?_) ?_ ?_
  case' piece2 => rw [top1]; refine top_eq m c t 64 _ 1 rfl _ _ _ x1 x2 _ e0 (e1.trans ?_) (e2.trans ?_) ?_ ?_
  case' piece1 => rw [top2]; refine top_eq m c t 128 _ 2 rfl _ _ _ x1 x2 _ e0 (e1.trans ?_) (e2.trans ?_) ?_ ?_
  case' piece0 => rw [top3]; refine top_eq m c t 192 _ 3 rfl _ _ _ x1 x2 _ e0 (e1.trans ?_) (e2.trans ?_) ?_ ?_
  case' piece3.refine_3 => exact queries_ld m c t 0 0 rfl _ x1 _ _ e0 (e1.trans (by rw [h1]))
  case' piece2.refine_3 => exact queries_ld m c t 64 1 rfl _ x1 _ _ e0 (e1.trans (by rw [h1]))
  case' piece1.refine_3 => exact queries_ld m c t 128 2 rfl _ x1 _ _ e0 (e1.trans (by rw [h1]))
  case' piece0.refine_3 => exact queries_ld m c t 192 3 rfl _ x1 _ _ e0 (e1.trans (by rw [h1]))
  case' piece3.refine_4 => exact biases_ld m c t 0 0 rfl _ x1
  case' piece2.refine_4 => exact biases_ld m c t 1 1 rfl _ x1
  case' piece1.refine_4 => exact biases_ld m c t 2 2 rfl _ x1
  case' piece0.refine_4 => exact biases_ld m c t 3 3 rfl _ x1
  case' piece3.refine_1 => rw [h1]
  case' piece2.refine_1 => rw [h1]
  case' piece1.refine_1 => rw [h1]
  case' piece0.refine_1 => rw [h1]
  case' piece3.refine_2 => exact h2.trans (Nat.zero_add _).symm
  case' piece2.refine_2 => exact h2
  case' piece1.refine_2 => exact h2
  case' piece0.refine_2 => exact h2

end Cert.KernelValue

end
-- ==== Proof.FinalTotal.lean ====
/- The kernel's third result: the sums of exponentials, over the whole array. -/
module

public import proofs.«01_k».proof.Proof.Gen.KernelIdeal.Value
public import Idealize.ShloMosaic.Lib.Pipeline.ValueKit
public import proofs.«01_k».proof.Proof.KernelValue

@[expose] public section

set_option maxRecDepth 16384

noncomputable section

namespace Cert.KernelValue

open Cert.KernelIdeal Cert.KernelIdeal.Gen Idealize.ShloMosaic Idealize.ShloMosaic.TcCoe

variable (m : (ℓ : Loc nD τ sig) → Buf (Elt Ideal) ℓ)

set_option maxHeartbeats 1000000 in
theorem final6 (c : Dev nD) : (dats m 0 c).arrAt 6 (cfgs 0).N
    = G6 (V m c main_v53) (V m c main_v58) (V m c main_v49) := by
  refine (dats m 0 c).arrAt_eq_of_covers 6 _ (by decide +kernel) fun t hf y => ?_
  obtain ⟨e0, e1, e2⟩ := emb6 t y
  blk_simp
  rw [after0_6]
  unfold outsAt0
  frame_out
  canon_tiles x h
  all_goals idx_vars x
  all_goals obtain rfl : x0 = 0 := Subsingleton.elim _ _
  case' piece3 => rw [total0]; refine total_eq m c t 0 _ 0 rfl _ _ _ x1 x2 _ e0 (e1.trans ?_) (e2.trans ?_) ?_ ?_
  case' piece2 => rw [total1]; refine total_eq m c t 64 _ 1 rfl _ _ _ x1 x2 _ e0 (e1.trans ?_) (e2.trans ?_) ?_ ?_
  case' piece1 => rw [total2]; refine total_eq m c t 128 _ 2 rfl _ _ _ x1 x2 _ e0 (e1.trans ?_) (e2.trans ?_) ?_ ?_
  case' piece0 => rw [total3]; refine total_eq m c t 192 _ 3 rfl _ _ _ x1 x2 _ e0 (e1.trans ?_) (e2.trans ?_) ?_ ?_
  case' piece3.refine_3 => exact queries_ld m c t 0 0 rfl _ x1 _ _ e0 (e1.trans (by rw [h1]))
  case' piece2.refine_3 => exact queries_ld m c t 64 1 rfl _ x1 _ _ e0 (e1.trans (by rw [h1]))
  case' piece1.refine_3 => exact queries_ld m c t 128 2 rfl _ x1 _ _ e0 (e1.trans (by rw [h1]))
  case' piece0.refine_3 => exact queries_ld m c t 192 3 rfl _ x1 _ _ e0 (e1.trans (by rw [h1]))
  case' piece3.refine_4 => exact biases_ld m c t 0 0 rfl _ x1
  case' piece2.refine_4 => exact biases_ld m c t 1 1 rfl _ x1
  case' piece1.refine_4 => exact biases_ld m c t 2 2 rfl _ x1
  case' piece0.refine_4 => exact biases_ld m c t 3 3 rfl _ x1
  case' piece3.refine_1 => rw [h1]
  case' piece2.refine_1 => rw [h1]
  case' piece1.refine_1 => rw [h1]
  case' piece0.refine_1 => rw [h1]
  case' piece3.refine_2 => exact h2.trans (Nat.zero_add _).symm
  case' piece2.refine_2 => exact h2
  case' piece1.refine_2 => exact h2
  case' piece0.refine_2 => exact h2

end Cert.KernelValue

end
-- ==== Proof.Operands.lean ====
/- The arrays the kernel's call is given, as the host lays them out: the columns of the queries, the keys and values with rows added at
   both ends, the table of biases; and what each holds at an index. -/
module

public import proofs.«01_k».proof.Proof.Gen.KernelIdeal.Value
public import Idealize.ShloMosaic.Lib.Claim
public import Idealize.ShloMosaic.Lib.StableHlo.RunRead
public import Idealize.ShloMosaic.Lib.Pointwise
public import proofs.«01_k».proof.Proof.Words
public import proofs.«01_k».proof.Proof.Bucket
public import proofs.«01_k».proof.Proof.Head

@[expose] public section

set_option maxRecDepth 16384

noncomputable section

namespace Cert.Operands

open Cert.KernelIdeal Cert.KernelIdeal.Gen Idealize.ShloMosaic Idealize.ShloMosaic.TcCoe

variable (m : (ℓ : Loc nD τ sig) → Buf (Elt Ideal) ℓ)

/-- how far each key of a window lies from its query -/
def stepsK : IVec S256x384 32 :=
  subi (broadcastInDim S256x384 ![0, 1] bcast_S1x384_S256x384_0_1 (subi (broadcastInDim S1x384 ![1] bcast_S384_S1x384_1 (iotaInDim S384 32 0))
      (broadcastInDim S1x384 ![] bcast_S_S1x384 (constantI S_ 32 64#32))))
    (broadcastInDim S256x384 ![0, 1] bcast_S256x1_S256x384_0_1 (broadcastInDim S256x1 ![0] bcast_S256_S256x1_0 (iotaInDim S256 32 0)))

/-- the same distance in positions of the whole sequence -/
def wordsK : IVec S256x384 32 := muli stepsK (broadcastInDim S256x384 ![] bcast_S_S256x384 (constantI S_ 32 1#32))

/-- the bucket of each distance -/
def bucketsK : IVec S256x384 32 :=
  addi (select (cmpi .sgt wordsK (broadcastInDim S256x384 ![] bcast_S_S256x384 (constantI S_ 32 0#32)))
      (broadcastInDim S256x384 ![] bcast_S_S256x384 (constantI S_ 32 16#32)) (broadcastInDim S256x384 ![] bcast_S_S256x384 (constantI S_ 32 0#32)))
    (select (cmpi .slt (absi wordsK) (broadcastInDim S256x384 ![] bcast_S_S256x384 (constantI S_ 32 8#32))) (absi wordsK)
      (minsi (addi (broadcastInDim S256x384 ![] bcast_S_S256x384 (constantI S_ 32 8#32))
          (fptosi 32 (mulf (Host.divf (Host.log (Host.divf (sitofp (F := Ideal) .f32 (maxsi (absi wordsK)
              (broadcastInDim S256x384 ![] bcast_S_S256x384 (constantI S_ 32 1#32))))
              (broadcastInDim S256x384 ![] bcast_S_S256x384 (constant S_ .f32 0x41000000#32))))
            (broadcastInDim S256x384 ![] bcast_S_S256x384 (constant S_ .f32 0x409B43D5#32)))
            (broadcastInDim S256x384 ![] bcast_S_S256x384 (constant S_ .f32 0x41000000#32)))))
        (broadcastInDim S256x384 ![] bcast_S_S256x384 (constantI S_ 32 15#32))))

/-- the biases of a block of queries, −∞ outside the band -/
def biasK (T : FVec Ideal S32x12 .f32) : FVec Ideal S4x256x384 .f32 :=
  select (broadcastInDim S4x256x384 ![0, 1, 2] bcast_S1x256x384_S4x256x384_0_1_2 (broadcastInDim S1x256x384 ![1, 2] bcast_S256x384_S1x256x384_1_2
      (cmpi .sle (absi stepsK) (broadcastInDim S256x384 ![] bcast_S_S256x384 (constantI S_ 32 64#32)))))
    (Host.reduceAdd (select (broadcastInDim S32x4x256x384 ![0, 1, 2, 3] bcast_S32x1x256x384_S32x4x256x384_0_1_2_3
        (cmpi .eq (broadcastInDim S32x1x256x384 ![0, 1, 2, 3] bcast_S1x1x256x384_S32x1x256x384_0_1_2_3
            (broadcastInDim S1x1x256x384 ![2, 3] bcast_S256x384_S1x1x256x384_2_3 bucketsK))
          (broadcastInDim S32x1x256x384 ![0, 1, 2, 3] bcast_S32x1x1x1_S32x1x256x384_0_1_2_3 (broadcastInDim S32x1x1x1 ![0] bcast_S32_S32x1x1x1_0 (iotaInDim S32 32 0)))))
      (broadcastInDim S32x4x256x384 ![0, 1, 2, 3] bcast_S32x4x1x1_S32x4x256x384_0_1_2_3 (broadcastInDim S32x4x1x1 ![0, 1] bcast_S32x4_S32x4x1x1_0_1
        (extractStridedSlice S32x4 ![0, 0] T slices_S32x12_S32x4_0_0)))
      (broadcastInDim S32x4x256x384 ![] bcast_S_S32x4x256x384 (constant S_ .f32 0x00000000#32)))
      (constant S_ .f32 0x00000000#32) reducesTo_S32x4x256x384_S4x256x384_d0 h_S_)
    (broadcastInDim S4x256x384 ![] bcast_S_S4x256x384 (constant S_ .f32 0xFF800000#32))

/-- one group's columns of the layer's queries, keys or values, as sequences -/
def colsK (o : ℕ) (ho : S32768x2304.Slices ![0, o] S32768x256) (X : FVec Ideal S32768x2304 .bf16) : FVec Ideal S2x16384x256 .bf16 :=
  shapeCast S2x16384x256 (transpose S2x1x16384x256 [0, 2, 1, 3] (shapeCast S2x16384x1x256 (extractStridedSlice S32768x256 ![0, o] X ho)
    shapeCasts_S32768x256_S2x16384x1x256) transposes_S2x16384x1x256_S2x1x16384x256_0_2_1_3) shapeCasts_S2x1x16384x256_S2x16384x256

/-- the same between 64 zeros on either side -/
def paddedK (o : ℕ) (ho : S32768x2304.Slices ![0, o] S32768x256) (X : FVec Ideal S32768x2304 .bf16) : FVec Ideal S2x16512x256 .bf16 :=
  pad S2x16512x256 ![0, 64, 0] ![0, 64, 0] ![0, 0, 0] (colsK o ho X) (sitofp .bf16 (constantI S_ 32 0#32)) pads_S2x16384x256_S2x16512x256_000_64640_000 h_S_

theorem V_q (c : Dev nD) : V m c main_v53 = colsK 0 slices_S32768x2304_S32768x256_0_0 (m ((c : Thread nD τ).loc main_arg0)) := by
  unfold V
  simp only [hostOps0, hostOps0_1, hostOps0_2, hostOps0_3, hostOps0_4, hostOps0_5, hostOps0_6, hostOps0_7, hostOps0_8, hostOps0_9,
    hostOps0_10, hostOps0_11, List.flatten_cons, List.flatten_nil, List.append_nil, List.cons_append, List.nil_append]
  after_reads_simp
  rfl

theorem V_k (c : Dev nD) : V m c main_v58 = paddedK 768 slices_S32768x2304_S32768x256_0_768 (m ((c : Thread nD τ).loc main_arg0)) := by
  unfold V
  simp only [hostOps0, hostOps0_1, hostOps0_2, hostOps0_3, hostOps0_4, hostOps0_5, hostOps0_6, hostOps0_7, hostOps0_8, hostOps0_9,
    hostOps0_10, hostOps0_11, List.flatten_cons, List.flatten_nil, List.append_nil, List.cons_append, List.nil_append]
  after_reads_simp
  rfl

theorem V_v (c : Dev nD) : V m c main_v63 = paddedK 1536 slices_S32768x2304_S32768x256_0_1536 (m ((c : Thread nD τ).loc main_arg0)) := by
  unfold V
  simp only [hostOps0, hostOps0_1, hostOps0_2, hostOps0_3, hostOps0_4, hostOps0_5, hostOps0_6, hostOps0_7, hostOps0_8, hostOps0_9,
    hostOps0_10, hostOps0_11, List.flatten_cons, List.flatten_nil, List.append_nil, List.cons_append, List.nil_append]
  after_reads_simp
  rfl

theorem V_b (c : Dev nD) : V m c main_v49 = biasK (m ((c : Thread nD τ).loc main_arg1)) := by
  unfold V
  simp only [hostOps0, hostOps0_1, hostOps0_2, hostOps0_3, hostOps0_4, hostOps0_5, hostOps0_6, hostOps0_7, hostOps0_8, hostOps0_9,
    hostOps0_10, hostOps0_11, List.flatten_cons, List.flatten_nil, List.append_nil, List.cons_append, List.nil_append]
  after_reads_simp
  simp only [StableHlo.TRef.ofBuf_toBuf]
  unfold biasK bucketsK wordsK stepsK
  rfl

theorem cols_at (o : ℕ) (ho : S32768x2304.Slices ![0, o] S32768x256) (X : FVec Ideal S32768x2304 .bf16) (s : Fin 2) (l : Fin 16384)
    (ch : Fin 256) (r : Fin 32768) (cc : Fin 2304) (hr : r.val = 16384 * s.val + l.val) (hc : cc.val = o + ch.val) :
    colsK o ho X (ix3 s l ch) = X (ix2 r cc) := by
  pointwise [colsK]
  congr 2 <;> apply Fin.ext <;> simp only <;> omega

theorem padded_at (o : ℕ) (ho : S32768x2304.Slices ![0, o] S32768x256) (X : FVec Ideal S32768x2304 .bf16) (s : Fin 2) (l : Fin 16512)
    (ch : Fin 256) (r : Fin 32768) (cc : Fin 2304) (hl : 64 ≤ l.val ∧ l.val < 16448) (hr : r.val + 64 = 16384 * s.val + l.val)
    (hc : cc.val = o + ch.val) : paddedK o ho X (ix3 s l ch) = X (ix2 r cc) := by
  pointwise [paddedK]
  rw [dif_pos (by omega)]
  exact cols_at o ho X s _ ch r cc (by simp only; omega) hc

/-- the distance from a query to a key of its window -/
theorem step_at (r : Fin 256) (kk : Fin 384) : (stepsK (ix2 r kk)).toInt = (kk.val : ℤ) - 64 - r.val := by
  pointwise [stepsK]
  exact Words.step 64 kk.val r.val (by omega) (by omega) (by omega)

/-- the kernel's bias: the table's row of the distance's bucket within the band, −∞ outside it -/
theorem bias_at (T : FVec Ideal S32x12 .f32) (h : Fin 4) (r : Fin 256) (kk : Fin 384) (h' : Fin 12) (hh : h'.val = h.val) :
    biasK T (ix3 h r kk) = if r.val ≤ kk.val ∧ kk.val ≤ r.val + 128
      then Bucket.pick (fun b => T (ix2 b h')) (IntOp.muli (stepsK (ix2 r kk)) 1#32) else ⊥ := by
  have hw := step_at r kk
  pointwise [biasK, bucketsK, wordsK]
  generalize stepsK (ix2 r kk) = w at hw
  rw [Words.band w _ hw (by omega), Head.neg_inf]
  by_cases hb : r.val ≤ kk.val ∧ kk.val ≤ r.val + 128
  · rw [if_pos hb, decide_eq_true (by omega)]
    have hp := Bucket.sum_pick (fun b => T (ix2 b h')) (IntOp.muli w 1#32)
      (by rw [Words.times w _ hw 1 (by omega) (by omega)]; omega)
    have he : (⟨h.val, by omega⟩ : Fin 12) = h' := Fin.ext hh.symm
    rw [← he] at hp ⊢
    exact hp
  · rw [if_neg hb, decide_eq_false (by omega)]; rfl

end Cert.Operands

end
-- ==== Proof.Attn.lean ====
/- Dilated attention as the problem's mathematics states it: every position's scores over its band of 129 keys, and the three
   results that follow from them. The kernel's results, block by block, are these. -/
module

public import proofs.«01_k».proof.Proof.FinalMixed
public import proofs.«01_k».proof.Proof.FinalTop
public import proofs.«01_k».proof.Proof.FinalTotal
public import proofs.«01_k».proof.Proof.Operands
public import proofs.«01_k».proof.Proof.Band

@[expose] public section

set_option maxRecDepth 16384

noncomputable section

namespace Cert.Attn

open Cert.KernelIdeal Cert.KernelIdeal.Gen Idealize.ShloMosaic Idealize.ShloMosaic.TcCoe Cert.KernelValue Cert.Operands

/-- the key at offset `j` of position `l`'s band lies inside the sequence -/
def Within (l : Fin 16384) (j : Fin 129) : Prop := 64 ≤ l.val + j.val ∧ l.val + j.val < 16448

instance (l : Fin 16384) (j : Fin 129) : Decidable (Within l j) := inferInstanceAs (Decidable (_ ∧ _))

/-- the row of the layer's arrays that holds position `l` of sequence `s` -/
def rowAt (s : Fin 2) (l : Fin 16384) : Fin 32768 := ⟨16384 * s.val + l.val, by omega⟩

/-- the row that holds the key at offset `j` of its band; a row off the sequence's end stands for none -/
def keyAt (s : Fin 2) (l : Fin 16384) (j : Fin 129) : Fin 32768 := ⟨(16384 * s.val + (l.val + j.val - 64)) % 32768, by omega⟩

/-- channel `c` of the part of the layer's columns that begins at `o` -/
def col (o : ℕ) (ho : o + 256 ≤ 2304) (ch : Fin 256) : Fin 2304 := ⟨o + ch.val, by omega⟩

/-- the bias of the key at offset `j`: the table's entry at the bucket of its distance -/
def bias (T : FVec Ideal S32x12 .f32) (h : Fin 4) (j : Fin 129) : EReal :=
  Bucket.pick (fun b => T (ix2 b (⟨h.val, by omega⟩ : Fin 12))) (IntOp.muli (BitVec.ofInt 32 ((j.val : ℤ) - 64)) 1#32)

/-- position `l`'s scores over its band -/
def score (X : FVec Ideal S32768x2304 .bf16) (T : FVec Ideal S32x12 .f32) (s : Fin 2) (l : Fin 16384) (h : Fin 4) : Fin 129 → EReal := fun j =>
  if Within l j then
    (∑ c : Fin 64, X (ix2 (rowAt s l) (col 0 (by decide) (chan h c))) * X (ix2 (keyAt s l j) (col 768 (by decide) (chan h c))))
      * Ideal.ofBits .f32 0x3E000000#32 + bias T h j
  else ⊥

/-- the head a channel belongs to -/
def headOf (ch : Fin 256) : Fin 4 := ⟨ch.val / 64, Nat.div_lt_of_lt_mul ch.isLt⟩

/-- the values added up with the exponentials of the scores -/
def mixed (X : FVec Ideal S32768x2304 .bf16) (T : FVec Ideal S32x12 .f32) : FVec Ideal S2x16384x256 .f32 := fun j =>
  Band.mix (score X T (j 0) (j 1) (headOf (j 2))) fun i => X (ix2 (keyAt (j 0) (j 1) i) (col 1536 (by decide) (j 2)))

/-- the greatest score -/
def greatest (X : FVec Ideal S32768x2304 .bf16) (T : FVec Ideal S32x12 .f32) : FVec Ideal S2x16384x256 .f32 := fun j =>
  Band.top (score X T (j 0) (j 1) (headOf (j 2)))

/-- the sum of the exponentials -/
def summed (X : FVec Ideal S32768x2304 .bf16) (T : FVec Ideal S32x12 .f32) : FVec Ideal S2x16384x256 .f32 := fun j =>
  Band.total (score X T (j 0) (j 1) (headOf (j 2)))

theorem bias_word (T : FVec Ideal S32x12 .f32) (h : Fin 4) (j : Fin 129) (w : BitVec 32) (hw : w.toInt = (j.val : ℤ) - 64) :
    Bucket.pick (fun b => T (ix2 b (⟨h.val, by omega⟩ : Fin 12))) (IntOp.muli w 1#32) = bias T h j := by
  unfold bias
  rw [← hw, BitVec.ofInt_toInt]

/-- the kernel's row of scores holds the band's at the position's place in its block -/
theorem lies (X : FVec Ideal S32768x2304 .bf16) (T : FVec Ideal S32x12 .f32) (s : Fin 2) (l : Fin 16384) (h : Fin 4) :
    Band.Lies (l.val % 256) (row (colsK 0 slices_S32768x2304_S32768x256_0_0 X) (paddedK 768 slices_S32768x2304_S32768x256_0_768 X) (biasK T) s l h)
      (score X T s l h) where
  fits := by omega
  inside k j hk := by
    have hr : l.val % 256 < 256 := Nat.mod_lt _ (by decide)
    unfold row score
    by_cases hw : Within l j
    · have hi : Inside l k := by unfold Within at hw; unfold Inside; omega
      rw [if_pos hw, if_pos hi]
      unfold Within at hw
      rw [bias_at T h ⟨l.val % 256, hr⟩ k ⟨h.val, by omega⟩ rfl, if_pos (by simp only; omega),
        bias_word T h j _ (by rw [step_at]; simp only; omega)]
      congr 2
      refine Finset.sum_congr rfl fun c _ => ?_
      rw [cols_at 0 _ X s l (chan h c) (rowAt s l) (col 0 (by decide) (chan h c)) rfl rfl,
        padded_at 768 _ X s (at_ l k) (chan h c) (keyAt s l j) (col 768 (by decide) (chan h c)) (by simp only [at_]; omega)
          (by simp only [at_, keyAt]; omega) rfl]
    · have hi : ¬ Inside l k := by unfold Within at hw; unfold Inside; omega
      rw [if_neg hw, if_neg hi]
  outside k hk := by
    have hr : l.val % 256 < 256 := Nat.mod_lt _ (by decide)
    unfold row
    by_cases hi : Inside l k
    · rw [if_pos hi, bias_at T h ⟨l.val % 256, hr⟩ k ⟨h.val, by omega⟩ rfl, if_neg (by simp only; omega), EReal.add_bot]
    · rw [if_neg hi]

theorem G5_eq (X : FVec Ideal S32768x2304 .bf16) (T : FVec Ideal S32x12 .f32) :
    G5 (colsK 0 slices_S32768x2304_S32768x256_0_0 X) (paddedK 768 slices_S32768x2304_S32768x256_0_768 X) (biasK T) = greatest X T :=
  funext fun j => (lies X T (j 0) (j 1) (headOf (j 2))).top_eq

theorem G6_eq (X : FVec Ideal S32768x2304 .bf16) (T : FVec Ideal S32x12 .f32) :
    G6 (colsK 0 slices_S32768x2304_S32768x256_0_0 X) (paddedK 768 slices_S32768x2304_S32768x256_0_768 X) (biasK T) = summed X T :=
  funext fun j => (lies X T (j 0) (j 1) (headOf (j 2))).total_eq

theorem G4_eq (X : FVec Ideal S32768x2304 .bf16) (T : FVec Ideal S32x12 .f32) :
    G4 (colsK 0 slices_S32768x2304_S32768x256_0_0 X) (paddedK 768 slices_S32768x2304_S32768x256_0_768 X)
      (paddedK 1536 slices_S32768x2304_S32768x256_0_1536 X) (biasK T) = mixed X T :=
  funext fun j => (lies X T (j 0) (j 1) (headOf (j 2))).mix_eq fun k i hk => by
    by_cases hw : Within (j 1) i
    · right
      unfold Within at hw
      have h0 : (j 0).val < 2 := (j 0).isLt
      have h1 : (j 1).val < 16384 := (j 1).isLt
      exact padded_at 1536 _ X (j 0) (at_ (j 1) k) (j 2) (keyAt (j 0) (j 1) i) (col 1536 (by decide) (j 2)) (by simp only [at_]; omega)
        (by simp only [at_, keyAt]; omega) rfl
    · left
      exact if_neg hw

end Cert.Attn

end

end
-- ==== Proof.Reference.lean ====
/- The reference's three results, as chains of named steps: the distances' buckets, the windows of keys, the scores, the
   exponentials, and the arrays laid out by position. -/
module

public import proofs.«01_k».proof.Proof.Gen.ReferenceIdeal
public import Idealize.ShloMosaic.Lib.StableHlo.RunRead
public import Idealize.ShloMosaic.Lib.Claim
public import Idealize.ShloMosaic.Lib.Pointwise
public import proofs.«01_k».proof.Proof.Attn

@[expose] public section

set_option maxRecDepth 16384

noncomputable section

namespace Cert.Reference

open Cert.ReferenceIdeal Cert.ReferenceIdeal.Gen Idealize.ShloMosaic Idealize.ShloMosaic.TcCoe

variable (X : FVec Ideal S32768x2304 .bf16) (T : FVec Ideal S32x12 .f32)

/-- how far each key of a window lies from its query -/
def steps : IVec S64x192 32 :=
  subi (broadcastInDim S64x192 ![0, 1] bcast_S1x192_S64x192_0_1 (subi (broadcastInDim S1x192 ![1] bcast_S192_S1x192_1 (iotaInDim S192 32 0))
      (broadcastInDim S1x192 ![] bcast_S_S1x192 (constantI S_ 32 64#32))))
    (broadcastInDim S64x192 ![0, 1] bcast_S64x1_S64x192_0_1 (broadcastInDim S64x1 ![0] bcast_S64_S64x1_0 (iotaInDim S64 32 0)))

/-- one word at every place of a window -/
def word (w : BitVec 32) : IVec S64x192 32 := broadcastInDim S64x192 ![] bcast_S_S64x192 (constantI S_ 32 w)

/-- one number at every place of a window -/
def number (w : BitVec 32) : FVec Ideal S64x192 .f32 := broadcastInDim S64x192 ![] bcast_S_S64x192 (constant S_ .f32 w)

/-- the same distances in positions of the whole sequence -/
def wide : IVec S64x192 32 := muli steps (word 1#32)

/-- the bucket of each distance -/
def buckets : IVec S64x192 32 :=
  addi (id (select (cmpi .sgt wide (word 0#32)) (word 16#32) (word 0#32)))
    (select (cmpi .slt (absi wide) (word 8#32)) (absi wide)
      (minsi (addi (word 8#32) (fptosi 32 (mulf (Host.divf (Host.log (Host.divf (sitofp (F := Ideal) .f32 (maxsi (absi wide) (word 1#32)))
        (number 0x41000000#32))) (number 0x409B43D5#32)) (number 0x41000000#32)))) (word 15#32)))

/-- the table's rows at the buckets -/
def biases (T : FVec Ideal S32x4 .f32) : FVec Ideal S64x192x4 .f32 :=
  Host.gather gather_S32x4_S64x192x1_S64x192x4_2_0_n_n_0_2_14 T
    (broadcastInDim S64x192x1 ![0, 1] bcast_S64x192_S64x192x1_0_1 (select (cmpi .slt buckets (word 0#32)) (addi buckets (word 32#32)) buckets))

/-- the position each place of a window stands for -/
def places : IVec S256x192 32 :=
  subi (addi (broadcastInDim S256x192 ![0, 1] bcast_S256x1_S256x192_0_1 (muli (broadcastInDim S256x1 ![0] bcast_S256_S256x1_0 (iotaInDim S256 32 0))
      (broadcastInDim S256x1 ![] bcast_S_S256x1 (constantI S_ 32 64#32))))
    (broadcastInDim S256x192 ![0, 1] bcast_S1x192_S256x192_0_1 (broadcastInDim S1x192 ![1] bcast_S192_S1x192_1 (iotaInDim S192 32 0))))
    (broadcastInDim S256x192 ![] bcast_S_S256x192 (constantI S_ 32 64#32))

/-- the keys a query may look at: those of its band that lie inside the sequence -/
def allowed : IVec S256x64x192 1 :=
  andi (broadcastInDim S256x64x192 ![0, 1, 2] bcast_S1x64x192_S256x64x192_0_1_2 (broadcastInDim S1x64x192 ![1, 2] bcast_S64x192_S1x64x192_1_2
      (cmpi .sle (absi steps) (word 64#32))))
    (broadcastInDim S256x64x192 ![0, 1, 2] bcast_S256x1x192_S256x64x192_0_1_2 (broadcastInDim S256x1x192 ![0, 2] bcast_S256x192_S256x1x192_0_2
      (andi (cmpi .sge places (broadcastInDim S256x192 ![] bcast_S_S256x192 (constantI S_ 32 0#32)))
        (cmpi .slt places (broadcastInDim S256x192 ![] bcast_S_S256x192 (constantI S_ 32 16384#32))))))

/-- the layer's array by position, by queries, keys and values, by group and head -/
def grouped : FVec Ideal S2x16384x3x3x4x64 .f32 :=
  shapeCast S2x16384x3x3x4x64 (extf .f32 X bitsLt_bf16_f32) shapeCasts_S32768x2304_S2x16384x3x3x4x64

/-- the first group's queries, keys or values -/
def cut (G : FVec Ideal S2x16384x3x3x4x64 .f32) (t : ℕ) (ht : S2x16384x3x3x4x64.Slices ![0, 0, t, 0, 0, 0] S2x16384x1x1x4x64) :
    FVec Ideal S2x16384x4x64 .f32 :=
  shapeCast S2x16384x4x64 (extractStridedSlice S2x16384x1x1x4x64 ![0, 0, t, 0, 0, 0] G ht) shapeCasts_S2x16384x1x1x4x64_S2x16384x4x64

/-- the queries in blocks of 64 -/
def inBlocks (C : FVec Ideal S2x16384x4x64 .f32) : FVec Ideal S2x256x64x1x4x64 .f32 :=
  shapeCast S2x256x64x1x4x64 (shapeCast S2x16384x1x4x64 C shapeCasts_S2x16384x4x64_S2x16384x1x4x64) shapeCasts_S2x16384x1x4x64_S2x256x64x1x4x64

/-- keys or values with 64 zeros before and after -/
def between (C : FVec Ideal S2x16384x4x64 .f32) : FVec Ideal S2x16512x1x4x64 .f32 :=
  pad S2x16512x1x4x64 ![0, 64, 0, 0, 0] ![0, 64, 0, 0, 0] ![0, 0, 0, 0, 0]
    (shapeCast S2x16384x1x4x64 C shapeCasts_S2x16384x4x64_S2x16384x1x4x64) (sitofp .f32 (constantI S_ 32 0#32))
    pads_S2x16384x1x4x64_S2x16512x1x4x64_000_64640_000_000_000 h_S_

/-- these in blocks of 64 -/
def padBlocks (P : FVec Ideal S2x16512x1x4x64 .f32) : FVec Ideal S2x258x64x1x4x64 .f32 :=
  shapeCast S2x258x64x1x4x64 P shapeCasts_S2x16512x1x4x64_S2x258x64x1x4x64

/-- each block between its neighbours -/
def inWindows (B : FVec Ideal S2x258x64x1x4x64 .f32) : FVec Ideal S2x256x192x1x4x64 .f32 :=
  concatenate S2x256x192x1x4x64 2
    [⟨S2x256x64x1x4x64, extractStridedSlice S2x256x64x1x4x64 ![0, 0, 0, 0, 0, 0] B slices_S2x258x64x1x4x64_S2x256x64x1x4x64_0_0_0_0_0_0⟩,
     ⟨S2x256x64x1x4x64, extractStridedSlice S2x256x64x1x4x64 ![0, 1, 0, 0, 0, 0] B slices_S2x258x64x1x4x64_S2x256x64x1x4x64_0_1_0_0_0_0⟩,
     ⟨S2x256x64x1x4x64, extractStridedSlice S2x256x64x1x4x64 ![0, 2, 0, 0, 0, 0] B slices_S2x258x64x1x4x64_S2x256x64x1x4x64_0_2_0_0_0_0⟩]
    concatenates_S2x256x64x1x4x64_S2x256x64x1x4x64_S2x256x64x1x4x64_S2x256x192x1x4x64_d2

def queries : FVec Ideal S2x256x64x1x4x64 .f32 := inBlocks (cut (grouped X) 0 slices_S2x16384x3x3x4x64_S2x16384x1x1x4x64_0_0_0_0_0_0)

/-- the blocks of keys or of values -/
def blocks (t : ℕ) (ht : S2x16384x3x3x4x64.Slices ![0, 0, t, 0, 0, 0] S2x16384x1x1x4x64) : FVec Ideal S2x258x64x1x4x64 .f32 :=
  padBlocks (between (cut (grouped X) t ht))

/-- their windows -/
def windows (t : ℕ) (ht : S2x16384x3x3x4x64.Slices ![0, 0, t, 0, 0, 0] S2x16384x1x1x4x64) : FVec Ideal S2x256x192x1x4x64 .f32 :=
  inWindows (blocks X t ht)

/-- the products of every query with the keys of its window, scaled -/
def products (Q : FVec Ideal S2x256x64x1x4x64 .f32) (K : FVec Ideal S2x256x192x1x4x64 .f32) : FVec Ideal S2x256x1x4x64x192 .f32 :=
  mulf (Host.dotGeneral dot_S2x256x64x1x4x64_S2x256x192x1x4x64_S2x256x1x4x64x192_5_5_2_2_0134_0134 none Q K)
    (broadcastInDim S2x256x1x4x64x192 ![] bcast_S_S2x256x1x4x64x192 (constant S_ .f32 0x3E000000#32))

/-- the scores: products and biases where a key is allowed, −∞ elsewhere -/
def scored (A : IVec S256x64x192 1) (P : FVec Ideal S2x256x1x4x64x192 .f32) (B : FVec Ideal S4x64x192 .f32) : FVec Ideal S2x256x1x4x64x192 .f32 :=
  select (broadcastInDim S2x256x1x4x64x192 ![0, 1, 2, 3, 4, 5] bcast_S1x256x1x1x64x192_S2x256x1x4x64x192_0_1_2_3_4_5
      (broadcastInDim S1x256x1x1x64x192 ![1, 4, 5] bcast_S256x64x192_S1x256x1x1x64x192_1_4_5 A))
    (addf P (broadcastInDim S2x256x1x4x64x192 ![0, 1, 2, 3, 4, 5] bcast_S1x1x1x4x64x192_S2x256x1x4x64x192_0_1_2_3_4_5
      (broadcastInDim S1x1x1x4x64x192 ![3, 4, 5] bcast_S4x64x192_S1x1x1x4x64x192_3_4_5 B)))
    (broadcastInDim S2x256x1x4x64x192 ![] bcast_S_S2x256x1x4x64x192 (id (constant S_ .f32 0xFF800000#32)))

/-- the scores of every query over its window -/
def scores : FVec Ideal S2x256x1x4x64x192 .f32 :=
  scored allowed (products (queries X) (windows X 1 slices_S2x16384x3x3x4x64_S2x16384x1x1x4x64_0_0_1_0_0_0))
    (transpose S4x64x192 [2, 0, 1] (biases (extractStridedSlice S32x4 ![0, 0] T slices_S32x12_S32x4_0_0)) transposes_S64x192x4_S4x64x192_2_0_1)

/-- every query's greatest score -/
def maxima (S : FVec Ideal S2x256x1x4x64x192 .f32) : FVec Ideal S2x256x1x4x64 .f32 :=
  Host.reduce FloatOps.maximumf S (constant S_ .f32 0xFF800000#32) reducesTo_S2x256x1x4x64x192_S2x256x1x4x64_d5 h_S_

/-- the exponentials of the scores relative to the greatest -/
def exps (S : FVec Ideal S2x256x1x4x64x192 .f32) : FVec Ideal S2x256x1x4x64x192 .f32 :=
  Host.exp (subf S (broadcastInDim S2x256x1x4x64x192 ![0, 1, 2, 3, 4, 5] bcast_S2x256x1x4x64x1_S2x256x1x4x64x192_0_1_2_3_4_5
    (broadcastInDim S2x256x1x4x64x1 ![0, 1, 2, 3, 4] bcast_S2x256x1x4x64_S2x256x1x4x64x1_0_1_2_3_4 (maxima S))))

/-- an array of blocks laid out by position and channel -/
def laid (U : FVec Ideal S2x256x64x1x4x64 .f32) : FVec Ideal S2x16384x256 .f32 :=
  shapeCast _ (transpose S2x1x16384x256 [0, 2, 1, 3] (shapeCast _ U shapeCasts_S2x256x64x1x4x64_S2x16384x1x256)
    transposes_S2x16384x1x256_S2x1x16384x256_0_2_1_3) shapeCasts_S2x1x16384x256_S2x16384x256

/-- a number per query and head, repeated over the head's channels -/
def repeated (U : FVec Ideal S2x256x1x4x64 .f32) : FVec Ideal S2x256x64x1x4x64 .f32 :=
  broadcastInDim S2x256x64x1x4x64 ![0, 1, 2, 3, 4, 5] bcast_S2x256x64x1x4x1_S2x256x64x1x4x64_0_1_2_3_4_5
    (broadcastInDim S2x256x64x1x4x1 ![0, 1, 2, 3, 4] bcast_S2x256x64x1x4_S2x256x64x1x4x1_0_1_2_3_4
      (transpose S2x256x64x1x4 [0, 1, 4, 2, 3] U transposes_S2x256x1x4x64_S2x256x64x1x4_0_1_4_2_3))

/-- the values added up with the exponentials -/
def mixes (S : FVec Ideal S2x256x1x4x64x192 .f32) (W : FVec Ideal S2x256x192x1x4x64 .f32) : FVec Ideal S2x256x64x1x4x64 .f32 :=
  transpose S2x256x64x1x4x64 [0, 1, 5, 2, 3, 4] (Host.dotGeneral dot_S2x256x192x1x4x64_S2x256x1x4x64x192_S2x256x1x4x64x64_2_5_5_4_0134_0123 none
    W (exps S)) transposes_S2x256x1x4x64x64_S2x256x64x1x4x64_0_1_5_2_3_4

/-- the greatest scores with the axis of keys kept, at length one, and dropped again -/
def kept (U : FVec Ideal S2x256x1x4x64 .f32) : FVec Ideal S2x256x1x4x64 .f32 :=
  shapeCast _ (broadcastInDim S2x256x1x4x64x1 ![0, 1, 2, 3, 4] bcast_S2x256x1x4x64_S2x256x1x4x64x1_0_1_2_3_4 U)
    shapeCasts_S2x256x1x4x64x1_S2x256x1x4x64

def sums (S : FVec Ideal S2x256x1x4x64x192 .f32) : FVec Ideal S2x256x1x4x64 .f32 :=
  Host.reduceAdd (exps S) (constant S_ .f32 0x00000000#32) reducesTo_S2x256x1x4x64x192_S2x256x1x4x64_d5 h_S_

/-! Each step read at an index -/

theorem steps_at (q : Fin 64) (kk : Fin 192) : (steps (ix2 q kk)).toInt = (kk.val : ℤ) - 64 - q.val := by
  pointwise [steps]
  exact Words.step 64 kk.val q.val (by omega) (by omega) (by omega)

theorem laid_at (U : FVec Ideal S2x256x64x1x4x64 .f32) (s : Fin 2) (l : Fin 16384) (ch : Fin 256) :
    laid U (ix3 s l ch) = U (ix6 s ⟨l.val / 64, by omega⟩ ⟨l.val % 64, by omega⟩ 0 ⟨ch.val / 64, by omega⟩ ⟨ch.val % 64, by omega⟩) := by
  pointwise [laid]

theorem repeated_at (U : FVec Ideal S2x256x1x4x64 .f32) (s : Fin 2) (n : Fin 256) (q : Fin 64) (h : Fin 4) (ch : Fin 64) :
    repeated U (ix6 s n q 0 h ch) = U (ix5 s n 0 h q) := by
  pointwise [repeated]

theorem kept_at (U : FVec Ideal S2x256x1x4x64 .f32) (s : Fin 2) (n : Fin 256) (h : Fin 4) (q : Fin 64) :
    kept U (ix5 s n 0 h q) = U (ix5 s n 0 h q) := by
  pointwise [kept]

/-- the scores of a query's window are the array's elements whose other coordinates are the query's -/
theorem window_iff (s : Fin 2) (n : Fin 256) (h : Fin 4) (q : Fin 64) (i : S2x256x1x4x64x192.Idx) :
    Shape.ReducesTo.drop reducesTo_S2x256x1x4x64x192_S2x256x1x4x64_d5 i = ix5 s n 0 h q ↔ ∃ kk : Fin 192, ix6 s n 0 h q kk = i := by
  constructor
  · intro e
    refine ⟨i 5, ?_⟩
    funext a
    match a with
    | ⟨0, _⟩ => exact (congrFun e 0).symm
    | ⟨1, _⟩ => exact (congrFun e 1).symm
    | ⟨2, _⟩ => exact (congrFun e 2).symm
    | ⟨3, _⟩ => exact (congrFun e 3).symm
    | ⟨4, _⟩ => exact (congrFun e 4).symm
    | ⟨5, _⟩ => rfl
  · rintro ⟨kk, rfl⟩
    funext a
    match a with
    | ⟨0, _⟩ => rfl
    | ⟨1, _⟩ => rfl
    | ⟨2, _⟩ => rfl
    | ⟨3, _⟩ => rfl
    | ⟨4, _⟩ => rfl

theorem maxima_at (S : FVec Ideal S2x256x1x4x64x192 .f32) (s : Fin 2) (n : Fin 256) (h : Fin 4) (q : Fin 64) :
    maxima S (ix5 s n 0 h q) = Band.top fun kk : Fin 192 => S (ix6 s n 0 h q kk) := by
  pointwise [maxima]
  rw [Head.neg_inf]
  exact Finset.fold_filter_eq_fold_of_fiber max _ (fun kk : Fin 192 => ix6 s n 0 h q kk) (fun _ _ e => ((ix6_inj _ _ _ _ _ _ _ _ _ _ _ _).1 e).2.2.2.2.2) (window_iff s n h q) ⊥ S

theorem exps_at (S : FVec Ideal S2x256x1x4x64x192 .f32) (s : Fin 2) (n : Fin 256) (h : Fin 4) (q : Fin 64) (kk : Fin 192) :
    exps S (ix6 s n 0 h q kk) = Band.weight (fun kk : Fin 192 => S (ix6 s n 0 h q kk)) kk := by
  pointwise [exps]
  rw [maxima_at]
  rfl

theorem sums_at (S : FVec Ideal S2x256x1x4x64x192 .f32) (s : Fin 2) (n : Fin 256) (h : Fin 4) (q : Fin 64) :
    sums S (ix5 s n 0 h q) = Band.total fun kk : Fin 192 => S (ix6 s n 0 h q kk) := by
  pointwise [sums]
  unfold Ideal.hostReduceAdd
  rw [zero_add]
  refine (Finset.sum_filter_eq_sum_of_fiber _ (fun kk : Fin 192 => ix6 s n 0 h q kk) (fun _ _ e => ((ix6_inj _ _ _ _ _ _ _ _ _ _ _ _).1 e).2.2.2.2.2) (window_iff s n h q) (exps S)).trans ?_
  exact Finset.sum_congr rfl fun kk _ => exps_at S s n h q kk

theorem mixes_at (S : FVec Ideal S2x256x1x4x64x192 .f32) (W : FVec Ideal S2x256x192x1x4x64 .f32) (s : Fin 2) (n : Fin 256) (h : Fin 4)
    (q : Fin 64) (ch : Fin 64) :
    mixes S W (ix6 s n q 0 h ch) = Band.mix (fun kk : Fin 192 => S (ix6 s n 0 h q kk)) fun kk => W (ix6 s n kk 0 h ch) := by
  pointwise [mixes]
  exact Finset.sum_congr rfl fun kk _ => by rw [exps_at, mul_comm]

theorem queries_at (s : Fin 2) (n : Fin 256) (q : Fin 64) (h : Fin 4) (ch : Fin 64) (r : Fin 32768) (cc : Fin 2304)
    (hr : r.val = 16384 * s.val + (64 * n.val + q.val)) (hc : cc.val = 64 * h.val + ch.val) :
    queries X (ix6 s n q 0 h ch) = X (ix2 r cc) := by
  pointwise [queries, inBlocks, cut, grouped]
  congr 2 <;> apply Fin.ext <;> simp only <;> omega

theorem blocks_at (t : ℕ) (ht) (s : Fin 2) (n : Fin 258) (i : Fin 64) (h : Fin 4) (ch : Fin 64) (r : Fin 32768) (cc : Fin 2304)
    (hl : 64 ≤ 64 * n.val + i.val ∧ 64 * n.val + i.val < 16448) (hr : r.val + 64 = 16384 * s.val + (64 * n.val + i.val))
    (hc : cc.val = 768 * t + 64 * h.val + ch.val) :
    blocks X t ht (ix6 s n i 0 h ch) = X (ix2 r cc) := by
  pointwise [blocks, padBlocks, between, cut, grouped]
  rw [dif_pos (by omega)]
  congr 2 <;> apply Fin.ext <;> simp only <;> omega

theorem windows_at (t : ℕ) (ht) (s : Fin 2) (n : Fin 256) (kk : Fin 192) (h : Fin 4) (ch : Fin 64) :
    windows X t ht (ix6 s n kk 0 h ch) = blocks X t ht (ix6 s ⟨n.val + kk.val / 64, by omega⟩ ⟨kk.val % 64, by omega⟩ 0 h ch) := by
  pointwise [windows, inWindows]
  split_ifs <;> congr 2 <;> apply Fin.ext <;> simp only <;> omega

theorem allowed_at (n : Fin 256) (q : Fin 64) (kk : Fin 192) : allowed (ix3 n q kk) = BitVec.ofBool (decide ((q.val ≤ kk.val ∧ kk.val ≤ q.val + 128)
    ∧ 64 ≤ 64 * n.val + kk.val ∧ 64 * n.val + kk.val < 16448)) := by
  have hs := steps_at q kk
  pointwise [allowed, places, word]
  generalize steps (ix2 q kk) = w at hs
  rw [Words.band w _ hs (by omega), Words.between _ _ (Words.place n.val kk.val n.isLt (by omega)) 16384 (by decide)]
  simp only [IntOp.andi, BitVec.ofBool_and_ofBool, ← Bool.decide_and]
  congr 1
  refine decide_eq_decide.2 ?_
  omega

theorem buckets_at (q : Fin 64) (kk : Fin 192) : buckets (ix2 q kk) = Bucket.bucket (IntOp.muli (steps (ix2 q kk)) 1#32) := by
  pointwise [buckets, wide, word, number]
  rfl

/-- the table's row at a place: the one its index names, held to the table's 32 rows -/
theorem row_at (T : FVec Ideal S32x4 .f32) (I : IVec S64x192x1 32) (q : Fin 64) (kk : Fin 192) (h : Fin 4) :
    Host.gather gather_S32x4_S64x192x1_S64x192x4_2_0_n_n_0_2_14 T I (ix3 q kk h)
      = T (ix2 ⟨min (I (ix3 q kk 0)).toInt.toNat 31, by omega⟩ h) := by
  unfold Host.gather
  congr 1
  funext a
  refine Fin.ext ?_
  show (gather_S32x4_S64x192x1_S64x192x4_2_0_n_n_0_2_14).start (ix3 q kk h) I a + (gather_S32x4_S64x192x1_S64x192x4_2_0_n_n_0_2_14).batchCoord (ix3 q kk h) a
      + (gather_S32x4_S64x192x1_S64x192x4_2_0_n_n_0_2_14).offCoord (ix3 q kk h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x4_S64x192x1_S64x192x4_2_0_n_n_0_2_14).startIndexMap from List.mem_singleton.mpr rfl)]
    have hsi : (gather_S32x4_S64x192x1_S64x192x4_2_0_n_n_0_2_14).siIdx (ix3 q kk h)
        ⟨List.idxOf (0 : Fin 2) (gather_S32x4_S64x192x1_S64x192x4_2_0_n_n_0_2_14).startIndexMap,
        List.idxOf_lt_length_iff.2 (List.mem_singleton.mpr rfl)⟩ = ix3 q kk 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show ¬ (1 : Fin 2) ∈ (gather_S32x4_S64x192x1_S64x192x4_2_0_n_n_0_2_14).startIndexMap by decide)]
    simp only [Nat.zero_add]
    rfl

/-- a bucket as a row of the table: neither wrapped round nor held -/
theorem row_of_bucket (w : BitVec 32) (hlt : w.toNat < 32) :
    min (Scalar.select (IntOp.cmpi .slt w 0#32) (IntOp.addi w 32#32) w).toInt.toNat 31 = w.toNat % 32 := by
  have hi : w.toInt = w.toNat := by rw [BitVec.toInt_eq_toNat_cond]; split <;> omega
  have hc : IntOp.cmpi .slt w 0#32 = 0#1 := by
    rw [show (0#1 : BitVec 1) = BitVec.ofBool false from rfl]
    simp only [IntOp.cmpi, BitVec.slt, hi]
    exact congrArg BitVec.ofBool (decide_eq_false (by simp))
  rw [hc]
  simp only [Scalar.select]
  simp [hi]
  omega

theorem times_one (w : BitVec 32) : IntOp.muli w 1#32 = w := by simp [IntOp.muli]

theorem index_at (q : Fin 64) (kk : Fin 192) :
    broadcastInDim S64x192x1 ![0, 1] bcast_S64x192_S64x192x1_0_1 (select (cmpi .slt buckets (word 0#32)) (addi buckets (word 32#32)) buckets) (ix3 q kk 0)
      = Scalar.select (IntOp.cmpi .slt (buckets (ix2 q kk)) 0#32) (IntOp.addi (buckets (ix2 q kk)) 32#32) (buckets (ix2 q kk)) := by
  generalize buckets = B
  pointwise [word]

theorem biases_word (T : FVec Ideal S32x4 .f32) (q : Fin 64) (kk : Fin 192) (h : Fin 4) (w : BitVec 32) (hw : buckets (ix2 q kk) = w)
    (hlt : w.toNat < 32) : biases T (ix3 q kk h) = T (ix2 ⟨w.toNat % 32, Nat.mod_lt _ (by decide)⟩ h) := by
  unfold biases
  refine (row_at T _ q kk h).trans (congrArg (fun r : Fin 32 => T (ix2 r h)) (Fin.ext ?_))
  simp only
  rw [index_at, hw]
  exact row_of_bucket w hlt

theorem biases_at (T : FVec Ideal S32x4 .f32) (q : Fin 64) (kk : Fin 192) (h : Fin 4) : biases T (ix3 q kk h)
    = Bucket.pick (fun b => T (ix2 b h)) (IntOp.muli (steps (ix2 q kk)) 1#32) := by
  have hr : (IntOp.muli (steps (ix2 q kk)) 1#32).toInt.natAbs ≤ 2048 := by rw [times_one, steps_at]; omega
  exact biases_word T q kk h _ (buckets_at q kk) (Bucket.bucket_lt _ hr)

end Cert.Reference

end
-- ==== Proof.ReferenceValue.lean ====
/- The reference's three results are dilated attention's: over its window of 192 keys a query's scores are the band's at the
   query's place in its block, and −∞ elsewhere. -/
module

public import proofs.«01_k».proof.Proof.Reference

@[expose] public section

set_option maxRecDepth 16384

noncomputable section

namespace Cert.Reference

open Cert.ReferenceIdeal Cert.ReferenceIdeal.Gen Idealize.ShloMosaic Idealize.ShloMosaic.TcCoe

variable (X : FVec Ideal S32768x2304 .bf16) (T : FVec Ideal S32x12 .f32)

/-- the row of scores of position `l` over its window -/
def window (s : Fin 2) (l : Fin 16384) (h : Fin 4) : Fin 192 → EReal := fun kk =>
  scores X T (ix6 s ⟨l.val / 64, by omega⟩ 0 h ⟨l.val % 64, by omega⟩ kk)

/-- the keys, by the window's places -/
theorem key_at (t : ℕ) (ht) (ho : 768 * t + 256 ≤ 2304) (s : Fin 2) (l : Fin 16384) (j : Fin 129) (kk : Fin 192) (h : Fin 4) (ch : Fin 64)
    (cc : Fin 256) (hk : kk.val = l.val % 64 + j.val) (hw : Attn.Within l j) (hc : cc.val = 64 * h.val + ch.val) :
    windows X t ht (ix6 s ⟨l.val / 64, by omega⟩ kk 0 h ch) = X (ix2 (Attn.keyAt s l j) (Attn.col (768 * t) ho cc)) := by
  unfold Attn.Within at hw
  rw [windows_at]
  refine blocks_at X t ht s _ _ h ch _ _ ?_ ?_ ?_
  · simp only; omega
  · simp only [Attn.keyAt]; omega
  · simp only [Attn.col]; omega

theorem scores_at (s : Fin 2) (n : Fin 256) (h : Fin 4) (q : Fin 64) (kk : Fin 192) : scores X T (ix6 s n 0 h q kk)
    = Scalar.select (allowed (ix3 n q kk))
      ((∑ x : Fin 64, queries X (ix6 s n q 0 h x) * windows X 1 slices_S2x16384x3x3x4x64_S2x16384x1x1x4x64_0_0_1_0_0_0 (ix6 s n kk 0 h x))
        * Ideal.ofBits .f32 0x3E000000#32
        + Bucket.pick (fun b => T (ix2 b (⟨h.val, by omega⟩ : Fin 12))) (IntOp.muli (steps (ix2 q kk)) 1#32)) ⊥ := by
  have hb := biases_at (extractStridedSlice S32x4 ![0, 0] T slices_S32x12_S32x4_0_0) q kk h
  have hT : (fun b : Fin 32 => extractStridedSlice S32x4 ![0, 0] T slices_S32x12_S32x4_0_0 (ix2 b h)) = fun b => T (ix2 b (⟨h.val, by omega⟩ : Fin 12)) := by
    funext b
    pointwise
  rw [hT] at hb
  rw [← hb, ← Head.neg_inf]
  pointwise [scores, scored, products]
  rfl

theorem lies (s : Fin 2) (l : Fin 16384) (h : Fin 4) : Band.Lies (l.val % 64) (window X T s l h) (Attn.score X T s l h) where
  fits := by omega
  inside kk j hk := by
    have hr : l.val % 64 < 64 := Nat.mod_lt _ (by decide)
    unfold window Attn.score
    rw [scores_at, allowed_at]
    by_cases hw : Attn.Within l j
    · rw [if_pos hw, decide_eq_true (by unfold Attn.Within at hw; simp only; omega)]
      rw [Attn.bias_word T h j _ (by rw [steps_at]; simp only; omega)]
      simp only [BitVec.ofBool_true, Scalar.select]
      rw [if_pos (by decide)]
      congr 2
      refine Finset.sum_congr rfl fun c _ => ?_
      rw [queries_at X s _ _ h c (Attn.rowAt s l) (Attn.col 0 (by decide) (KernelValue.chan h c)) (by simp only [Attn.rowAt]; omega)
          (by simp only [Attn.col, KernelValue.chan]; omega),
        key_at X 1 _ (by decide) s l j kk h c (KernelValue.chan h c) hk hw (by simp only [KernelValue.chan])]
    · rw [if_neg hw, decide_eq_false (by unfold Attn.Within at hw; simp only; omega)]
      rfl
  outside kk hk := by
    have hr : l.val % 64 < 64 := Nat.mod_lt _ (by decide)
    unfold window
    rw [scores_at, allowed_at, decide_eq_false (by simp only; omega)]
    rfl

theorem greatest_eq : laid (repeated (kept (maxima (scores X T)))) = Attn.greatest X T := by
  funext j
  obtain ⟨s, l, ch, rfl⟩ : ∃ (s : Fin 2) (l : Fin 16384) (ch : Fin 256), j = ix3 s l ch := ⟨j 0, j 1, j 2, eq_ix3 j⟩
  rw [laid_at, repeated_at, kept_at, maxima_at]
  exact (lies X T s l (Attn.headOf ch)).top_eq

theorem summed_eq : laid (repeated (sums (scores X T))) = Attn.summed X T := by
  funext j
  obtain ⟨s, l, ch, rfl⟩ : ∃ (s : Fin 2) (l : Fin 16384) (ch : Fin 256), j = ix3 s l ch := ⟨j 0, j 1, j 2, eq_ix3 j⟩
  rw [laid_at, repeated_at, sums_at]
  exact (lies X T s l (Attn.headOf ch)).total_eq

theorem mixed_eq : laid (mixes (scores X T) (windows X 2 slices_S2x16384x3x3x4x64_S2x16384x1x1x4x64_0_0_2_0_0_0)) = Attn.mixed X T := by
  funext j
  obtain ⟨s, l, ch, rfl⟩ : ∃ (s : Fin 2) (l : Fin 16384) (ch : Fin 256), j = ix3 s l ch := ⟨j 0, j 1, j 2, eq_ix3 j⟩
  rw [laid_at, mixes_at]
  refine (lies X T s l (Attn.headOf ch)).mix_eq fun kk i hk => ?_
  by_cases hw : Attn.Within l i
  · right
    exact key_at X 2 _ (by decide) s l i kk _ _ ch hk hw (by simp only; omega)
  · left
    exact if_neg hw

end Cert.Reference

end
-- ==== Proof.ReferenceCuts.lean ====
/- The first stretch of the reference's operations: it cuts the queries and the windows of keys and of values out of the arguments. -/
module

public import proofs.«01_k».proof.Proof.Gen.ReferenceIdeal
public import Idealize.ShloMosaic.Lib.StableHlo.RunRead
public import Idealize.ShloMosaic.Lib.Claim
public import Idealize.ShloMosaic.Lib.Pointwise
public import proofs.«01_k».proof.Proof.Reference

@[expose] public section

set_option maxRecDepth 16384

noncomputable section

namespace Cert.Reference

open Cert.ReferenceIdeal Cert.ReferenceIdeal.Gen Idealize.ShloMosaic Idealize.SL.Sem Idealize.ShloMosaic.StableHlo Idealize.ShloMosaic.TcCoe

variable {F : FTy → Type} [FloatOps F]

set_option maxRecDepth 8192 in
/-- the windows of keys out of three arrays of blocks -/
def joinKeys : (main_v14 : Ref sig .tc).ty.Contents (Elt F) → (main_v15 : Ref sig .tc).ty.Contents (Elt F) → (main_v16 : Ref sig .tc).ty.Contents (Elt F) → (main_v17 : Ref sig .tc).ty.Contents (Elt F) :=
  (fun u0 u1 u2 => (concatenate S2x256x192x1x4x64 2 [⟨S2x256x64x1x4x64, (u0 : (⟨S2x256x64x1x4x64, .f32⟩ : BufTy).Contents (Elt F))⟩, ⟨S2x256x64x1x4x64, (u1 : (⟨S2x256x64x1x4x64, .f32⟩ : BufTy).Contents (Elt F))⟩, ⟨S2x256x64x1x4x64, (u2 : (⟨S2x256x64x1x4x64, .f32⟩ : BufTy).Contents (Elt F))⟩] concatenates_S2x256x64x1x4x64_S2x256x64x1x4x64_S2x256x64x1x4x64_S2x256x192x1x4x64_d2 : (⟨S2x256x192x1x4x64, .f32⟩ : BufTy).Contents (Elt F)))

set_option maxRecDepth 8192 in
/-- the windows of values out of three arrays of blocks -/
def joinValues : (main_v21 : Ref sig .tc).ty.Contents (Elt F) → (main_v22 : Ref sig .tc).ty.Contents (Elt F) → (main_v23 : Ref sig .tc).ty.Contents (Elt F) → (main_v24 : Ref sig .tc).ty.Contents (Elt F) :=
  (fun u0 u1 u2 => (concatenate S2x256x192x1x4x64 2 [⟨S2x256x64x1x4x64, (u0 : (⟨S2x256x64x1x4x64, .f32⟩ : BufTy).Contents (Elt F))⟩, ⟨S2x256x64x1x4x64, (u1 : (⟨S2x256x64x1x4x64, .f32⟩ : BufTy).Contents (Elt F))⟩, ⟨S2x256x64x1x4x64, (u2 : (⟨S2x256x64x1x4x64, .f32⟩ : BufTy).Contents (Elt F))⟩] concatenates_S2x256x64x1x4x64_S2x256x64x1x4x64_S2x256x64x1x4x64_S2x256x192x1x4x64_d2 : (⟨S2x256x192x1x4x64, .f32⟩ : BufTy).Contents (Elt F)))

/-- the operations that lay the layer's array out by group and head -/
abbrev opsA : List (HloOp τ sig (Elt F)) :=
  [ unary main_arg0 main_v0 ((extf .f32 · bitsLt_bf16_f32) : (⟨S32768x2304, .bf16⟩ : BufTy).Contents (Elt F) → (⟨S32768x2304, .f32⟩ : BufTy).Contents (Elt F)),
    reshape main_v0 main_v1 (rfl : (.f32 : EltTy) = .f32) shapeCasts_S32768x2304_S2x16384x3x3x4x64 ]

/-- the operations that take the queries, the keys and the values of the first group -/
abbrev opsB : List (HloOp τ sig (Elt F)) :=
  [ unary main_v1 main_v2 ((extractStridedSlice S2x16384x1x1x4x64 ![0, 0, 0, 0, 0, 0] · slices_S2x16384x3x3x4x64_S2x16384x1x1x4x64_0_0_0_0_0_0) : (⟨S2x16384x3x3x4x64, .f32⟩ : BufTy).Contents (Elt F) → (⟨S2x16384x1x1x4x64, .f32⟩ : BufTy).Contents (Elt F)),
    reshape main_v2 main_v3 (rfl : (.f32 : EltTy) = .f32) shapeCasts_S2x16384x1x1x4x64_S2x16384x4x64,
    unary main_v1 main_v4 ((extractStridedSlice S2x16384x1x1x4x64 ![0, 0, 1, 0, 0, 0] · slices_S2x16384x3x3x4x64_S2x16384x1x1x4x64_0_0_1_0_0_0) : (⟨S2x16384x3x3x4x64, .f32⟩ : BufTy).Contents (Elt F) → (⟨S2x16384x1x1x4x64, .f32⟩ : BufTy).Contents (Elt F)),
    reshape main_v4 main_v5 (rfl : (.f32 : EltTy) = .f32) shapeCasts_S2x16384x1x1x4x64_S2x16384x4x64,
    unary main_v1 main_v6 ((extractStridedSlice S2x16384x1x1x4x64 ![0, 0, 2, 0, 0, 0] · slices_S2x16384x3x3x4x64_S2x16384x1x1x4x64_0_0_2_0_0_0) : (⟨S2x16384x3x3x4x64, .f32⟩ : BufTy).Contents (Elt F) → (⟨S2x16384x1x1x4x64, .f32⟩ : BufTy).Contents (Elt F)),
    reshape main_v6 main_v7 (rfl : (.f32 : EltTy) = .f32) shapeCasts_S2x16384x1x1x4x64_S2x16384x4x64,
    unary main_arg1 main_v8 ((extractStridedSlice S32x4 ![0, 0] · slices_S32x12_S32x4_0_0) : (⟨S32x12, .f32⟩ : BufTy).Contents (Elt F) → (⟨S32x4, .f32⟩ : BufTy).Contents (Elt F)) ]

/-- the queries in blocks and the padded keys -/
abbrev opsC1 : List (HloOp τ sig (Elt F)) :=
  [ reshape main_v3 main_v9 (rfl : (.f32 : EltTy) = .f32) shapeCasts_S2x16384x4x64_S2x16384x1x4x64,
    reshape main_v9 main_v10 (rfl : (.f32 : EltTy) = .f32) shapeCasts_S2x16384x1x4x64_S2x256x64x1x4x64,
    reshape main_v5 main_v11 (rfl : (.f32 : EltTy) = .f32) shapeCasts_S2x16384x4x64_S2x16384x1x4x64,
    nullary main_c (constantI S_ 32 0#32),
    TRef.unary (TRef.of (T := ⟨S_, .i32⟩) main_c) (TRef.of (T := ⟨S_, .f32⟩) main_call0_v0) (sitofp .f32),
    TRef.binary (TRef.of (T := ⟨S2x16384x1x4x64, .f32⟩) main_v11) (TRef.of (T := ⟨S_, .f32⟩) main_call0_v0) (TRef.of (T := ⟨S2x16512x1x4x64, .f32⟩) main_v12) (fun x v => pad S2x16512x1x4x64 ![0, 64, 0, 0, 0] ![0, 64, 0, 0, 0] ![0, 0, 0, 0, 0] x v pads_S2x16384x1x4x64_S2x16512x1x4x64_000_64640_000_000_000 h_S_) ]

/-- the keys in blocks -/
abbrev opsC2 : List (HloOp τ sig (Elt F)) :=
  [ reshape main_v12 main_v13 (rfl : (.f32 : EltTy) = .f32) shapeCasts_S2x16512x1x4x64_S2x258x64x1x4x64,
    unary main_v13 main_v14 ((extractStridedSlice S2x256x64x1x4x64 ![0, 0, 0, 0, 0, 0] · slices_S2x258x64x1x4x64_S2x256x64x1x4x64_0_0_0_0_0_0) : (⟨S2x258x64x1x4x64, .f32⟩ : BufTy).Contents (Elt F) → (⟨S2x256x64x1x4x64, .f32⟩ : BufTy).Contents (Elt F)),
    unary main_v13 main_v15 ((extractStridedSlice S2x256x64x1x4x64 ![0, 1, 0, 0, 0, 0] · slices_S2x258x64x1x4x64_S2x256x64x1x4x64_0_1_0_0_0_0) : (⟨S2x258x64x1x4x64, .f32⟩ : BufTy).Contents (Elt F) → (⟨S2x256x64x1x4x64, .f32⟩ : BufTy).Contents (Elt F)),
    unary main_v13 main_v16 ((extractStridedSlice S2x256x64x1x4x64 ![0, 2, 0, 0, 0, 0] · slices_S2x258x64x1x4x64_S2x256x64x1x4x64_0_2_0_0_0_0) : (⟨S2x258x64x1x4x64, .f32⟩ : BufTy).Contents (Elt F) → (⟨S2x256x64x1x4x64, .f32⟩ : BufTy).Contents (Elt F)) ]

/-- the windows of keys -/
abbrev opsC3 : List (HloOp τ sig (Elt F)) :=
  [ nary ![main_v14, main_v15, main_v16] main_v17 (fun u => joinKeys (F := F) (u 0) (u 1) (u 2)) ]

/-- the padded values -/
abbrev opsC4 : List (HloOp τ sig (Elt F)) :=
  [ reshape main_v7 main_v18 (rfl : (.f32 : EltTy) = .f32) shapeCasts_S2x16384x4x64_S2x16384x1x4x64,
    nullary main_c_0 (constantI S_ 32 0#32),
    TRef.unary (TRef.of (T := ⟨S_, .i32⟩) main_c_0) (TRef.of (T := ⟨S_, .f32⟩) main_call1_v0) (sitofp .f32),
    TRef.binary (TRef.of (T := ⟨S2x16384x1x4x64, .f32⟩) main_v18) (TRef.of (T := ⟨S_, .f32⟩) main_call1_v0) (TRef.of (T := ⟨S2x16512x1x4x64, .f32⟩) main_v19) (fun x v => pad S2x16512x1x4x64 ![0, 64, 0, 0, 0] ![0, 64, 0, 0, 0] ![0, 0, 0, 0, 0] x v pads_S2x16384x1x4x64_S2x16512x1x4x64_000_64640_000_000_000 h_S_) ]

/-- the values in blocks -/
abbrev opsC5 : List (HloOp τ sig (Elt F)) :=
  [ reshape main_v19 main_v20 (rfl : (.f32 : EltTy) = .f32) shapeCasts_S2x16512x1x4x64_S2x258x64x1x4x64,
    unary main_v20 main_v21 ((extractStridedSlice S2x256x64x1x4x64 ![0, 0, 0, 0, 0, 0] · slices_S2x258x64x1x4x64_S2x256x64x1x4x64_0_0_0_0_0_0) : (⟨S2x258x64x1x4x64, .f32⟩ : BufTy).Contents (Elt F) → (⟨S2x256x64x1x4x64, .f32⟩ : BufTy).Contents (Elt F)),
    unary main_v20 main_v22 ((extractStridedSlice S2x256x64x1x4x64 ![0, 1, 0, 0, 0, 0] · slices_S2x258x64x1x4x64_S2x256x64x1x4x64_0_1_0_0_0_0) : (⟨S2x258x64x1x4x64, .f32⟩ : BufTy).Contents (Elt F) → (⟨S2x256x64x1x4x64, .f32⟩ : BufTy).Contents (Elt F)),
    unary main_v20 main_v23 ((extractStridedSlice S2x256x64x1x4x64 ![0, 2, 0, 0, 0, 0] · slices_S2x258x64x1x4x64_S2x256x64x1x4x64_0_2_0_0_0_0) : (⟨S2x258x64x1x4x64, .f32⟩ : BufTy).Contents (Elt F) → (⟨S2x256x64x1x4x64, .f32⟩ : BufTy).Contents (Elt F)) ]

/-- the windows of values -/
abbrev opsC6 : List (HloOp τ sig (Elt F)) :=
  [ nary ![main_v21, main_v22, main_v23] main_v24 (fun u => joinValues (F := F) (u 0) (u 1) (u 2)) ]

variable (W : Valuation τ sig (Elt Ideal))

theorem A_grouped : after opsA W main_v1 = grouped (W main_arg0) := by
  after_reads_simp; rfl
theorem A_table : after opsA W main_arg1 = W main_arg1 := by
  after_reads_simp

theorem B_queries : after opsB W main_v3 = cut (W main_v1) 0 slices_S2x16384x3x3x4x64_S2x16384x1x1x4x64_0_0_0_0_0_0 := by
  after_reads_simp; rfl
theorem B_keys : after opsB W main_v5 = cut (W main_v1) 1 slices_S2x16384x3x3x4x64_S2x16384x1x1x4x64_0_0_1_0_0_0 := by
  after_reads_simp; rfl
theorem B_values : after opsB W main_v7 = cut (W main_v1) 2 slices_S2x16384x3x3x4x64_S2x16384x1x1x4x64_0_0_2_0_0_0 := by
  after_reads_simp; rfl
theorem B_table : after opsB W main_v8 = extractStridedSlice S32x4 ![0, 0] (W main_arg1) slices_S32x12_S32x4_0_0 := by
  after_reads_simp

theorem C1_queries : after opsC1 W main_v10 = inBlocks (W main_v3) := by
  after_reads_simp; rfl
theorem C1_keys : after opsC1 W main_v12 = between (W main_v5) := by
  after_reads_simp
  simp only [TRef.ofBuf_toBuf]
  rfl
theorem C1_values : after opsC1 W main_v7 = W main_v7 := by
  after_reads_simp
theorem C1_table : after opsC1 W main_v8 = W main_v8 := by
  after_reads_simp

theorem C2_key0 : after opsC2 W main_v14 = extractStridedSlice S2x256x64x1x4x64 ![0, 0, 0, 0, 0, 0] (padBlocks (W main_v12)) slices_S2x258x64x1x4x64_S2x256x64x1x4x64_0_0_0_0_0_0 := by
  after_reads_simp; rfl
theorem C2_key1 : after opsC2 W main_v15 = extractStridedSlice S2x256x64x1x4x64 ![0, 1, 0, 0, 0, 0] (padBlocks (W main_v12)) slices_S2x258x64x1x4x64_S2x256x64x1x4x64_0_1_0_0_0_0 := by
  after_reads_simp; rfl
theorem C2_key2 : after opsC2 W main_v16 = extractStridedSlice S2x256x64x1x4x64 ![0, 2, 0, 0, 0, 0] (padBlocks (W main_v12)) slices_S2x258x64x1x4x64_S2x256x64x1x4x64_0_2_0_0_0_0 := by
  after_reads_simp; rfl
theorem C2_queries : after opsC2 W main_v10 = W main_v10 := by
  after_reads_simp
theorem C2_values : after opsC2 W main_v7 = W main_v7 := by
  after_reads_simp
theorem C2_table : after opsC2 W main_v8 = W main_v8 := by
  after_reads_simp

theorem C3_keys (B : FVec Ideal S2x258x64x1x4x64 .f32)
    (h0 : W main_v14 = extractStridedSlice S2x256x64x1x4x64 ![0, 0, 0, 0, 0, 0] B slices_S2x258x64x1x4x64_S2x256x64x1x4x64_0_0_0_0_0_0)
    (h1 : W main_v15 = extractStridedSlice S2x256x64x1x4x64 ![0, 1, 0, 0, 0, 0] B slices_S2x258x64x1x4x64_S2x256x64x1x4x64_0_1_0_0_0_0)
    (h2 : W main_v16 = extractStridedSlice S2x256x64x1x4x64 ![0, 2, 0, 0, 0, 0] B slices_S2x258x64x1x4x64_S2x256x64x1x4x64_0_2_0_0_0_0) :
    after opsC3 W main_v17 = inWindows B := by
  have h : after opsC3 W main_v17 = joinKeys (F := Ideal) (W main_v14) (W main_v15) (W main_v16) := by
    after_reads_simp; rfl
  rw [h, h0, h1, h2]
  rfl
theorem C3_queries : after opsC3 W main_v10 = W main_v10 := by
  after_reads_simp
theorem C3_values : after opsC3 W main_v7 = W main_v7 := by
  after_reads_simp
theorem C3_table : after opsC3 W main_v8 = W main_v8 := by
  after_reads_simp

theorem C4_values : after opsC4 W main_v19 = between (W main_v7) := by
  after_reads_simp
  simp only [TRef.ofBuf_toBuf]
  rfl
theorem C4_queries : after opsC4 W main_v10 = W main_v10 := by
  after_reads_simp
theorem C4_keys : after opsC4 W main_v17 = W main_v17 := by
  after_reads_simp
theorem C4_table : after opsC4 W main_v8 = W main_v8 := by
  after_reads_simp

theorem C5_value0 : after opsC5 W main_v21 = extractStridedSlice S2x256x64x1x4x64 ![0, 0, 0, 0, 0, 0] (padBlocks (W main_v19)) slices_S2x258x64x1x4x64_S2x256x64x1x4x64_0_0_0_0_0_0 := by
  after_reads_simp; rfl
theorem C5_value1 : after opsC5 W main_v22 = extractStridedSlice S2x256x64x1x4x64 ![0, 1, 0, 0, 0, 0] (padBlocks (W main_v19)) slices_S2x258x64x1x4x64_S2x256x64x1x4x64_0_1_0_0_0_0 := by
  after_reads_simp; rfl
theorem C5_value2 : after opsC5 W main_v23 = extractStridedSlice S2x256x64x1x4x64 ![0, 2, 0, 0, 0, 0] (padBlocks (W main_v19)) slices_S2x258x64x1x4x64_S2x256x64x1x4x64_0_2_0_0_0_0 := by
  after_reads_simp; rfl
theorem C5_queries : after opsC5 W main_v10 = W main_v10 := by
  after_reads_simp
theorem C5_keys : after opsC5 W main_v17 = W main_v17 := by
  after_reads_simp
theorem C5_table : after opsC5 W main_v8 = W main_v8 := by
  after_reads_simp

theorem C6_values (B : FVec Ideal S2x258x64x1x4x64 .f32)
    (h0 : W main_v21 = extractStridedSlice S2x256x64x1x4x64 ![0, 0, 0, 0, 0, 0] B slices_S2x258x64x1x4x64_S2x256x64x1x4x64_0_0_0_0_0_0)
    (h1 : W main_v22 = extractStridedSlice S2x256x64x1x4x64 ![0, 1, 0, 0, 0, 0] B slices_S2x258x64x1x4x64_S2x256x64x1x4x64_0_1_0_0_0_0)
    (h2 : W main_v23 = extractStridedSlice S2x256x64x1x4x64 ![0, 2, 0, 0, 0, 0] B slices_S2x258x64x1x4x64_S2x256x64x1x4x64_0_2_0_0_0_0) :
    after opsC6 W main_v24 = inWindows B := by
  have h : after opsC6 W main_v24 = joinValues (F := Ideal) (W main_v21) (W main_v22) (W main_v23) := by
    after_reads_simp; rfl
  rw [h, h0, h1, h2]
  rfl
theorem C6_queries : after opsC6 W main_v10 = W main_v10 := by
  after_reads_simp
theorem C6_keys : after opsC6 W main_v17 = W main_v17 := by
  after_reads_simp
theorem C6_table : after opsC6 W main_v8 = W main_v8 := by
  after_reads_simp

/-- the operations of the three windows' stretches -/
abbrev opsC : List (HloOp τ sig (Elt F)) := opsC1 ++ (opsC2 ++ (opsC3 ++ (opsC4 ++ (opsC5 ++ opsC6))))

theorem splitC (b : DevRef τ sig) :
    after opsC W b = after opsC6 (after opsC5 (after opsC4 (after opsC3 (after opsC2 (after opsC1 W))))) b := rfl

theorem C_queries : after opsC W main_v10 = inBlocks (W main_v3) := by
  rw [splitC, C6_queries, C5_queries, C4_queries, C3_queries, C2_queries, C1_queries]
theorem C_table : after opsC W main_v8 = W main_v8 := by
  rw [splitC, C6_table, C5_table, C4_table, C3_table, C2_table, C1_table]
theorem C_keys : after opsC W main_v17 = inWindows (padBlocks (between (W main_v5))) := by
  rw [splitC, C6_keys, C5_keys, C4_keys, C3_keys _ _ (C2_key0 _) (C2_key1 _) (C2_key2 _), C1_keys]
theorem C_values : after opsC W main_v24 = inWindows (padBlocks (between (W main_v7))) := by
  rw [splitC, C6_values _ _ (C5_value0 _) (C5_value1 _) (C5_value2 _), C4_values, C3_values, C2_values, C1_values]

end Cert.Reference

end
-- ==== Proof.ReferenceRun.lean ====
/- The reference's run: its operations in four stretches, and what each stretch leaves in the buffers that the later ones read. -/
module

public import proofs.«01_k».proof.Proof.Gen.ReferenceIdeal
public import Idealize.ShloMosaic.Lib.StableHlo.RunRead
public import Idealize.ShloMosaic.Lib.Claim
public import Idealize.ShloMosaic.Lib.Pointwise
public import proofs.«01_k».proof.Proof.ReferenceCuts

@[expose] public section

set_option maxRecDepth 16384

noncomputable section

namespace Cert.Reference

open Cert.ReferenceIdeal Cert.ReferenceIdeal.Gen Idealize.ShloMosaic Idealize.SL.Sem Idealize.ShloMosaic.StableHlo Idealize.ShloMosaic.TcCoe

variable {F : FTy → Type} [FloatOps F]

/-- the operations for the products of queries and keys, the distances and the allowed keys -/
abbrev opsD : List (HloOp τ sig (Elt F)) :=
  [ binary main_v10 main_v17 main_v25 ((fun l r => Host.dotGeneral dot_S2x256x64x1x4x64_S2x256x192x1x4x64_S2x256x1x4x64x192_5_5_2_2_0134_0134 none l r) : (⟨S2x256x64x1x4x64, .f32⟩ : BufTy).Contents (Elt F) → (⟨S2x256x192x1x4x64, .f32⟩ : BufTy).Contents (Elt F) → (⟨S2x256x1x4x64x192, .f32⟩ : BufTy).Contents (Elt F)),
    nullary main_cst (constant S_ .f32 0x3E000000#32),
    unary main_cst main_v26 (broadcastInDim S2x256x1x4x64x192 ![] bcast_S_S2x256x1x4x64x192 : (⟨S_, .f32⟩ : BufTy).Contents (Elt F) → (⟨S2x256x1x4x64x192, .f32⟩ : BufTy).Contents (Elt F)),
    binary main_v25 main_v26 main_v27 (mulf : (⟨S2x256x1x4x64x192, .f32⟩ : BufTy).Contents (Elt F) → (⟨S2x256x1x4x64x192, .f32⟩ : BufTy).Contents (Elt F) → (⟨S2x256x1x4x64x192, .f32⟩ : BufTy).Contents (Elt F)),
    nullary main_v28 (iotaInDim S192 32 0),
    unary main_v28 main_v29 (broadcastInDim S1x192 ![1] bcast_S192_S1x192_1 : (⟨S192, .i32⟩ : BufTy).Contents (Elt F) → (⟨S1x192, .i32⟩ : BufTy).Contents (Elt F)),
    nullary main_c_1 (constantI S_ 32 64#32),
    unary main_c_1 main_v30 (broadcastInDim S1x192 ![] bcast_S_S1x192 : (⟨S_, .i32⟩ : BufTy).Contents (Elt F) → (⟨S1x192, .i32⟩ : BufTy).Contents (Elt F)),
    binary main_v29 main_v30 main_v31 (subi : (⟨S1x192, .i32⟩ : BufTy).Contents (Elt F) → (⟨S1x192, .i32⟩ : BufTy).Contents (Elt F) → (⟨S1x192, .i32⟩ : BufTy).Contents (Elt F)),
    nullary main_v32 (iotaInDim S64 32 0),
    unary main_v32 main_v33 (broadcastInDim S64x1 ![0] bcast_S64_S64x1_0 : (⟨S64, .i32⟩ : BufTy).Contents (Elt F) → (⟨S64x1, .i32⟩ : BufTy).Contents (Elt F)),
    unary main_v31 main_v34 (broadcastInDim S64x192 ![0, 1] bcast_S1x192_S64x192_0_1 : (⟨S1x192, .i32⟩ : BufTy).Contents (Elt F) → (⟨S64x192, .i32⟩ : BufTy).Contents (Elt F)),
    unary main_v33 main_v35 (broadcastInDim S64x192 ![0, 1] bcast_S64x1_S64x192_0_1 : (⟨S64x1, .i32⟩ : BufTy).Contents (Elt F) → (⟨S64x192, .i32⟩ : BufTy).Contents (Elt F)),
    binary main_v34 main_v35 main_v36 (subi : (⟨S64x192, .i32⟩ : BufTy).Contents (Elt F) → (⟨S64x192, .i32⟩ : BufTy).Contents (Elt F) → (⟨S64x192, .i32⟩ : BufTy).Contents (Elt F)),
    unary main_v36 main_v37 (absi : (⟨S64x192, .i32⟩ : BufTy).Contents (Elt F) → (⟨S64x192, .i32⟩ : BufTy).Contents (Elt F)),
    nullary main_c_2 (constantI S_ 32 64#32),
    unary main_c_2 main_v38 (broadcastInDim S64x192 ![] bcast_S_S64x192 : (⟨S_, .i32⟩ : BufTy).Contents (Elt F) → (⟨S64x192, .i32⟩ : BufTy).Contents (Elt F)),
    binary main_v37 main_v38 main_v39 (cmpi .sle : (⟨S64x192, .i32⟩ : BufTy).Contents (Elt F) → (⟨S64x192, .i32⟩ : BufTy).Contents (Elt F) → (⟨S64x192, .i1⟩ : BufTy).Contents (Elt F)),
    nullary main_v40 (iotaInDim S256 32 0),
    unary main_v40 main_v41 (broadcastInDim S256x1 ![0] bcast_S256_S256x1_0 : (⟨S256, .i32⟩ : BufTy).Contents (Elt F) → (⟨S256x1, .i32⟩ : BufTy).Contents (Elt F)),
    nullary main_c_3 (constantI S_ 32 64#32),
    unary main_c_3 main_v42 (broadcastInDim S256x1 ![] bcast_S_S256x1 : (⟨S_, .i32⟩ : BufTy).Contents (Elt F) → (⟨S256x1, .i32⟩ : BufTy).Contents (Elt F)),
    binary main_v41 main_v42 main_v43 (muli : (⟨S256x1, .i32⟩ : BufTy).Contents (Elt F) → (⟨S256x1, .i32⟩ : BufTy).Contents (Elt F) → (⟨S256x1, .i32⟩ : BufTy).Contents (Elt F)),
    nullary main_v44 (iotaInDim S192 32 0),
    unary main_v44 main_v45 (broadcastInDim S1x192 ![1] bcast_S192_S1x192_1 : (⟨S192, .i32⟩ : BufTy).Contents (Elt F) → (⟨S1x192, .i32⟩ : BufTy).Contents (Elt F)),
    unary main_v43 main_v46 (broadcastInDim S256x192 ![0, 1] bcast_S256x1_S256x192_0_1 : (⟨S256x1, .i32⟩ : BufTy).Contents (Elt F) → (⟨S256x192, .i32⟩ : BufTy).Contents (Elt F)),
    unary main_v45 main_v47 (broadcastInDim S256x192 ![0, 1] bcast_S1x192_S256x192_0_1 : (⟨S1x192, .i32⟩ : BufTy).Contents (Elt F) → (⟨S256x192, .i32⟩ : BufTy).Contents (Elt F)),
    binary main_v46 main_v47 main_v48 (addi : (⟨S256x192, .i32⟩ : BufTy).Contents (Elt F) → (⟨S256x192, .i32⟩ : BufTy).Contents (Elt F) → (⟨S256x192, .i32⟩ : BufTy).Contents (Elt F)),
    nullary main_c_4 (constantI S_ 32 64#32),
    unary main_c_4 main_v49 (broadcastInDim S256x192 ![] bcast_S_S256x192 : (⟨S_, .i32⟩ : BufTy).Contents (Elt F) → (⟨S256x192, .i32⟩ : BufTy).Contents (Elt F)),
    binary main_v48 main_v49 main_v50 (subi : (⟨S256x192, .i32⟩ : BufTy).Contents (Elt F) → (⟨S256x192, .i32⟩ : BufTy).Contents (Elt F) → (⟨S256x192, .i32⟩ : BufTy).Contents (Elt F)),
    nullary main_c_5 (constantI S_ 32 0#32),
    unary main_c_5 main_v51 (broadcastInDim S256x192 ![] bcast_S_S256x192 : (⟨S_, .i32⟩ : BufTy).Contents (Elt F) → (⟨S256x192, .i32⟩ : BufTy).Contents (Elt F)),
    binary main_v50 main_v51 main_v52 (cmpi .sge : (⟨S256x192, .i32⟩ : BufTy).Contents (Elt F) → (⟨S256x192, .i32⟩ : BufTy).Contents (Elt F) → (⟨S256x192, .i1⟩ : BufTy).Contents (Elt F)),
    nullary main_c_6 (constantI S_ 32 16384#32),
    unary main_c_6 main_v53 (broadcastInDim S256x192 ![] bcast_S_S256x192 : (⟨S_, .i32⟩ : BufTy).Contents (Elt F) → (⟨S256x192, .i32⟩ : BufTy).Contents (Elt F)),
    binary main_v50 main_v53 main_v54 (cmpi .slt : (⟨S256x192, .i32⟩ : BufTy).Contents (Elt F) → (⟨S256x192, .i32⟩ : BufTy).Contents (Elt F) → (⟨S256x192, .i1⟩ : BufTy).Contents (Elt F)),
    binary main_v52 main_v54 main_v55 (andi : (⟨S256x192, .i1⟩ : BufTy).Contents (Elt F) → (⟨S256x192, .i1⟩ : BufTy).Contents (Elt F) → (⟨S256x192, .i1⟩ : BufTy).Contents (Elt F)),
    unary main_v39 main_v56 (broadcastInDim S1x64x192 ![1, 2] bcast_S64x192_S1x64x192_1_2 : (⟨S64x192, .i1⟩ : BufTy).Contents (Elt F) → (⟨S1x64x192, .i1⟩ : BufTy).Contents (Elt F)),
    unary main_v55 main_v57 (broadcastInDim S256x1x192 ![0, 2] bcast_S256x192_S256x1x192_0_2 : (⟨S256x192, .i1⟩ : BufTy).Contents (Elt F) → (⟨S256x1x192, .i1⟩ : BufTy).Contents (Elt F)),
    unary main_v56 main_v58 (broadcastInDim S256x64x192 ![0, 1, 2] bcast_S1x64x192_S256x64x192_0_1_2 : (⟨S1x64x192, .i1⟩ : BufTy).Contents (Elt F) → (⟨S256x64x192, .i1⟩ : BufTy).Contents (Elt F)),
    unary main_v57 main_v59 (broadcastInDim S256x64x192 ![0, 1, 2] bcast_S256x1x192_S256x64x192_0_1_2 : (⟨S256x1x192, .i1⟩ : BufTy).Contents (Elt F) → (⟨S256x64x192, .i1⟩ : BufTy).Contents (Elt F)),
    binary main_v58 main_v59 main_v60 (andi : (⟨S256x64x192, .i1⟩ : BufTy).Contents (Elt F) → (⟨S256x64x192, .i1⟩ : BufTy).Contents (Elt F) → (⟨S256x64x192, .i1⟩ : BufTy).Contents (Elt F)) ]

/-- the operations for the distances' buckets and the table's entries there -/
abbrev opsE : List (HloOp τ sig (Elt F)) :=
  [ nullary main_c_7 (constantI S_ 32 1#32),
    unary main_c_7 main_v61 (broadcastInDim S64x192 ![] bcast_S_S64x192 : (⟨S_, .i32⟩ : BufTy).Contents (Elt F) → (⟨S64x192, .i32⟩ : BufTy).Contents (Elt F)),
    binary main_v36 main_v61 main_v62 (muli : (⟨S64x192, .i32⟩ : BufTy).Contents (Elt F) → (⟨S64x192, .i32⟩ : BufTy).Contents (Elt F) → (⟨S64x192, .i32⟩ : BufTy).Contents (Elt F)),
    nullary main_c_8 (constantI S_ 32 0#32),
    unary main_c_8 main_v63 (broadcastInDim S64x192 ![] bcast_S_S64x192 : (⟨S_, .i32⟩ : BufTy).Contents (Elt F) → (⟨S64x192, .i32⟩ : BufTy).Contents (Elt F)),
    binary main_v62 main_v63 main_v64 (cmpi .sgt : (⟨S64x192, .i32⟩ : BufTy).Contents (Elt F) → (⟨S64x192, .i32⟩ : BufTy).Contents (Elt F) → (⟨S64x192, .i1⟩ : BufTy).Contents (Elt F)),
    nullary main_c_9 (constantI S_ 32 16#32),
    nullary main_c_10 (constantI S_ 32 0#32),
    TRef.unary (TRef.of (T := ⟨S_, .i32⟩) main_c_9) (TRef.of (T := ⟨S64x192, .i32⟩) main_call2_v0) (broadcastInDim S64x192 ![] bcast_S_S64x192),
    TRef.unary (TRef.of (T := ⟨S_, .i32⟩) main_c_10) (TRef.of (T := ⟨S64x192, .i32⟩) main_call2_v1) (broadcastInDim S64x192 ![] bcast_S_S64x192),
    TRef.ternary (TRef.of (T := ⟨S64x192, .i1⟩) main_v64) (TRef.of (T := ⟨S64x192, .i32⟩) main_call2_v0) (TRef.of (T := ⟨S64x192, .i32⟩) main_call2_v1) (TRef.of (T := ⟨S64x192, .i32⟩) main_v65) select,
    unary main_v62 main_v66 (absi : (⟨S64x192, .i32⟩ : BufTy).Contents (Elt F) → (⟨S64x192, .i32⟩ : BufTy).Contents (Elt F)),
    nullary main_c_11 (constantI S_ 32 1#32),
    unary main_c_11 main_v67 (broadcastInDim S64x192 ![] bcast_S_S64x192 : (⟨S_, .i32⟩ : BufTy).Contents (Elt F) → (⟨S64x192, .i32⟩ : BufTy).Contents (Elt F)),
    binary main_v66 main_v67 main_v68 (maxsi : (⟨S64x192, .i32⟩ : BufTy).Contents (Elt F) → (⟨S64x192, .i32⟩ : BufTy).Contents (Elt F) → (⟨S64x192, .i32⟩ : BufTy).Contents (Elt F)),
    unary main_v68 main_v69 (sitofp .f32 : (⟨S64x192, .i32⟩ : BufTy).Contents (Elt F) → (⟨S64x192, .f32⟩ : BufTy).Contents (Elt F)),
    nullary main_cst_12 (constant S_ .f32 0x41000000#32),
    unary main_cst_12 main_v70 (broadcastInDim S64x192 ![] bcast_S_S64x192 : (⟨S_, .f32⟩ : BufTy).Contents (Elt F) → (⟨S64x192, .f32⟩ : BufTy).Contents (Elt F)),
    binary main_v69 main_v70 main_v71 (Host.divf : (⟨S64x192, .f32⟩ : BufTy).Contents (Elt F) → (⟨S64x192, .f32⟩ : BufTy).Contents (Elt F) → (⟨S64x192, .f32⟩ : BufTy).Contents (Elt F)),
    unary main_v71 main_v72 (Host.log : (⟨S64x192, .f32⟩ : BufTy).Contents (Elt F) → (⟨S64x192, .f32⟩ : BufTy).Contents (Elt F)),
    nullary main_cst_13 (constant S_ .f32 0x409B43D5#32),
    unary main_cst_13 main_v73 (broadcastInDim S64x192 ![] bcast_S_S64x192 : (⟨S_, .f32⟩ : BufTy).Contents (Elt F) → (⟨S64x192, .f32⟩ : BufTy).Contents (Elt F)),
    binary main_v72 main_v73 main_v74 (Host.divf : (⟨S64x192, .f32⟩ : BufTy).Contents (Elt F) → (⟨S64x192, .f32⟩ : BufTy).Contents (Elt F) → (⟨S64x192, .f32⟩ : BufTy).Contents (Elt F)),
    nullary main_cst_14 (constant S_ .f32 0x41000000#32),
    unary main_cst_14 main_v75 (broadcastInDim S64x192 ![] bcast_S_S64x192 : (⟨S_, .f32⟩ : BufTy).Contents (Elt F) → (⟨S64x192, .f32⟩ : BufTy).Contents (Elt F)),
    binary main_v74 main_v75 main_v76 (mulf : (⟨S64x192, .f32⟩ : BufTy).Contents (Elt F) → (⟨S64x192, .f32⟩ : BufTy).Contents (Elt F) → (⟨S64x192, .f32⟩ : BufTy).Contents (Elt F)),
    unary main_v76 main_v77 (fptosi 32 : (⟨S64x192, .f32⟩ : BufTy).Contents (Elt F) → (⟨S64x192, .i32⟩ : BufTy).Contents (Elt F)),
    nullary main_c_15 (constantI S_ 32 8#32),
    unary main_c_15 main_v78 (broadcastInDim S64x192 ![] bcast_S_S64x192 : (⟨S_, .i32⟩ : BufTy).Contents (Elt F) → (⟨S64x192, .i32⟩ : BufTy).Contents (Elt F)),
    binary main_v78 main_v77 main_v79 (addi : (⟨S64x192, .i32⟩ : BufTy).Contents (Elt F) → (⟨S64x192, .i32⟩ : BufTy).Contents (Elt F) → (⟨S64x192, .i32⟩ : BufTy).Contents (Elt F)),
    nullary main_c_16 (constantI S_ 32 15#32),
    unary main_c_16 main_v80 (broadcastInDim S64x192 ![] bcast_S_S64x192 : (⟨S_, .i32⟩ : BufTy).Contents (Elt F) → (⟨S64x192, .i32⟩ : BufTy).Contents (Elt F)),
    binary main_v79 main_v80 main_v81 (minsi : (⟨S64x192, .i32⟩ : BufTy).Contents (Elt F) → (⟨S64x192, .i32⟩ : BufTy).Contents (Elt F) → (⟨S64x192, .i32⟩ : BufTy).Contents (Elt F)),
    nullary main_c_17 (constantI S_ 32 8#32),
    unary main_c_17 main_v82 (broadcastInDim S64x192 ![] bcast_S_S64x192 : (⟨S_, .i32⟩ : BufTy).Contents (Elt F) → (⟨S64x192, .i32⟩ : BufTy).Contents (Elt F)),
    binary main_v66 main_v82 main_v83 (cmpi .slt : (⟨S64x192, .i32⟩ : BufTy).Contents (Elt F) → (⟨S64x192, .i32⟩ : BufTy).Contents (Elt F) → (⟨S64x192, .i1⟩ : BufTy).Contents (Elt F)),
    TRef.ternary (TRef.of (T := ⟨S64x192, .i1⟩) main_v83) (TRef.of (T := ⟨S64x192, .i32⟩) main_v66) (TRef.of (T := ⟨S64x192, .i32⟩) main_v81) (TRef.of (T := ⟨S64x192, .i32⟩) main_v84) select,
    unary main_v65 main_v85 (id : (⟨S64x192, .i32⟩ : BufTy).Contents (Elt F) → (⟨S64x192, .i32⟩ : BufTy).Contents (Elt F)),
    binary main_v85 main_v84 main_v86 (addi : (⟨S64x192, .i32⟩ : BufTy).Contents (Elt F) → (⟨S64x192, .i32⟩ : BufTy).Contents (Elt F) → (⟨S64x192, .i32⟩ : BufTy).Contents (Elt F)),
    nullary main_c_18 (constantI S_ 32 0#32),
    unary main_c_18 main_v87 (broadcastInDim S64x192 ![] bcast_S_S64x192 : (⟨S_, .i32⟩ : BufTy).Contents (Elt F) → (⟨S64x192, .i32⟩ : BufTy).Contents (Elt F)),
    binary main_v86 main_v87 main_v88 (cmpi .slt : (⟨S64x192, .i32⟩ : BufTy).Contents (Elt F) → (⟨S64x192, .i32⟩ : BufTy).Contents (Elt F) → (⟨S64x192, .i1⟩ : BufTy).Contents (Elt F)),
    nullary main_c_19 (constantI S_ 32 32#32),
    unary main_c_19 main_v89 (broadcastInDim S64x192 ![] bcast_S_S64x192 : (⟨S_, .i32⟩ : BufTy).Contents (Elt F) → (⟨S64x192, .i32⟩ : BufTy).Contents (Elt F)),
    binary main_v86 main_v89 main_v90 (addi : (⟨S64x192, .i32⟩ : BufTy).Contents (Elt F) → (⟨S64x192, .i32⟩ : BufTy).Contents (Elt F) → (⟨S64x192, .i32⟩ : BufTy).Contents (Elt F)),
    ternary main_v88 main_v90 main_v86 main_v91 (select : (⟨S64x192, .i1⟩ : BufTy).Contents (Elt F) → (⟨S64x192, .i32⟩ : BufTy).Contents (Elt F) → (⟨S64x192, .i32⟩ : BufTy).Contents (Elt F) → (⟨S64x192, .i32⟩ : BufTy).Contents (Elt F)),
    unary main_v91 main_v92 (broadcastInDim S64x192x1 ![0, 1] bcast_S64x192_S64x192x1_0_1 : (⟨S64x192, .i32⟩ : BufTy).Contents (Elt F) → (⟨S64x192x1, .i32⟩ : BufTy).Contents (Elt F)),
    binary main_v8 main_v92 main_v93 ((fun x i => Host.gather gather_S32x4_S64x192x1_S64x192x4_2_0_n_n_0_2_14 x i) : (⟨S32x4, .f32⟩ : BufTy).Contents (Elt F) → (⟨S64x192x1, .i32⟩ : BufTy).Contents (Elt F) → (⟨S64x192x4, .f32⟩ : BufTy).Contents (Elt F)),
    unary main_v93 main_v94 ((transpose S4x64x192 [2, 0, 1] · transposes_S64x192x4_S4x64x192_2_0_1) : (⟨S64x192x4, .f32⟩ : BufTy).Contents (Elt F) → (⟨S4x64x192, .f32⟩ : BufTy).Contents (Elt F)) ]

/-- the operations for the scores, their exponentials and the three results -/
abbrev opsF : List (HloOp τ sig (Elt F)) :=
  [ unary main_v60 main_v95 (broadcastInDim S1x256x1x1x64x192 ![1, 4, 5] bcast_S256x64x192_S1x256x1x1x64x192_1_4_5 : (⟨S256x64x192, .i1⟩ : BufTy).Contents (Elt F) → (⟨S1x256x1x1x64x192, .i1⟩ : BufTy).Contents (Elt F)),
    unary main_v94 main_v96 (broadcastInDim S1x1x1x4x64x192 ![3, 4, 5] bcast_S4x64x192_S1x1x1x4x64x192_3_4_5 : (⟨S4x64x192, .f32⟩ : BufTy).Contents (Elt F) → (⟨S1x1x1x4x64x192, .f32⟩ : BufTy).Contents (Elt F)),
    unary main_v96 main_v97 (broadcastInDim S2x256x1x4x64x192 ![0, 1, 2, 3, 4, 5] bcast_S1x1x1x4x64x192_S2x256x1x4x64x192_0_1_2_3_4_5 : (⟨S1x1x1x4x64x192, .f32⟩ : BufTy).Contents (Elt F) → (⟨S2x256x1x4x64x192, .f32⟩ : BufTy).Contents (Elt F)),
    binary main_v27 main_v97 main_v98 (addf : (⟨S2x256x1x4x64x192, .f32⟩ : BufTy).Contents (Elt F) → (⟨S2x256x1x4x64x192, .f32⟩ : BufTy).Contents (Elt F) → (⟨S2x256x1x4x64x192, .f32⟩ : BufTy).Contents (Elt F)),
    nullary main_cst_20 (constant S_ .f32 0xFF800000#32),
    TRef.unary (TRef.of (T := ⟨S_, .f32⟩) main_cst_20) (TRef.of (T := ⟨S_, .f32⟩) main_call4_v0) id,
    TRef.unary (TRef.of (T := ⟨S1x256x1x1x64x192, .i1⟩) main_v95) (TRef.of (T := ⟨S2x256x1x4x64x192, .i1⟩) main_call4_v1) (broadcastInDim S2x256x1x4x64x192 ![0, 1, 2, 3, 4, 5] bcast_S1x256x1x1x64x192_S2x256x1x4x64x192_0_1_2_3_4_5),
    TRef.unary (TRef.of (T := ⟨S_, .f32⟩) main_call4_v0) (TRef.of (T := ⟨S2x256x1x4x64x192, .f32⟩) main_call4_v2) (broadcastInDim S2x256x1x4x64x192 ![] bcast_S_S2x256x1x4x64x192),
    TRef.ternary (TRef.of (T := ⟨S2x256x1x4x64x192, .i1⟩) main_call4_v1) (TRef.of (T := ⟨S2x256x1x4x64x192, .f32⟩) main_v98) (TRef.of (T := ⟨S2x256x1x4x64x192, .f32⟩) main_call4_v2) (TRef.of (T := ⟨S2x256x1x4x64x192, .f32⟩) main_v99) select,
    nullary main_cst_21 (constant S_ .f32 0xFF800000#32),
    binary main_v99 main_cst_21 main_v100 ((fun x v => Host.reduce FloatOps.maximumf x v reducesTo_S2x256x1x4x64x192_S2x256x1x4x64_d5 h_S_) : (⟨S2x256x1x4x64x192, .f32⟩ : BufTy).Contents (Elt F) → (⟨S_, .f32⟩ : BufTy).Contents (Elt F) → (⟨S2x256x1x4x64, .f32⟩ : BufTy).Contents (Elt F)),
    unary main_v100 main_v101 (broadcastInDim S2x256x1x4x64x1 ![0, 1, 2, 3, 4] bcast_S2x256x1x4x64_S2x256x1x4x64x1_0_1_2_3_4 : (⟨S2x256x1x4x64, .f32⟩ : BufTy).Contents (Elt F) → (⟨S2x256x1x4x64x1, .f32⟩ : BufTy).Contents (Elt F)),
    unary main_v101 main_v102 (broadcastInDim S2x256x1x4x64x192 ![0, 1, 2, 3, 4, 5] bcast_S2x256x1x4x64x1_S2x256x1x4x64x192_0_1_2_3_4_5 : (⟨S2x256x1x4x64x1, .f32⟩ : BufTy).Contents (Elt F) → (⟨S2x256x1x4x64x192, .f32⟩ : BufTy).Contents (Elt F)),
    binary main_v99 main_v102 main_v103 (subf : (⟨S2x256x1x4x64x192, .f32⟩ : BufTy).Contents (Elt F) → (⟨S2x256x1x4x64x192, .f32⟩ : BufTy).Contents (Elt F) → (⟨S2x256x1x4x64x192, .f32⟩ : BufTy).Contents (Elt F)),
    unary main_v103 main_v104 (Host.exp : (⟨S2x256x1x4x64x192, .f32⟩ : BufTy).Contents (Elt F) → (⟨S2x256x1x4x64x192, .f32⟩ : BufTy).Contents (Elt F)),
    nullary main_cst_22 (constant S_ .f32 0x00000000#32),
    binary main_v104 main_cst_22 main_v105 ((fun x v => Host.reduceAdd x v reducesTo_S2x256x1x4x64x192_S2x256x1x4x64_d5 h_S_) : (⟨S2x256x1x4x64x192, .f32⟩ : BufTy).Contents (Elt F) → (⟨S_, .f32⟩ : BufTy).Contents (Elt F) → (⟨S2x256x1x4x64, .f32⟩ : BufTy).Contents (Elt F)),
    binary main_v24 main_v104 main_v106 ((fun l r => Host.dotGeneral dot_S2x256x192x1x4x64_S2x256x1x4x64x192_S2x256x1x4x64x64_2_5_5_4_0134_0123 none l r) : (⟨S2x256x192x1x4x64, .f32⟩ : BufTy).Contents (Elt F) → (⟨S2x256x1x4x64x192, .f32⟩ : BufTy).Contents (Elt F) → (⟨S2x256x1x4x64x64, .f32⟩ : BufTy).Contents (Elt F)),
    unary main_v106 main_v107 ((transpose S2x256x64x1x4x64 [0, 1, 5, 2, 3, 4] · transposes_S2x256x1x4x64x64_S2x256x64x1x4x64_0_1_5_2_3_4) : (⟨S2x256x1x4x64x64, .f32⟩ : BufTy).Contents (Elt F) → (⟨S2x256x64x1x4x64, .f32⟩ : BufTy).Contents (Elt F)),
    reshape main_v101 main_v108 (rfl : (.f32 : EltTy) = .f32) shapeCasts_S2x256x1x4x64x1_S2x256x1x4x64,
    reshape main_v107 main_v109 (rfl : (.f32 : EltTy) = .f32) shapeCasts_S2x256x64x1x4x64_S2x16384x1x256,
    unary main_v109 main_v110 ((transpose S2x1x16384x256 [0, 2, 1, 3] · transposes_S2x16384x1x256_S2x1x16384x256_0_2_1_3) : (⟨S2x16384x1x256, .f32⟩ : BufTy).Contents (Elt F) → (⟨S2x1x16384x256, .f32⟩ : BufTy).Contents (Elt F)),
    reshape main_v110 main_v111 (rfl : (.f32 : EltTy) = .f32) shapeCasts_S2x1x16384x256_S2x16384x256,
    unary main_v108 main_v112 ((transpose S2x256x64x1x4 [0, 1, 4, 2, 3] · transposes_S2x256x1x4x64_S2x256x64x1x4_0_1_4_2_3) : (⟨S2x256x1x4x64, .f32⟩ : BufTy).Contents (Elt F) → (⟨S2x256x64x1x4, .f32⟩ : BufTy).Contents (Elt F)),
    unary main_v112 main_v113 (broadcastInDim S2x256x64x1x4x1 ![0, 1, 2, 3, 4] bcast_S2x256x64x1x4_S2x256x64x1x4x1_0_1_2_3_4 : (⟨S2x256x64x1x4, .f32⟩ : BufTy).Contents (Elt F) → (⟨S2x256x64x1x4x1, .f32⟩ : BufTy).Contents (Elt F)),
    unary main_v113 main_v114 (broadcastInDim S2x256x64x1x4x64 ![0, 1, 2, 3, 4, 5] bcast_S2x256x64x1x4x1_S2x256x64x1x4x64_0_1_2_3_4_5 : (⟨S2x256x64x1x4x1, .f32⟩ : BufTy).Contents (Elt F) → (⟨S2x256x64x1x4x64, .f32⟩ : BufTy).Contents (Elt F)),
    reshape main_v114 main_v115 (rfl : (.f32 : EltTy) = .f32) shapeCasts_S2x256x64x1x4x64_S2x16384x1x256,
    unary main_v115 main_v116 ((transpose S2x1x16384x256 [0, 2, 1, 3] · transposes_S2x16384x1x256_S2x1x16384x256_0_2_1_3) : (⟨S2x16384x1x256, .f32⟩ : BufTy).Contents (Elt F) → (⟨S2x1x16384x256, .f32⟩ : BufTy).Contents (Elt F)),
    reshape main_v116 main_v117 (rfl : (.f32 : EltTy) = .f32) shapeCasts_S2x1x16384x256_S2x16384x256,
    unary main_v105 main_v118 ((transpose S2x256x64x1x4 [0, 1, 4, 2, 3] · transposes_S2x256x1x4x64_S2x256x64x1x4_0_1_4_2_3) : (⟨S2x256x1x4x64, .f32⟩ : BufTy).Contents (Elt F) → (⟨S2x256x64x1x4, .f32⟩ : BufTy).Contents (Elt F)),
    unary main_v118 main_v119 (broadcastInDim S2x256x64x1x4x1 ![0, 1, 2, 3, 4] bcast_S2x256x64x1x4_S2x256x64x1x4x1_0_1_2_3_4 : (⟨S2x256x64x1x4, .f32⟩ : BufTy).Contents (Elt F) → (⟨S2x256x64x1x4x1, .f32⟩ : BufTy).Contents (Elt F)),
    unary main_v119 main_v120 (broadcastInDim S2x256x64x1x4x64 ![0, 1, 2, 3, 4, 5] bcast_S2x256x64x1x4x1_S2x256x64x1x4x64_0_1_2_3_4_5 : (⟨S2x256x64x1x4x1, .f32⟩ : BufTy).Contents (Elt F) → (⟨S2x256x64x1x4x64, .f32⟩ : BufTy).Contents (Elt F)),
    reshape main_v120 main_v121 (rfl : (.f32 : EltTy) = .f32) shapeCasts_S2x256x64x1x4x64_S2x16384x1x256,
    unary main_v121 main_v122 ((transpose S2x1x16384x256 [0, 2, 1, 3] · transposes_S2x16384x1x256_S2x1x16384x256_0_2_1_3) : (⟨S2x16384x1x256, .f32⟩ : BufTy).Contents (Elt F) → (⟨S2x1x16384x256, .f32⟩ : BufTy).Contents (Elt F)),
    reshape main_v122 main_v123 (rfl : (.f32 : EltTy) = .f32) shapeCasts_S2x1x16384x256_S2x16384x256 ]

/-- the reference's operations -/
abbrev ops : List (HloOp τ sig (Elt F)) := opsA ++ (opsB ++ (opsC ++ (opsD ++ (opsE ++ opsF))))

variable (W : Valuation τ sig (Elt Ideal))

theorem D_products : after opsD W main_v27 = products (W main_v10) (W main_v17) := by
  after_reads_simp; rfl
theorem D_steps : after opsD W main_v36 = steps := by
  after_reads_simp; rfl
theorem D_allowed : after opsD W main_v60 = allowed := by
  after_reads_simp; rfl
theorem D_values : after opsD W main_v24 = W main_v24 := by
  after_reads_simp
theorem D_table : after opsD W main_v8 = W main_v8 := by
  after_reads_simp

theorem E_biases (h : W main_v36 = steps) : after opsE W main_v94
    = transpose S4x64x192 [2, 0, 1] (biases (W main_v8)) transposes_S64x192x4_S4x64x192_2_0_1 := by
  after_reads_simp; simp only [TRef.ofBuf_toBuf, h]; rfl
theorem E_products : after opsE W main_v27 = W main_v27 := by
  after_reads_simp
theorem E_allowed : after opsE W main_v60 = W main_v60 := by
  after_reads_simp
theorem E_values : after opsE W main_v24 = W main_v24 := by
  after_reads_simp

theorem F_mixes : after opsF W main_v111 = laid (mixes (scored (W main_v60) (W main_v27) (W main_v94)) (W main_v24)) := by
  after_reads_simp; simp only [TRef.ofBuf_toBuf]; rfl
theorem F_maxima : after opsF W main_v117 = laid (repeated (kept (maxima (scored (W main_v60) (W main_v27) (W main_v94))))) := by
  after_reads_simp; simp only [TRef.ofBuf_toBuf]; rfl
theorem F_sums : after opsF W main_v123 = laid (repeated (sums (scored (W main_v60) (W main_v27) (W main_v94)))) := by
  after_reads_simp; simp only [TRef.ofBuf_toBuf]; rfl

theorem split (b : DevRef τ sig) : after ops W b = after opsF (after opsE (after opsD (after opsC (after opsB (after opsA W))))) b := rfl

theorem ops_mixes : after ops W main_v111 = laid (mixes (scores (W main_arg0) (W main_arg1))
    (windows (W main_arg0) 2 slices_S2x16384x3x3x4x64_S2x16384x1x1x4x64_0_0_2_0_0_0)) := by
  rw [split, F_mixes, E_allowed, E_products, E_values, E_biases _ (D_steps _), D_allowed, D_products, D_values, D_table, C_queries, C_keys, C_values, C_table, B_queries,
    B_keys, B_values, B_table, A_grouped, A_table]
  rfl
theorem ops_maxima : after ops W main_v117 = laid (repeated (kept (maxima (scores (W main_arg0) (W main_arg1))))) := by
  rw [split, F_maxima, E_allowed, E_products, E_biases _ (D_steps _), D_allowed, D_products, D_table, C_queries, C_keys, C_table, B_queries, B_keys, B_table, A_grouped, A_table]
  rfl
theorem ops_sums : after ops W main_v123 = laid (repeated (sums (scores (W main_arg0) (W main_arg1)))) := by
  rw [split, F_sums, E_allowed, E_products, E_biases _ (D_steps _), D_allowed, D_products, D_table, C_queries, C_keys, C_table, B_queries, B_keys, B_table, A_grouped, A_table]
  rfl
theorem ops_arg0 : after ops W main_arg0 = W main_arg0 := by
  after_reads_simp
theorem ops_arg1 : after ops W main_arg1 = W main_arg1 := by
  after_reads_simp

set_option maxHeartbeats 4000000 in
theorem main_eq (c : Dev nD) : main (F := Ideal) c = seq ops := rfl

theorem ops_sub : (ops : List (HloOp τ sig (Elt Ideal))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., reshape_bufs_sub .., reshape_bufs_sub .., nullary_bufs_sub .., unary_bufs_sub .., binary_bufs_sub .., reshape_bufs_sub .., unary_bufs_sub .., unary_bufs_sub .., unary_bufs_sub .., nary_bufs_sub .., reshape_bufs_sub .., nullary_bufs_sub .., unary_bufs_sub .., binary_bufs_sub .., reshape_bufs_sub .., unary_bufs_sub .., unary_bufs_sub .., unary_bufs_sub .., nary_bufs_sub .., binary_bufs_sub .., nullary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., unary_bufs_sub .., nullary_bufs_sub .., unary_bufs_sub .., binary_bufs_sub .., nullary_bufs_sub .., unary_bufs_sub .., nullary_bufs_sub .., unary_bufs_sub .., binary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., ternary_bufs_sub .., unary_bufs_sub .., nullary_bufs_sub .., unary_bufs_sub .., binary_bufs_sub .., unary_bufs_sub .., nullary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., nullary_bufs_sub .., unary_bufs_sub .., unary_bufs_sub .., unary_bufs_sub .., ternary_bufs_sub .., nullary_bufs_sub .., binary_bufs_sub .., unary_bufs_sub .., unary_bufs_sub .., binary_bufs_sub .., unary_bufs_sub .., nullary_bufs_sub .., binary_bufs_sub .., binary_bufs_sub .., unary_bufs_sub .., reshape_bufs_sub .., reshape_bufs_sub .., unary_bufs_sub .., reshape_bufs_sub .., unary_bufs_sub .., unary_bufs_sub .., unary_bufs_sub .., reshape_bufs_sub .., unary_bufs_sub .., reshape_bufs_sub .., unary_bufs_sub .., unary_bufs_sub .., unary_bufs_sub .., reshape_bufs_sub .., unary_bufs_sub .., reshape_bufs_sub ..⟩

/-- the reference ends with its three results in place and its arguments unchanged -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v111) = laid (mixes (scores (m ((c.tc : Thread nD τ).loc main_arg0)) (m ((c.tc : Thread nD τ).loc main_arg1)))
        (windows (m ((c.tc : Thread nD τ).loc main_arg0)) 2 slices_S2x16384x3x3x4x64_S2x16384x1x1x4x64_0_0_2_0_0_0))
      ∧ r.2.mem ((c.tc : Thread nD τ).loc main_v117)
        = laid (repeated (kept (maxima (scores (m ((c.tc : Thread nD τ).loc main_arg0)) (m ((c.tc : Thread nD τ).loc main_arg1))))))
      ∧ r.2.mem ((c.tc : Thread nD τ).loc main_v123)
        = laid (repeated (sums (scores (m ((c.tc : Thread nD τ).loc main_arg0)) (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v111).trans (ops_mixes _), (h c main_v117).trans (ops_maxima _),
      (h c main_v123).trans (ops_sums _), (h c main_arg0).trans (ops_arg0 _), (h c main_arg1).trans (ops_arg1 _)⟩)
    (run_seq (by decide) (by decide) defs main (fun _ => ops) main_eq (fun _ => ops_sub) m ρ)

end Cert.Reference

end
-- ==== Proof.Norm.lean ====
/- A row normalized over its 1024 features, scaled and shifted, and the product of such a row with a column of weights: the mathematics
   that the kernel of the wide projection and its reference share; and the same as a tile of the kernel computes it. -/
module

public import proofs.«01_k».proof.Proof.Gen.ProjectionIdeal.Skeleton
public import Idealize.ShloMosaic.Lib.Pointwise

@[expose] public section

set_option maxRecDepth 16384

noncomputable section

namespace Cert.Norm

open Cert.ProjectionIdeal Cert.ProjectionIdeal.Gen Idealize.ShloMosaic Idealize.ShloMosaic.TcCoe

/-- the mean of a row -/
def mean (x : Fin 1024 → EReal) : EReal := Ideal.div (∑ k, x k) (Ideal.ofBits .f32 0x44800000#32)

/-- the mean of the squares of a row's distances from its mean -/
def variance (x : Fin 1024 → EReal) : EReal := mean fun k => (x k - mean x) * (x k - mean x)

/-- a row normalized, scaled and shifted -/
def normed (x g b : Fin 1024 → EReal) (k : Fin 1024) : EReal :=
  (x k - mean x) * Ideal.rsqrt (variance x + Ideal.ofBits .f32 0x3727C5AC#32) * g k + b k

/-- a row times a column of weights, and its bias -/
def proj (h w : Fin 1024 → EReal) (b : EReal) : EReal := (∑ k, h k * w k) + b

theorem tile_at (x : Vec Ideal S256x1024 .f32) (g b : Vec Ideal S1x1024 .f32) (r : Fin 256) (k : Fin 1024) :
    k0_pay4 x g b (ix2 r k) = normed (fun k => x (ix2 r k)) (fun k => g (ix2 0 k)) (fun k => b (ix2 0 k)) k := by
  pointwise [k0_pay4]
  rfl

/-- 512 columns of a tile's product -/
def chunk (h : FVec Ideal S256x1024 .bf16) (w : Vec Ideal S1024x512 .bf16) (b : Vec Ideal S1x512 .f32) : FVec Ideal S256x512 .f32 :=
  addf (matmul dot_S256x1024_S1024x512_S256x512_1_0_0_1_n_n none h (shapeCast S1024x512 w shapeCasts_S1024x512_S1024x512 : FVec Ideal S1024x512 .bf16)
      (constant (F := Ideal) S256x512 .f32 0x00000000#32))
    (broadcastTo S256x512 (shapeCast S1x512 b shapeCasts_S1x512_S1x512 : FVec Ideal S1x512 .f32) broadcasts_S1x512_S256x512)

theorem chunk_at (h : FVec Ideal S256x1024 .bf16) (w : Vec Ideal S1024x512 .bf16) (b : Vec Ideal S1x512 .f32) (r : Fin 256) (cc : Fin 512) :
    chunk h w b (ix2 r cc) = proj (fun k => h (ix2 r k)) (fun k => w (ix2 k cc)) (b (ix2 0 cc)) := by
  pointwise [chunk]
  rfl

/-- 768 columns of a tile's product, in the format they are stored in -/
def wide (h : FVec Ideal S256x1024 .bf16) (w : Vec Ideal S1024x768 .bf16) (b : Vec Ideal S1x768 .f32) : FVec Ideal S256x768 .bf16 :=
  truncf .bf16 (addf (matmul dot_S256x1024_S1024x768_S256x768_1_0_0_1_n_n none h (shapeCast S1024x768 w shapeCasts_S1024x768_S1024x768 : FVec Ideal S1024x768 .bf16)
      (constant (F := Ideal) S256x768 .f32 0x00000000#32))
    (broadcastTo S256x768 (shapeCast S1x768 b shapeCasts_S1x768_S1x768 : FVec Ideal S1x768 .f32) broadcasts_S1x768_S256x768)) bitsLt_bf16_f32

theorem wide_at (h : FVec Ideal S256x1024 .bf16) (w : Vec Ideal S1024x768 .bf16) (b : Vec Ideal S1x768 .f32) (r : Fin 256) (cc : Fin 768) :
    wide h w b (ix2 r cc) = proj (fun k => h (ix2 r k)) (fun k => w (ix2 k cc)) (b (ix2 0 cc)) := by
  pointwise [wide]
  rfl

/-! The stores of a tile, each as its part of the product -/

section Payloads

variable (h : FVec Ideal S256x1024 .bf16) (w : Vec Ideal S1024x512 .bf16) (b : Vec Ideal S1x512 .f32)
  (w' : Vec Ideal S1024x768 .bf16) (b' : Vec Ideal S1x768 .f32)

theorem fourier (x : Vec Ideal S256x1024 .f32) (g s : Vec Ideal S1x1024 .f32) : k0_pay6 x g s w b = chunk (k0_pay5 x g s) w b := rfl
theorem wide0 : k0_pay7 h w' b' = wide h w' b' := rfl
theorem wide1 : k0_pay8 h w' b' = wide h w' b' := rfl
theorem wide2 : k0_pay9 h w' b' = wide h w' b' := rfl
theorem crossed : k0_pay12 (k0_pay10 h w) (k0_pay11 b) = truncf .bf16 (chunk h w b) bitsLt_bf16_f32 := rfl
theorem gate0 : k0_pay13 h w b = chunk h w b := rfl
theorem gate1 : k0_pay14 h w b = chunk h w b := rfl
theorem gate2 : k0_pay15 h w b = chunk h w b := rfl
theorem gate3 : k0_pay1 h (k0_pay16 w) (constant (F := Ideal) S256x512 .f32 0x00000000#32) b = chunk h w b := rfl
theorem gate4 : k0_pay2 h w b = chunk h w b := rfl
theorem gate5 : k0_pay3 h w b = chunk h w b := rfl

end Payloads

end Cert.Norm

end
-- ==== Proof.ProjectionValue.lean ====
/- The five arrays of the projection's kernel, each as one function of the arrays its call is given: the normalized rows, and four
   ranges of columns of their product with the weights. -/
module

public import proofs.«01_k».proof.Proof.Gen.ProjectionIdeal.Value
public import Idealize.ShloMosaic.Lib.Pipeline.ValueKit
public import proofs.«01_k».proof.Proof.Norm

@[expose] public section

set_option maxRecDepth 16384

noncomputable section

namespace Cert.ProjectionValue

open Cert.ProjectionIdeal Cert.ProjectionIdeal.Gen Idealize.ShloMosaic Idealize.ShloMosaic.TcCoe

variable (m : (ℓ : Loc nD τ sig) → Buf (Elt Ideal) ℓ)

/-- a normalized row of the array -/
def row (X : Vec Ideal S32768x1024 .f32) (g b : Vec Ideal S1x1024 .f32) (l : Fin 32768) : Fin 1024 → EReal :=
  Norm.normed (fun k => X (ix2 l k)) (fun k => g (ix2 0 k)) (fun k => b (ix2 0 k))

/-- one column of a row's product -/
def entry (X : Vec Ideal S32768x1024 .f32) (g b : Vec Ideal S1x1024 .f32) (W : Vec Ideal S1024x6400 .bf16) (B : Vec Ideal S1x6400 .f32)
    (l : Fin 32768) (c : Fin 6400) : EReal :=
  Norm.proj (row X g b l) (fun k => W (ix2 k c)) (B (ix2 0 c))

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

theorem rows_blk (c : Dev nD) (t : Fin cfg0.N) (r : Fin 256) (k : Fin 1024) (l : Fin 32768) (hl : l.val = 256 * t.val + r.val) :
    (iblk m c 0 t : Vec Ideal S256x1024 .f32) (ix2 r k) = V m c main_v0 (ix2 l k) := by
  blk_ext [iblk, V, idx t]

theorem scale_blk (c : Dev nD) (t : Fin cfg0.N) (k : Fin 1024) :
    (iblk m c 1 t : Vec Ideal S1x1024 .f32) (ix2 0 k) = V m c main_v1 (ix2 0 k) := by
  blk_ext [iblk, V, idx t]

theorem shift_blk (c : Dev nD) (t : Fin cfg0.N) (k : Fin 1024) :
    (iblk m c 2 t : Vec Ideal S1x1024 .f32) (ix2 0 k) = V m c main_v2 (ix2 0 k) := by
  blk_ext [iblk, V, idx t]

theorem weights_blk (c : Dev nD) (t : Fin cfg0.N) (k : Fin 1024) (cc : Fin 6400) :
    (iblk m c 3 t : Vec Ideal S1024x6400 .bf16) (ix2 k cc) = V m c main_v4 (ix2 k cc) := by
  blk_ext [iblk, V, idx t]

theorem bias_blk (c : Dev nD) (t : Fin cfg0.N) (cc : Fin 6400) :
    (iblk m c 4 t : Vec Ideal S1x6400 .f32) (ix2 0 cc) = V m c main_v6 (ix2 0 cc) := by
  blk_ext [iblk, V, idx t]

/-- a tile's normalized rows are rows of the array -/
theorem tile_eq (c : Dev nD) (t : Fin cfg0.N) (r : Fin 256) (k : Fin 1024) (l : Fin 32768) (hl : l.val = 256 * t.val + r.val) :
    k0_pay4 (F := Ideal) (View.ld (iblk m c 0 t) r0_0) (View.ld (iblk m c 1 t) r0_1) (View.ld (iblk m c 2 t) r0_1) (ix2 r k)
      = row (V m c main_v0) (V m c main_v1) (V m c main_v2) l k := by
  have hx : ∀ k : Fin 1024, View.ld (iblk m c 0 t) r0_0 (ix2 r k) = V m c main_v0 (ix2 l k) := by
    intro k
    pointwise
    exact (rows_blk m c t _ _ l (by simpa using hl)).trans (congrArg (fun z => V m c main_v0 (ix2 l z)) (Fin.ext (by simp)))
  have hg : ∀ k : Fin 1024, View.ld (iblk m c 1 t) r0_1 (ix2 0 k) = V m c main_v1 (ix2 0 k) := by
    intro k
    pointwise
    exact (scale_blk m c t _).trans (congrArg (fun z => V m c main_v1 (ix2 0 z)) (Fin.ext (by simp)))
  have hb : ∀ k : Fin 1024, View.ld (iblk m c 2 t) r0_1 (ix2 0 k) = V m c main_v2 (ix2 0 k) := by
    intro k
    pointwise
    exact (shift_blk m c t _).trans (congrArg (fun z => V m c main_v2 (ix2 0 z)) (Fin.ext (by simp)))
  rw [Norm.tile_at, row]
  simp only [hx, hg, hb]

theorem tile16_eq (c : Dev nD) (t : Fin cfg0.N) (r : Fin 256) (l : Fin 32768) (hl : l.val = 256 * t.val + r.val) :
    (fun k => k0_pay5 (F := Ideal) (View.ld (iblk m c 0 t) r0_0) (View.ld (iblk m c 1 t) r0_1) (View.ld (iblk m c 2 t) r0_1) (ix2 r k))
      = row (V m c main_v0) (V m c main_v1) (V m c main_v2) l :=
  funext fun k => tile_eq m c t r k l hl

/-- 512 columns of a tile's product, from the weights loaded at column `o` -/
theorem chunk_eq (c : Dev nD) (t : Fin cfg0.N) (o : ℕ) (hw hb) (r : Fin 256) (cc : Fin 512) (l : Fin 32768) (col : Fin 6400)
    (hl : l.val = 256 * t.val + r.val) (hc : col.val = o + cc.val) :
    Norm.chunk (k0_pay5 (F := Ideal) (View.ld (iblk m c 0 t) r0_0) (View.ld (iblk m c 1 t) r0_1) (View.ld (iblk m c 2 t) r0_1))
      (View.ld (iblk m c 3 t) (Rect.unit (s := S1024x6400) ![0, o] S1024x512.size hw))
      (View.ld (iblk m c 4 t) (Rect.unit (s := S1x6400) ![0, o] S1x512.size hb)) (ix2 r cc)
      = entry (V m c main_v0) (V m c main_v1) (V m c main_v2) (V m c main_v4) (V m c main_v6) l col := by
  rw [Norm.chunk_at, entry, tile16_eq m c t r l hl]
  refine congrArg₂ (Norm.proj _) (funext fun k => ?_) ?_
  · pointwise
    exact (weights_blk m c t _ _).trans (congrArg₂ (fun y z => V m c main_v4 (ix2 y z)) (Fin.ext (by simp)) (Fin.ext (by simp; omega)))
  · pointwise
    exact (bias_blk m c t _).trans (congrArg (fun z => V m c main_v6 (ix2 0 z)) (Fin.ext (by simp; omega)))

/-- 768 columns likewise -/
theorem wide_eq (c : Dev nD) (t : Fin cfg0.N) (o : ℕ) (hw hb) (r : Fin 256) (cc : Fin 768) (l : Fin 32768) (col : Fin 6400)
    (hl : l.val = 256 * t.val + r.val) (hc : col.val = o + cc.val) :
    Norm.wide (k0_pay5 (F := Ideal) (View.ld (iblk m c 0 t) r0_0) (View.ld (iblk m c 1 t) r0_1) (View.ld (iblk m c 2 t) r0_1))
      (View.ld (iblk m c 3 t) (Rect.unit (s := S1024x6400) ![0, o] S1024x768.size hw))
      (View.ld (iblk m c 4 t) (Rect.unit (s := S1x6400) ![0, o] S1x768.size hb)) (ix2 r cc)
      = entry (V m c main_v0) (V m c main_v1) (V m c main_v2) (V m c main_v4) (V m c main_v6) l col := by
  rw [Norm.wide_at, entry, tile16_eq m c t r l hl]
  refine congrArg₂ (Norm.proj _) (funext fun k => ?_) ?_
  · pointwise
    exact (weights_blk m c t _ _).trans (congrArg₂ (fun y z => V m c main_v4 (ix2 y z)) (Fin.ext (by simp)) (Fin.ext (by simp; omega)))
  · pointwise
    exact (bias_blk m c t _).trans (congrArg (fun z => V m c main_v6 (ix2 0 z)) (Fin.ext (by simp; omega)))

end Cert.ProjectionValue

end
-- ==== Proof.ProjectionFinal.lean ====
/- The five arrays after the projection's kernel has run over its 128 tiles. -/
module

public import proofs.«01_k».proof.Proof.ProjectionValue

@[expose] public section

set_option maxRecDepth 16384

noncomputable section

namespace Cert.ProjectionValue

open Cert.ProjectionIdeal Cert.ProjectionIdeal.Gen Idealize.ShloMosaic Idealize.ShloMosaic.TcCoe

variable (m : (ℓ : Loc nD τ sig) → Buf (Elt Ideal) ℓ)

section Arrays

variable (X : Vec Ideal S32768x1024 .f32) (g b : Vec Ideal S1x1024 .f32) (W : Vec Ideal S1024x6400 .bf16) (B : Vec Ideal S1x6400 .f32)

def G5 : FVec Ideal S32768x1024 .f32 := fun j => row X g b (j 0) (j 1)

def G6 : FVec Ideal S32768x512 .f32 := fun j => entry X g b W B (j 0) ⟨(j 1).val, by have h : (j 1).val < 512 := (j 1).isLt; omega⟩

def G7 : FVec Ideal S32768x2304 .bf16 := fun j => entry X g b W B (j 0) ⟨512 + (j 1).val, by have h : (j 1).val < 2304 := (j 1).isLt; omega⟩

def G8 : FVec Ideal S32768x512 .bf16 := fun j => entry X g b W B (j 0) ⟨2816 + (j 1).val, by have h : (j 1).val < 512 := (j 1).isLt; omega⟩

def G9 : FVec Ideal S32768x3072 .f32 := fun j => entry X g b W B (j 0) ⟨3328 + (j 1).val, by have h : (j 1).val < 3072 := (j 1).isLt; omega⟩

end Arrays

theorem emb5 (t : Fin cfg0.N) (y : S256x1024.Idx) :
    ((((View.whole main_v7_0).slice (win0_5.rect t)).emb y : S32768x1024.Idx) 0).val = 256 * t.val + (y 0).val
    ∧ ((((View.whole main_v7_0).slice (win0_5.rect t)).emb y : S32768x1024.Idx) 1).val = (y 1).val := by
  refine ⟨?_, ?_⟩ <;> blk_simp [idx t] <;> omega

theorem emb6 (t : Fin cfg0.N) (y : S256x512.Idx) :
    ((((View.whole main_v7_1).slice (win0_6.rect t)).emb y : S32768x512.Idx) 0).val = 256 * t.val + (y 0).val
    ∧ ((((View.whole main_v7_1).slice (win0_6.rect t)).emb y : S32768x512.Idx) 1).val = (y 1).val := by
  refine ⟨?_, ?_⟩ <;> blk_simp [idx t] <;> omega

theorem emb7 (t : Fin cfg0.N) (y : S256x2304.Idx) :
    ((((View.whole main_v7_2).slice (win0_7.rect t)).emb y : S32768x2304.Idx) 0).val = 256 * t.val + (y 0).val
    ∧ ((((View.whole main_v7_2).slice (win0_7.rect t)).emb y : S32768x2304.Idx) 1).val = (y 1).val := by
  refine ⟨?_, ?_⟩ <;> blk_simp [idx t] <;> omega

theorem emb8 (t : Fin cfg0.N) (y : S256x512.Idx) :
    ((((View.whole main_v7_3).slice (win0_8.rect t)).emb y : S32768x512.Idx) 0).val = 256 * t.val + (y 0).val
    ∧ ((((View.whole main_v7_3).slice (win0_8.rect t)).emb y : S32768x512.Idx) 1).val = (y 1).val := by
  refine ⟨?_, ?_⟩ <;> blk_simp [idx t] <;> omega

theorem emb9 (t : Fin cfg0.N) (y : S256x3072.Idx) :
    ((((View.whole main_v7_4).slice (win0_9.rect t)).emb y : S32768x3072.Idx) 0).val = 256 * t.val + (y 0).val
    ∧ ((((View.whole main_v7_4).slice (win0_9.rect t)).emb y : S32768x3072.Idx) 1).val = (y 1).val := by
  refine ⟨?_, ?_⟩ <;> blk_simp [idx t] <;> omega

set_option maxHeartbeats 1000000 in
theorem final5 (c : Dev nD) : (dats m 0 c).arrAt 5 (cfgs 0).N
    = G5 (V m c main_v0) (V m c main_v1) (V m c main_v2) := by
  refine (dats m 0 c).arrAt_eq_of_covers 5 _ (by decide +kernel) fun t hf y => ?_
  obtain ⟨e0, e1⟩ := emb5 t y
  blk_simp
  rw [after0_5]
  unfold out0_5
  canon_tiles x h
  all_goals idx_vars x
  exact (tile_eq m c t x0 x1 _ (e0.trans (by rw [h0]))).trans (congrArg _ (Fin.ext (e1.trans h1).symm))

set_option maxHeartbeats 1000000 in
theorem final6 (c : Dev nD) : (dats m 0 c).arrAt 6 (cfgs 0).N
    = G6 (V m c main_v0) (V m c main_v1) (V m c main_v2) (V m c main_v4) (V m c main_v6) := by
  refine (dats m 0 c).arrAt_eq_of_covers 6 _ (by decide +kernel) fun t hf y => ?_
  obtain ⟨e0, e1⟩ := emb6 t y
  blk_simp
  rw [after0_6]
  unfold out0_6
  canon_tiles x h
  all_goals idx_vars x
  case' piece0 => rw [Norm.fourier]
  all_goals exact chunk_eq m c t _ _ _ x0 x1 _ _ (e0.trans (by rw [h0])) (by simp only; omega)

set_option maxHeartbeats 1000000 in
theorem final7 (c : Dev nD) : (dats m 0 c).arrAt 7 (cfgs 0).N
    = G7 (V m c main_v0) (V m c main_v1) (V m c main_v2) (V m c main_v4) (V m c main_v6) := by
  refine (dats m 0 c).arrAt_eq_of_covers 7 _ (by decide +kernel) fun t hf y => ?_
  obtain ⟨e0, e1⟩ := emb7 t y
  blk_simp
  rw [after0_7]
  unfold out0_7 k0_pay17
  canon_tiles x h
  all_goals idx_vars x
  case' piece2 => rw [Norm.wide0]
  case' piece1 => rw [Norm.wide1]
  case' piece0 => rw [Norm.wide2]
  all_goals exact wide_eq m c t _ _ _ x0 x1 _ _ (e0.trans (by rw [h0])) (by simp only; omega)

set_option maxHeartbeats 1000000 in
theorem final8 (c : Dev nD) : (dats m 0 c).arrAt 8 (cfgs 0).N
    = G8 (V m c main_v0) (V m c main_v1) (V m c main_v2) (V m c main_v4) (V m c main_v6) := by
  refine (dats m 0 c).arrAt_eq_of_covers 8 _ (by decide +kernel) fun t hf y => ?_
  obtain ⟨e0, e1⟩ := emb8 t y
  blk_simp
  rw [after0_8]
  unfold out0_8 k0_pay17
  canon_tiles x h
  all_goals idx_vars x
  case' piece0 => rw [Norm.crossed]
  all_goals exact chunk_eq m c t _ _ _ x0 x1 _ _ (e0.trans (by rw [h0])) (by simp only; omega)

set_option maxHeartbeats 1000000 in
theorem final9 (c : Dev nD) : (dats m 0 c).arrAt 9 (cfgs 0).N
    = G9 (V m c main_v0) (V m c main_v1) (V m c main_v2) (V m c main_v4) (V m c main_v6) := by
  refine (dats m 0 c).arrAt_eq_of_covers 9 _ (by decide +kernel) fun t hf y => ?_
  obtain ⟨e0, e1⟩ := emb9 t y
  blk_simp
  rw [after0_9]
  unfold out0_9 k0_pay17
  canon_tiles x h
  all_goals idx_vars x
  case' piece5 => rw [Norm.gate0]
  case' piece4 => rw [Norm.gate1]
  case' piece3 => rw [Norm.gate2]
  case' piece2 => rw [Norm.gate3]
  case' piece1 => rw [Norm.gate4]
  case' piece0 => rw [Norm.gate5]
  all_goals exact chunk_eq m c t _ _ _ x0 x1 _ _ (e0.trans (by rw [h0])) (by simp only; omega)

end Cert.ProjectionValue

end
-- ==== Proof.Projected.lean ====
/- What the reference of the wide projection computes: every row normalized, and its product with the weights, in ranges of columns. -/
module

public import proofs.«01_k».proof.Proof.Gen.ProjectedIdeal.Run
public import Idealize.ShloMosaic.Lib.Pointwise
public import proofs.«01_k».proof.Proof.Norm

@[expose] public section

set_option maxRecDepth 16384

noncomputable section

namespace Cert.Projected

open Cert.ProjectedIdeal Cert.ProjectedIdeal.Gen Idealize.ShloMosaic Idealize.ShloMosaic.TcCoe Idealize.SL.Sem

section Spec

variable (X : FVec Ideal S2x16384x1024 .f32) (g b : FVec Ideal S1024 .f32) (W : FVec Ideal S1x1024x6400 .f32) (B : FVec Ideal S1x6400 .f32)

/-- the normalized row at position `l` of sequence `s` -/
def row (s : Fin 2) (l : Fin 16384) : Fin 1024 → EReal :=
  Norm.normed (fun k => X (ix3 s l k)) (fun k => g (ix1 k)) (fun k => b (ix1 k))

/-- one column of its product with the weights -/
def entry (s : Fin 2) (l : Fin 16384) (c : Fin 6400) : EReal :=
  Norm.proj (row X g b s l) (fun k => W (ix3 0 k c)) (B (ix2 0 c))

/-- the sequence a row of the layer's arrays belongs to, and its position there -/
def seqOf (r : Fin 32768) : Fin 2 := ⟨r.val / 16384, Nat.div_lt_of_lt_mul r.isLt⟩
def posOf (r : Fin 32768) : Fin 16384 := ⟨r.val % 16384, Nat.mod_lt _ (by decide)⟩

/-- the normalized rows -/
def normal : FVec Ideal S32768x1024 .f32 := fun j => row X g b (seqOf (j 0)) (posOf (j 0)) (j 1)

/-- the columns of the Fourier mixing -/
def fourier : FVec Ideal S32768x512 .f32 := fun j =>
  entry X g b W B (seqOf (j 0)) (posOf (j 0)) ⟨(j 1).val, by have h : (j 1).val < 512 := (j 1).isLt; omega⟩

/-- the columns of the queries, keys and values -/
def wide : FVec Ideal S32768x2304 .bf16 := fun j =>
  entry X g b W B (seqOf (j 0)) (posOf (j 0)) ⟨512 + (j 1).val, by have h : (j 1).val < 2304 := (j 1).isLt; omega⟩

/-- the columns of the queries to the memory -/
def crossed : FVec Ideal S32768x512 .bf16 := fun j =>
  entry X g b W B (seqOf (j 0)) (posOf (j 0)) ⟨2816 + (j 1).val, by have h : (j 1).val < 512 := (j 1).isLt; omega⟩

/-- the columns of the gates -/
def gates : FVec Ideal S32768x3072 .f32 := fun j =>
  entry X g b W B (seqOf (j 0)) (posOf (j 0)) ⟨3328 + (j 1).val, by have h : (j 1).val < 3072 := (j 1).isLt; omega⟩

/-- the mean of every row, as a column -/
def means (x : FVec Ideal S2x16384x1024 .f32) : FVec Ideal S2x16384x1 .f32 :=
  Host.divf (broadcastInDim S2x16384x1 ![0, 1] bcast_S2x16384_S2x16384x1_0_1
      (Host.reduceAdd x (constant S_ .f32 0x00000000#32) reducesTo_S2x16384x1024_S2x16384_d2 h_S_))
    (broadcastInDim S2x16384x1 ![] bcast_S_S2x16384x1 (constant S_ .f32 0x44800000#32))

/-- each row less its mean -/
def centred (x : FVec Ideal S2x16384x1024 .f32) : FVec Ideal S2x16384x1024 .f32 :=
  subf x (broadcastInDim S2x16384x1024 ![0, 1, 2] bcast_S2x16384x1_S2x16384x1024_0_1_2 (means x))

/-- the normalized rows, as the reference writes them -/
def normR : FVec Ideal S2x16384x1024 .f32 :=
  addf (mulf (mulf (centred X) (broadcastInDim S2x16384x1024 ![0, 1, 2] bcast_S2x16384x1_S2x16384x1024_0_1_2
        (Host.rsqrt (addf (means (mulf (centred X) (centred X))) (broadcastInDim S2x16384x1 ![] bcast_S_S2x16384x1 (constant S_ .f32 0x3727C5AC#32))))))
      (broadcastInDim S2x16384x1024 ![0, 1, 2] bcast_S1x1x1024_S2x16384x1024_0_1_2 (broadcastInDim S1x1x1024 ![2] bcast_S1024_S1x1x1024_2 g)))
    (broadcastInDim S2x16384x1024 ![0, 1, 2] bcast_S1x1x1024_S2x16384x1024_0_1_2 (broadcastInDim S1x1x1024 ![2] bcast_S1024_S1x1x1024_2 b))

/-- their product with all the weights -/
def product : FVec Ideal S2x16384x6400 .f32 :=
  addf (Host.dotGeneral dot_S2x16384x1024_S1024x6400_S2x16384x6400_2_0_01_1_n_n none (normR X g b)
      (shapeCast S1024x6400 W shapeCasts_S1x1024x6400_S1024x6400 : FVec Ideal S1024x6400 .f32))
    (broadcastInDim S2x16384x6400 ![0, 1, 2] bcast_S1x1x6400_S2x16384x6400_0_1_2
      (broadcastInDim S1x1x6400 ![2] bcast_S6400_S1x1x6400_2 (shapeCast S6400 B shapeCasts_S1x6400_S6400 : FVec Ideal S6400 .f32)))

theorem means_at (x : FVec Ideal S2x16384x1024 .f32) (s : Fin 2) (l : Fin 16384) :
    means x (ix3 s l 0) = Norm.mean fun k => x (ix3 s l k) := by
  pointwise [means]
  rfl

theorem centred_at (x : FVec Ideal S2x16384x1024 .f32) (s : Fin 2) (l : Fin 16384) (k : Fin 1024) :
    centred x (ix3 s l k) = x (ix3 s l k) - Norm.mean fun k => x (ix3 s l k) := by
  pointwise [centred, means_at]

theorem normR_at (s : Fin 2) (l : Fin 16384) (k : Fin 1024) : normR X g b (ix3 s l k) = row X g b s l k := by
  pointwise [normR, means_at, centred_at]
  rfl

theorem product_at (s : Fin 2) (l : Fin 16384) (c : Fin 6400) : product X g b W B (ix3 s l c) = entry X g b W B s l c := by
  pointwise [product, normR_at]
  rfl

theorem normal_eq : shapeCast S32768x1024 (normR X g b) shapeCasts_S2x16384x1024_S32768x1024 = normal X g b := by
  funext j
  idx_vars j
  pointwise [normR_at]
  rfl

theorem fourier_eq : shapeCast S32768x512 (extractStridedSlice S2x16384x512 ![0, 0, 0] (product X g b W B) slices_S2x16384x6400_S2x16384x512_0_0_0)
    shapeCasts_S2x16384x512_S32768x512 = fourier X g b W B := by
  funext j
  idx_vars j
  pointwise [product_at]
  rfl

theorem wide_eq : truncf .bf16 (shapeCast S32768x2304 (extractStridedSlice S2x16384x2304 ![0, 0, 512] (product X g b W B)
    slices_S2x16384x6400_S2x16384x2304_0_0_512) shapeCasts_S2x16384x2304_S32768x2304 : FVec Ideal S32768x2304 .f32) bitsLt_bf16_f32 = wide X g b W B := by
  funext j
  idx_vars j
  pointwise [product_at]
  rfl

theorem crossed_eq : truncf .bf16 (shapeCast S32768x512 (extractStridedSlice S2x16384x512 ![0, 0, 2816] (product X g b W B)
    slices_S2x16384x6400_S2x16384x512_0_0_2816) shapeCasts_S2x16384x512_S32768x512 : FVec Ideal S32768x512 .f32) bitsLt_bf16_f32 = crossed X g b W B := by
  funext j
  idx_vars j
  pointwise [product_at]
  rfl

theorem gates_eq : shapeCast S32768x3072 (extractStridedSlice S2x16384x3072 ![0, 0, 3328] (product X g b W B) slices_S2x16384x6400_S2x16384x3072_0_0_3328)
    shapeCasts_S2x16384x3072_S32768x3072 = gates X g b W B := by
  funext j
  idx_vars j
  pointwise [product_at]
  rfl

end Spec

/-- an argument's contents -/
abbrev arg (m : (ℓ : Loc nD τ sig) → Buf (Elt Ideal) ℓ) (c : Dev nD) (b : Ref sig .tc) : Buf (Elt Ideal) ((c : Thread nD τ).loc b) :=
  m ((c : Thread nD τ).loc b)

/-- every execution of the reference ends with these five arrays, and its arguments as they were -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c : Thread nD τ).loc main_v36) = normal (arg m c main_arg0) (arg m c main_arg1) (arg m c main_arg2)
      ∧ r.2.mem ((c : Thread nD τ).loc main_v38)
        = fourier (arg m c main_arg0) (arg m c main_arg1) (arg m c main_arg2) (arg m c main_arg3) (arg m c main_arg4)
      ∧ r.2.mem ((c : Thread nD τ).loc main_v32)
        = wide (arg m c main_arg0) (arg m c main_arg1) (arg m c main_arg2) (arg m c main_arg3) (arg m c main_arg4)
      ∧ r.2.mem ((c : Thread nD τ).loc main_v35)
        = crossed (arg m c main_arg0) (arg m c main_arg1) (arg m c main_arg2) (arg m c main_arg3) (arg m c main_arg4)
      ∧ r.2.mem ((c : Thread nD τ).loc main_v40)
        = gates (arg m c main_arg0) (arg m c main_arg1) (arg m c main_arg2) (arg m c main_arg3) (arg m c main_arg4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun _ h c => ?_) (Value.run m g)
  obtain ⟨h0, h1, h2, h3, h4, h5⟩ := h c
  exact ⟨h0.trans (normal_eq _ _ _), h1.trans (fourier_eq _ _ _ _ _), h2.trans (wide_eq _ _ _ _ _), h3.trans (crossed_eq _ _ _ _ _),
    h4.trans (gates_eq _ _ _ _ _), h5⟩

end Cert.Projected

end
-- ==== Proof.ProjectionOperands.lean ====
/- The arrays the projection's call is given, as the host lays them out, and with them the kernel's five results in terms of the
   arguments. -/
module

public import proofs.«01_k».proof.Proof.ProjectionFinal
public import proofs.«01_k».proof.Proof.Projected
public import Idealize.ShloMosaic.Lib.StableHlo.RunRead

@[expose] public section

set_option maxRecDepth 16384

noncomputable section

namespace Cert.ProjectionValue

open Cert.ProjectionIdeal Cert.ProjectionIdeal.Gen Idealize.ShloMosaic Idealize.ShloMosaic.TcCoe Idealize.SL.Sem

variable (m : (ℓ : Loc nD τ sig) → Buf (Elt Ideal) ℓ)

/-- the layer's input, one row per position -/
def rowsK (x : FVec Ideal S2x16384x1024 .f32) : FVec Ideal S32768x1024 .f32 := shapeCast S32768x1024 x shapeCasts_S2x16384x1024_S32768x1024

/-- a scale or a shift, as one row -/
def lineK (x : FVec Ideal S1024 .f32) : FVec Ideal S1x1024 .f32 := shapeCast S1x1024 x shapeCasts_S1024_S1x1024

/-- the layer's weights, in the format of the product -/
def weightsK (x : FVec Ideal S1x1024x6400 .f32) : FVec Ideal S1024x6400 .bf16 :=
  truncf .bf16 (shapeCast S1024x6400 x shapeCasts_S1x1024x6400_S1024x6400 : FVec Ideal S1024x6400 .f32) bitsLt_bf16_f32

/-- its biases -/
def biasesK (x : FVec Ideal S1x6400 .f32) : FVec Ideal S1x6400 .f32 :=
  shapeCast S1x6400 (shapeCast S6400 x shapeCasts_S1x6400_S6400 : FVec Ideal S6400 .f32) shapeCasts_S6400_S1x6400

theorem V_x (c : Dev nD) : V m c main_v0 = rowsK (m ((c : Thread nD τ).loc main_arg0)) := by
  unfold V
  simp only [hostOps0, List.flatten_cons, List.flatten_nil, List.append_nil, List.cons_append, List.nil_append]
  after_reads_simp
  rfl

theorem V_g (c : Dev nD) : V m c main_v1 = lineK (m ((c : Thread nD τ).loc main_arg1)) := by
  unfold V
  simp only [hostOps0, List.flatten_cons, List.flatten_nil, List.append_nil, List.cons_append, List.nil_append]
  after_reads_simp
  rfl

theorem V_b (c : Dev nD) : V m c main_v2 = lineK (m ((c : Thread nD τ).loc main_arg2)) := by
  unfold V
  simp only [hostOps0, List.flatten_cons, List.flatten_nil, List.append_nil, List.cons_append, List.nil_append]
  after_reads_simp
  rfl

theorem V_w (c : Dev nD) : V m c main_v4 = weightsK (m ((c : Thread nD τ).loc main_arg3)) := by
  unfold V
  simp only [hostOps0, List.flatten_cons, List.flatten_nil, List.append_nil, List.cons_append, List.nil_append]
  after_reads_simp
  rfl

theorem V_bias (c : Dev nD) : V m c main_v6 = biasesK (m ((c : Thread nD τ).loc main_arg4)) := by
  unfold V
  simp only [hostOps0, List.flatten_cons, List.flatten_nil, List.append_nil, List.cons_append, List.nil_append]
  after_reads_simp
  rfl

section Spec

variable (X : FVec Ideal S2x16384x1024 .f32) (g b : FVec Ideal S1024 .f32) (W : FVec Ideal S1x1024x6400 .f32) (B : FVec Ideal S1x6400 .f32)

theorem rows_at (l : Fin 32768) (k : Fin 1024) : rowsK X (ix2 l k) = X (ix3 (Projected.seqOf l) (Projected.posOf l) k) := by
  pointwise [rowsK]
  rfl

theorem line_at (x : FVec Ideal S1024 .f32) (k : Fin 1024) : lineK x (ix2 0 k) = x (ix1 k) := by
  pointwise [lineK]

theorem weights_at (k : Fin 1024) (c : Fin 6400) : weightsK W (ix2 k c) = W (ix3 0 k c) := by
  pointwise [weightsK]

theorem biases_at (c : Fin 6400) : biasesK B (ix2 0 c) = B (ix2 0 c) := by
  pointwise [biasesK]

theorem row_eq (l : Fin 32768) : row (rowsK X) (lineK g) (lineK b) l = Projected.row X g b (Projected.seqOf l) (Projected.posOf l) := by
  unfold row Projected.row
  simp only [rows_at, line_at]

theorem entry_eq (l : Fin 32768) (c : Fin 6400) : entry (rowsK X) (lineK g) (lineK b) (weightsK W) (biasesK B) l c
    = Projected.entry X g b W B (Projected.seqOf l) (Projected.posOf l) c := by
  unfold entry Projected.entry
  rw [row_eq, biases_at]
  simp only [weights_at]

theorem normal_eq : G5 (rowsK X) (lineK g) (lineK b) = Projected.normal X g b := funext fun j => congrFun (row_eq X g b (j 0)) (j 1)

theorem fourier_eq : G6 (rowsK X) (lineK g) (lineK b) (weightsK W) (biasesK B) = Projected.fourier X g b W B :=
  funext fun j => entry_eq X g b W B (j 0) _

theorem wide_eq' : G7 (rowsK X) (lineK g) (lineK b) (weightsK W) (biasesK B) = Projected.wide X g b W B :=
  funext fun j => entry_eq X g b W B (j 0) _

theorem crossed_eq : G8 (rowsK X) (lineK g) (lineK b) (weightsK W) (biasesK B) = Projected.crossed X g b W B :=
  funext fun j => entry_eq X g b W B (j 0) _

theorem gates_eq : G9 (rowsK X) (lineK g) (lineK b) (weightsK W) (biasesK B) = Projected.gates X g b W B :=
  funext fun j => entry_eq X g b W B (j 0) _

end Spec

/-- an argument's contents -/
abbrev arg (c : Dev nD) (b : Ref sig .tc) : Buf (Elt Ideal) ((c : Thread nD τ).loc b) := m ((c : Thread nD τ).loc b)

/-- every execution ends with the five results, and the arguments as they were -/
theorem run (g : Dev nD → PrngReg) :
    θ_run (defs (F := Ideal)) (onTc (τ := τ) (main (F := Ideal))) ⟨m, fun _ => 0, g⟩ fun r => ∀ c : Dev nD,
      r.2.mem ((c : Thread nD τ).loc main_v7_0) = Projected.normal (arg m c main_arg0) (arg m c main_arg1) (arg m c main_arg2)
      ∧ r.2.mem ((c : Thread nD τ).loc main_v7_1)
        = Projected.fourier (arg m c main_arg0) (arg m c main_arg1) (arg m c main_arg2) (arg m c main_arg3) (arg m c main_arg4)
      ∧ r.2.mem ((c : Thread nD τ).loc main_v7_2)
        = Projected.wide (arg m c main_arg0) (arg m c main_arg1) (arg m c main_arg2) (arg m c main_arg3) (arg m c main_arg4)
      ∧ r.2.mem ((c : Thread nD τ).loc main_v7_3)
        = Projected.crossed (arg m c main_arg0) (arg m c main_arg1) (arg m c main_arg2) (arg m c main_arg3) (arg m c main_arg4)
      ∧ r.2.mem ((c : Thread nD τ).loc main_v7_4)
        = Projected.gates (arg m c main_arg0) (arg m c main_arg1) (arg m c main_arg2) (arg m c main_arg3) (arg m c main_arg4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun _ h c => ?_) (Value.run_blocks m g)
  obtain ⟨h0, h1, h2, h3, h4, h5⟩ := h c
  refine ⟨h0.trans ?_, h1.trans ?_, h2.trans ?_, h3.trans ?_, h4.trans ?_, h5⟩
  · exact (final5 m c).trans (by rw [V_x, V_g, V_b, normal_eq])
  · exact (final6 m c).trans (by rw [V_x, V_g, V_b, V_w, V_bias, fourier_eq])
  · exact (final7 m c).trans (by rw [V_x, V_g, V_b, V_w, V_bias, wide_eq'])
  · exact (final8 m c).trans (by rw [V_x, V_g, V_b, V_w, V_bias, crossed_eq])
  · exact (final9 m c).trans (by rw [V_x, V_g, V_b, V_w, V_bias, gates_eq])

end Cert.ProjectionValue

end
-- ==== Proof.Branch.lean ====
/- The merge of a layer's branches as mathematics: three parts of an attention put together by their greatest scores, the attention
   over the memory, the gated sum of three products, and the norm of the residual; over the arrays the merge is given. -/
module

public import proofs.«01_k».proof.Proof.Norm
public import proofs.«01_k».proof.Proof.Band

@[expose] public section

noncomputable section

namespace Cert.Branch

open Idealize.ShloMosaic

/-- a row times a column -/
def dot {n : ℕ} (x w : Fin n → EReal) : EReal := ∑ k, x k * w k

/-- three unnormalized mixes `a`, with greatest scores `m` and sums of exponentials `l`, as one attention -/
def mix (m₀ m₁ m₂ a₀ a₁ a₂ l₀ l₁ l₂ : EReal) : EReal :=
  Ideal.div
    (Ideal.exp (m₀ - max (max m₀ m₁) m₂) * a₀ + Ideal.exp (m₁ - max (max m₀ m₁) m₂) * a₁ + Ideal.exp (m₂ - max (max m₀ m₁) m₂) * a₂)
    (Ideal.exp (m₀ - max (max m₀ m₁) m₂) * l₀ + Ideal.exp (m₁ - max (max m₀ m₁) m₂) * l₁ + Ideal.exp (m₂ - max (max m₀ m₁) m₂) * l₂)

/-- the score of a query against a key -/
def score (q k : Fin 128 → EReal) : EReal := (∑ d, q d * k d) * Ideal.ofBits .f32 0x3DB504F3#32

/-- the softmax of a row of scores -/
def soft (s : Fin 256 → EReal) (j : Fin 256) : EReal := Ideal.div (Band.weight s j) (∑ i, Band.weight s i)

/-- one channel of what a query reads from the memory -/
def attend (q : Fin 128 → EReal) (K : Fin 256 → Fin 128 → EReal) (v : Fin 256 → EReal) : EReal :=
  ∑ j, soft (fun i => score q (K i)) j * v j

/-- three branches, each with its gate -/
def gated (g₀ g₁ g₂ y₀ y₁ y₂ : EReal) : EReal := Ideal.logistic g₀ * y₀ + Ideal.logistic g₁ * y₁ + Ideal.logistic g₂ * y₂

/-- the residual, scaled, and what is added to it -/
def residual (h y : EReal) : EReal := Ideal.ofBits .f32 0x3F9837F0#32 * h + y

/-- the sequence a row of the layer's arrays belongs to -/
def seqOf (r : Fin 32768) : Fin 2 := ⟨r.val / 16384, Nat.div_lt_of_lt_mul r.isLt⟩

/-- the channel `d` of the head that channel `c` belongs to, among the queries -/
def chan (c : Fin 512) (d : Fin 128) : Fin 512 := ⟨128 * (c.val / 128) + d.val, by omega⟩

/-- and among the keys -/
def keyChan (c : Fin 512) (d : Fin 128) : Fin 1024 := ⟨128 * (c.val / 128) + d.val, by omega⟩

/-- a channel of the values: they follow the keys -/
def valChan (c : Fin 512) : Fin 1024 := ⟨512 + c.val, by omega⟩

def gate₀ (k : Fin 1024) : Fin 3072 := ⟨k.val, by omega⟩
def gate₁ (k : Fin 1024) : Fin 3072 := ⟨1024 + k.val, by omega⟩
def gate₂ (k : Fin 1024) : Fin 3072 := ⟨2048 + k.val, by omega⟩

/-- the arrays the merge is given, by row and column -/
structure Data where
  h : Fin 32768 → Fin 1024 → EReal
  y : Fin 32768 → Fin 512 → EReal
  a₀ : Fin 32768 → Fin 256 → EReal
  m₀ : Fin 32768 → Fin 256 → EReal
  l₀ : Fin 32768 → Fin 256 → EReal
  a₁ : Fin 32768 → Fin 256 → EReal
  m₁ : Fin 32768 → Fin 256 → EReal
  l₁ : Fin 32768 → Fin 256 → EReal
  a₂ : Fin 32768 → Fin 256 → EReal
  m₂ : Fin 32768 → Fin 256 → EReal
  l₂ : Fin 32768 → Fin 256 → EReal
  q : Fin 32768 → Fin 512 → EReal
  kv : Fin 2 → Fin 256 → Fin 1024 → EReal
  g : Fin 32768 → Fin 3072 → EReal
  wa : Fin 512 → Fin 1024 → EReal
  wb : Fin 256 → Fin 1024 → EReal
  wc : Fin 512 → Fin 1024 → EReal
  wo : Fin 1024 → Fin 1024 → EReal
  scale : Fin 1024 → EReal
  shift : Fin 1024 → EReal

variable (D : Data)

/-- the three dilations together -/
def dilated (l : Fin 32768) (c : Fin 256) : EReal :=
  mix (D.m₀ l c) (D.m₁ l c) (D.m₂ l c) (D.a₀ l c) (D.a₁ l c) (D.a₂ l c) (D.l₀ l c) (D.l₁ l c) (D.l₂ l c)

/-- what the row reads from the memory of its sequence -/
def crossed (l : Fin 32768) (c : Fin 512) : EReal :=
  attend (fun d => D.q l (chan c d)) (fun j d => D.kv (seqOf l) j (keyChan c d)) (fun j => D.kv (seqOf l) j (valChan c))

/-- the branches, projected and gated -/
def joined (l : Fin 32768) (k : Fin 1024) : EReal :=
  gated (D.g l (gate₀ k)) (D.g l (gate₁ k)) (D.g l (gate₂ k))
    (dot (D.y l) fun i => D.wa i k) (dot (dilated D l) fun i => D.wb i k) (dot (crossed D l) fun i => D.wc i k)

/-- the residual with the branches' projection -/
def sum (l : Fin 32768) (k : Fin 1024) : EReal := residual (D.h l k) (dot (joined D l) fun i => D.wo i k)

/-- the merge's result -/
def out (l : Fin 32768) (k : Fin 1024) : EReal := Norm.normed (sum D l) D.scale D.shift k

end Cert.Branch

end
-- ==== Proof.BranchTile.lean ====
/- What one tile of the merge's kernel computes, piece by piece. -/
module

public import proofs.«01_k».proof.Proof.Gen.MergeIdeal.Skeleton
public import Idealize.ShloMosaic.Lib.Pointwise
public import proofs.«01_k».proof.Proof.Branch

@[expose] public section

set_option maxRecDepth 16384

noncomputable section

namespace Cert.BranchTile

open Cert.MergeIdeal Cert.MergeIdeal.Gen Cert.Branch Idealize.ShloMosaic Idealize.ShloMosaic.TcCoe

theorem neg_inf : Ideal.ofBits .f32 0xFF800000#32 = ⊥ := by simp [Ideal.ofBits, Ideal.ieee]

theorem norm_at (x : FVec Ideal S256x1024 .f32) (g b : FVec Ideal S1x1024 .f32) (r : Fin 256) (k : Fin 1024) :
    k0_pay1 x g b (ix2 r k) = Norm.normed (fun k => x (ix2 r k)) (fun k => g (ix2 0 k)) (fun k => b (ix2 0 k)) k := by
  pointwise [k0_pay1]
  rfl

theorem fourier_at (y : Vec Ideal S256x512 .f32) (w : Vec Ideal S512x1024 .bf16) (r : Fin 256) (k : Fin 1024) :
    k0_pay2 y w (ix2 r k) = dot (fun i => y (ix2 r i)) fun i => w (ix2 i k) := by
  pointwise [k0_pay2]
  rfl

theorem mix_at (m₀ m₁ m₂ a₀ a₁ a₂ l₀ l₁ l₂ : Vec Ideal S256x256 .f32) (r c : Fin 256) :
    k0_pay3 m₀ m₁ m₂ a₀ a₁ a₂ l₀ l₁ l₂ (ix2 r c) = mix (m₀ (ix2 r c)) (m₁ (ix2 r c)) (m₂ (ix2 r c)) (a₀ (ix2 r c)) (a₁ (ix2 r c)) (a₂ (ix2 r c))
      (l₀ (ix2 r c)) (l₁ (ix2 r c)) (l₂ (ix2 r c)) := by
  pointwise [k0_pay3]
  rfl

theorem dilated_at (x : FVec Ideal S256x256 .bf16) (w : Vec Ideal S256x1024 .bf16) (r : Fin 256) (k : Fin 1024) :
    k0_pay4 x w (ix2 r k) = dot (fun i => x (ix2 r i)) fun i => w (ix2 i k) := by
  pointwise [k0_pay4]
  rfl

/-- the scores of a head's queries against the memory -/
def scores (q : Vec Ideal S256x128 .bf16) (k : Vec Ideal S1x256x128 .bf16) : FVec Ideal S256x256 .f32 :=
  mulf (matmul dot_S256x128_S256x128_S256x256_1_1_0_0_n_n none (φ₁ := .bf16) (φ₂ := .bf16) q (shapeCast S256x128 k shapeCasts_S1x256x128_S256x128)
    (constant (F := Ideal) S256x256 .f32 0x00000000#32)) (broadcast S256x256 (Scalar.ofBits (F := Ideal) .f32 0x3DB504F3#32))

/-- their exponentials relative to each row's greatest -/
def weights (s : FVec Ideal S256x256 .f32) : FVec Ideal S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))

/-- the softmax, from the exponentials -/
def softmax (p : FVec Ideal S256x256 .f32) : FVec Ideal S256x256 .f32 :=
  divf p (broadcastTo S256x256 (shapeCast S256x1 (multiReduction .add [1] S256 p 0x00000000#32 reduces_S256x256_S256 (.inl rfl) rfl)
    shapeCasts_S256_S256x1) broadcasts_S256x1_S256x256)

/-- the values mixed by the softmax -/
def mixed (p : FVec Ideal S256x256 .f32) (v : Vec Ideal S1x256x128 .bf16) : FVec Ideal S256x128 .f32 :=
  matmul dot_S256x256_S256x128_S256x128_1_0_0_1_n_n none (truncf .bf16 p bitsLt_bf16_f32)
    (shapeCast S256x128 v shapeCasts_S1x256x128_S256x128 : FVec Ideal S256x128 .bf16) (constant (F := Ideal) S256x128 .f32 0x00000000#32)

/-- one head -/
def head (q : Vec Ideal S256x128 .bf16) (k v : Vec Ideal S1x256x128 .bf16) : FVec Ideal S256x128 .f32 := mixed (softmax (weights (scores q k))) v

theorem head0 (q : Vec Ideal S256x128 .bf16) (k v : Vec Ideal S1x256x128 .bf16) : k0_pay5 q k v = head q k v := rfl
theorem head1 (q : Vec Ideal S256x128 .bf16) (k v : Vec Ideal S1x256x128 .bf16) : k0_pay7 (k0_pay6 q k) v = head q k v := rfl
theorem head2 (q : Vec Ideal S256x128 .bf16) (k v : Vec Ideal S1x256x128 .bf16) : k0_pay8 q k v = head q k v := rfl

theorem scores_at (q : Vec Ideal S256x128 .bf16) (k : Vec Ideal S1x256x128 .bf16) (r j : Fin 256) :
    scores q k (ix2 r j) = score (fun d => q (ix2 r d)) fun d => k (ix3 0 j d) := by
  pointwise [scores]
  rfl

theorem weights_at (s : FVec Ideal S256x256 .f32) (r j : Fin 256) : weights s (ix2 r j) = Band.weight (fun i => s (ix2 r i)) j := by
  pointwise [weights]
  rw [neg_inf]; rfl

theorem softmax_at (p : FVec Ideal S256x256 .f32) (r j : Fin 256) : softmax p (ix2 r j) = Ideal.div (p (ix2 r j)) (∑ i : Fin 256, p (ix2 r i)) := by
  pointwise [softmax]

theorem mixed_at (p : FVec Ideal S256x256 .f32) (v : Vec Ideal S1x256x128 .bf16) (r : Fin 256) (c : Fin 128) :
    mixed p v (ix2 r c) = ∑ j : Fin 256, p (ix2 r j) * v (ix3 0 j c) := by
  pointwise [mixed]

theorem head_at (q : Vec Ideal S256x128 .bf16) (k v : Vec Ideal S1x256x128 .bf16) (r : Fin 256) (c : Fin 128) :
    head q k v (ix2 r c) = attend (fun d => q (ix2 r d)) (fun j d => k (ix3 0 j d)) fun j => v (ix3 0 j c) := by
  unfold head attend soft
  simp only [mixed_at, softmax_at, weights_at, scores_at]

/-- the four heads side by side -/
def heads (o₀ o₁ o₂ o₃ : FVec Ideal S256x128 .f32) : FVec Ideal S256x512 .f32 :=
  concatenate S256x512 1 [⟨S256x128, o₀⟩, ⟨S256x128, o₁⟩, ⟨S256x128, o₂⟩, ⟨S256x128, o₃⟩]
    concatenates_S256x128_S256x128_S256x128_S256x128_S256x512_d1

theorem heads_at (o : Fin 4 → FVec Ideal S256x128 .f32) (r : Fin 256) (c : Fin 512) :
    heads (o 0) (o 1) (o 2) (o 3) (ix2 r c) = o ⟨c.val / 128, by omega⟩ (ix2 r ⟨c.val % 128, by omega⟩) := by
  pointwise [heads]
  obtain h | h | h | h : c.val / 128 = 0 ∨ c.val / 128 = 1 ∨ c.val / 128 = 2 ∨ c.val / 128 = 3 := by omega
  all_goals split_ifs <;> first | omega | skip
  all_goals exact congrArg₂ (fun a b => o a (ix2 r b)) (Fin.ext (by simp [h])) (Fin.ext (by simp only; omega))

/-- the branches projected, gated and added -/
def joinedT (y₀ y₁ : FVec Ideal S256x1024 .f32) (o : FVec Ideal S256x512 .f32) (wc : Vec Ideal S512x1024 .bf16)
    (g₀ g₁ g₂ : Vec Ideal S256x1024 .f32) : FVec Ideal S256x1024 .f32 :=
  addf (addf (mulf (logistic (F := Ideal) (φ := .f32) g₀) y₀) (mulf (logistic (F := Ideal) (φ := .f32) g₁) y₁)) (mulf (logistic (F := Ideal) (φ := .f32) g₂)
    (matmul dot_S256x512_S512x1024_S256x1024_1_0_0_1_n_n none (truncf .bf16 o bitsLt_bf16_f32)
      (shapeCast S512x1024 wc shapeCasts_S512x1024_S512x1024 : FVec Ideal S512x1024 .bf16) (constant (F := Ideal) S256x1024 .f32 0x00000000#32)))

/-- the residual with their projection -/
def sumT (z : FVec Ideal S256x1024 .f32) (wo : Vec Ideal S1024x1024 .bf16) (h : Vec Ideal S256x1024 .f32) : FVec Ideal S256x1024 .f32 :=
  addf (mulf (broadcast S256x1024 (Scalar.ofBits (F := Ideal) .f32 0x3F9837F0#32)) h)
    (matmul dot_S256x1024_S1024x1024_S256x1024_1_0_0_1_n_n none (truncf .bf16 z bitsLt_bf16_f32)
      (shapeCast S1024x1024 wo shapeCasts_S1024x1024_S1024x1024 : FVec Ideal S1024x1024 .bf16) (constant (F := Ideal) S256x1024 .f32 0x00000000#32))

theorem pay10_eq (y₀ y₁ : FVec Ideal S256x1024 .f32) (o₀ o₁ o₂ : FVec Ideal S256x128 .f32) (q : Vec Ideal S256x128 .bf16)
    (k v : Vec Ideal S1x256x128 .bf16) (wc : Vec Ideal S512x1024 .bf16) (g₀ g₁ g₂ : Vec Ideal S256x1024 .f32) (wo : Vec Ideal S1024x1024 .bf16)
    (h : Vec Ideal S256x1024 .f32) :
    k0_pay10 y₀ y₁ o₀ o₁ o₂ (k0_pay9 q k) v wc g₀ g₁ g₂ wo h = sumT (joinedT y₀ y₁ (heads o₀ o₁ o₂ (head q k v)) wc g₀ g₁ g₂) wo h := rfl

theorem line_eq (x : Vec Ideal S1x1024 .f32) (k : Fin 1024) : k0_pay11 x (ix2 0 k) = x (ix2 0 k) := by pointwise [k0_pay11]
theorem line_eq' (x : Vec Ideal S1x1024 .f32) (k : Fin 1024) : k0_pay12 x (ix2 0 k) = x (ix2 0 k) := by pointwise [k0_pay12]

theorem joined_at (y₀ y₁ : FVec Ideal S256x1024 .f32) (o : FVec Ideal S256x512 .f32) (wc : Vec Ideal S512x1024 .bf16)
    (g₀ g₁ g₂ : Vec Ideal S256x1024 .f32) (r : Fin 256) (k : Fin 1024) :
    joinedT y₀ y₁ o wc g₀ g₁ g₂ (ix2 r k) = gated (g₀ (ix2 r k)) (g₁ (ix2 r k)) (g₂ (ix2 r k)) (y₀ (ix2 r k)) (y₁ (ix2 r k))
      (dot (fun i => o (ix2 r i)) fun i => wc (ix2 i k)) := by
  pointwise [joinedT]
  rfl

theorem sum_at (z : FVec Ideal S256x1024 .f32) (wo : Vec Ideal S1024x1024 .bf16) (h : Vec Ideal S256x1024 .f32) (r : Fin 256) (k : Fin 1024) :
    sumT z wo h (ix2 r k) = residual (h (ix2 r k)) (dot (fun i => z (ix2 r i)) fun i => wo (ix2 i k)) := by
  pointwise [sumT]
  rfl

end Cert.BranchTile

end
-- ==== Proof.MergeTile.lean ====
/- A whole tile of the merge's kernel: from blocks that hold rows of the arrays, the rows of the merge's result. -/
module

public import proofs.«01_k».proof.Proof.Gen.MergeIdeal.Frame
public import Idealize.ShloMosaic.Lib.Pipeline.ValueKit
public import proofs.«01_k».proof.Proof.BranchTile

@[expose] public section

set_option maxRecDepth 16384

noncomputable section

namespace Cert.MergeTile

open Cert.MergeIdeal Cert.MergeIdeal.Gen Cert.Branch Cert.BranchTile Idealize.ShloMosaic Idealize.ShloMosaic.TcCoe

/-! What each load of the body reads from its block -/

theorem ld_branch (x : Vec Ideal S256x512 .f32) (r : Fin 256) (i : Fin 512) : View.ld x r0_0 (ix2 r i) = x (ix2 r i) := by
  pointwise

theorem ld_weights (x : Vec Ideal S512x1024 .bf16) (i : Fin 512) (k : Fin 1024) : View.ld x r0_1 (ix2 i k) = x (ix2 i k) := by
  pointwise

theorem ld_part (x : Vec Ideal S256x256 .f32) (r i : Fin 256) : View.ld x r0_2 (ix2 r i) = x (ix2 r i) := by
  pointwise

theorem ld_rows {φ : EltTy} (x : Vec Ideal S256x1024 φ) (r : Fin 256) (i : Fin 1024) : View.ld x r0_3 (ix2 r i) = x (ix2 r i) := by
  pointwise

theorem ld_square (x : Vec Ideal S1024x1024 .bf16) (r : Fin 1024) (i : Fin 1024) : View.ld x r0_19 (ix2 r i) = x (ix2 r i) := by
  pointwise

theorem ld_line (x : Vec Ideal S1x1024 .f32) (k : Fin 1024) : View.ld x r0_20 (ix2 0 k) = x (ix2 0 k) := by
  pointwise

theorem ld_gate (x : Vec Ideal S256x3072 .f32) (o : ℕ) (ho) (r : Fin 256) (k : Fin 1024) (col : Fin 3072) (hc : col.val = o + k.val) :
    View.ld x (Rect.unit (s := S256x3072) ![0, o] S256x1024.size ho) (ix2 r k) = x (ix2 r col) := by
  pointwise
  exact congrArg₂ (fun a b => x (ix2 a b)) (Fin.ext (by simp)) (Fin.ext (by simp; omega))

theorem ld_query (x : Vec Ideal S256x512 .bf16) (o : ℕ) (ho) (r : Fin 256) (d : Fin 128) (col : Fin 512) (hc : col.val = o + d.val) :
    View.ld x (Rect.unit (s := S256x512) ![0, o] S256x128.size ho) (ix2 r d) = x (ix2 r col) := by
  pointwise
  exact congrArg₂ (fun a b => x (ix2 a b)) (Fin.ext (by simp)) (Fin.ext (by simp; omega))

theorem ld_memory (x : Vec Ideal S1x256x1024 .bf16) (o : ℕ) (ho) (j : Fin 256) (d : Fin 128) (col : Fin 1024) (hc : col.val = o + d.val) :
    View.ld x (Rect.unit (s := S1x256x1024) ![0, 0, o] S1x256x128.size ho) (ix3 0 j d) = x (ix3 0 j col) := by
  pointwise
  exact congrArg₂ (fun a b => x (ix3 0 a b)) (Fin.ext (by simp)) (Fin.ext (by simp; omega))

variable (D : Data) (l : Fin 32768) (r : Fin 256)

/-- one head of the tile: its queries and keys begin at channel `o`, its values at `p` -/
theorem head_eq (x11 : Vec Ideal S256x512 .bf16) (x12 : Vec Ideal S1x256x1024 .bf16) (hq : ∀ c, x11 (ix2 r c) = D.q l c)
    (hkv : ∀ j c, x12 (ix3 0 j c) = D.kv (seqOf l) j c) (o p : ℕ) (ho hk hv) (c : Fin 512) (d : Fin 128)
    (h₁ : 128 * (c.val / 128) = o) (h₂ : c.val = o + d.val) (h₃ : p = 512 + o) :
    head (View.ld x11 (Rect.unit (s := S256x512) ![0, o] S256x128.size ho)) (View.ld x12 (Rect.unit (s := S1x256x1024) ![0, 0, o] S1x256x128.size hk))
      (View.ld x12 (Rect.unit (s := S1x256x1024) ![0, 0, p] S1x256x128.size hv)) (ix2 r d) = crossed D l c := by
  rw [head_at, crossed]
  have e₁ : ∀ d', View.ld x11 (Rect.unit (s := S256x512) ![0, o] S256x128.size ho) (ix2 r d') = D.q l (chan c d') := fun d' =>
    (ld_query x11 o ho r d' (chan c d') (by simp only [chan]; omega)).trans (hq _)
  have e₂ : ∀ j d', View.ld x12 (Rect.unit (s := S1x256x1024) ![0, 0, o] S1x256x128.size hk) (ix3 0 j d') = D.kv (seqOf l) j (keyChan c d') := fun j d' =>
    (ld_memory x12 o hk j d' (keyChan c d') (by simp only [keyChan]; omega)).trans (hkv _ _)
  have e₃ : ∀ j, View.ld x12 (Rect.unit (s := S1x256x1024) ![0, 0, p] S1x256x128.size hv) (ix3 0 j d) = D.kv (seqOf l) j (valChan c) := fun j =>
    (ld_memory x12 p hv j d (valChan c) (by simp only [valChan]; omega)).trans (hkv _ _)
  simp only [e₁, e₂, e₃]

theorem heads_eq (x11 : Vec Ideal S256x512 .bf16) (x12 : Vec Ideal S1x256x1024 .bf16) (hq : ∀ c, x11 (ix2 r c) = D.q l c)
    (hkv : ∀ j c, x12 (ix3 0 j c) = D.kv (seqOf l) j c) (c : Fin 512) :
    heads (head (View.ld x11 r0_4) (View.ld x12 r0_5) (View.ld x12 r0_6)) (head (View.ld x11 r0_7) (View.ld x12 r0_8) (View.ld x12 r0_9))
      (head (View.ld x11 r0_10) (View.ld x12 r0_11) (View.ld x12 r0_12)) (head (View.ld x11 r0_13) (View.ld x12 r0_14) (View.ld x12 r0_15)) (ix2 r c)
      = crossed D l c := by
  refine (heads_at ![head (View.ld x11 r0_4) (View.ld x12 r0_5) (View.ld x12 r0_6), head (View.ld x11 r0_7) (View.ld x12 r0_8) (View.ld x12 r0_9),
    head (View.ld x11 r0_10) (View.ld x12 r0_11) (View.ld x12 r0_12), head (View.ld x11 r0_13) (View.ld x12 r0_14) (View.ld x12 r0_15)] r c).trans ?_
  obtain h | h | h | h : c.val / 128 = 0 ∨ c.val / 128 = 1 ∨ c.val / 128 = 2 ∨ c.val / 128 = 3 := by omega
  · rw [show (⟨c.val / 128, by omega⟩ : Fin 4) = 0 from Fin.ext h]
    exact head_eq D l r x11 x12 hq hkv 0 512 _ _ _ c _ (by omega) (by simp only; omega) rfl
  · rw [show (⟨c.val / 128, by omega⟩ : Fin 4) = 1 from Fin.ext h]
    exact head_eq D l r x11 x12 hq hkv 128 640 _ _ _ c _ (by omega) (by simp only; omega) rfl
  · rw [show (⟨c.val / 128, by omega⟩ : Fin 4) = 2 from Fin.ext h]
    exact head_eq D l r x11 x12 hq hkv 256 768 _ _ _ c _ (by omega) (by simp only; omega) rfl
  · rw [show (⟨c.val / 128, by omega⟩ : Fin 4) = 3 from Fin.ext h]
    exact head_eq D l r x11 x12 hq hkv 384 896 _ _ _ c _ (by omega) (by simp only; omega) rfl

theorem tile_eq (x0 : Vec Ideal S256x1024 .f32) (x1 : Vec Ideal S256x512 .f32) (x2 x3 x4 x5 x6 x7 x8 x9 x10 : Vec Ideal S256x256 .f32)
    (x11 : Vec Ideal S256x512 .bf16) (x12 : Vec Ideal S1x256x1024 .bf16) (x13 : Vec Ideal S256x3072 .f32) (x14 : Vec Ideal S512x1024 .bf16)
    (x15 : Vec Ideal S256x1024 .bf16) (x16 : Vec Ideal S512x1024 .bf16) (x17 : Vec Ideal S1024x1024 .bf16) (x18 x19 : Vec Ideal S1x1024 .f32)
    (h0 : ∀ k, x0 (ix2 r k) = D.h l k) (h1 : ∀ i, x1 (ix2 r i) = D.y l i)
    (h2 : ∀ i, x2 (ix2 r i) = D.a₀ l i) (h3 : ∀ i, x3 (ix2 r i) = D.m₀ l i) (h4 : ∀ i, x4 (ix2 r i) = D.l₀ l i)
    (h5 : ∀ i, x5 (ix2 r i) = D.a₁ l i) (h6 : ∀ i, x6 (ix2 r i) = D.m₁ l i) (h7 : ∀ i, x7 (ix2 r i) = D.l₁ l i)
    (h8 : ∀ i, x8 (ix2 r i) = D.a₂ l i) (h9 : ∀ i, x9 (ix2 r i) = D.m₂ l i) (h10 : ∀ i, x10 (ix2 r i) = D.l₂ l i)
    (h11 : ∀ c, x11 (ix2 r c) = D.q l c) (h12 : ∀ j c, x12 (ix3 0 j c) = D.kv (seqOf l) j c) (h13 : ∀ k, x13 (ix2 r k) = D.g l k)
    (h14 : ∀ i k, x14 (ix2 i k) = D.wa i k) (h15 : ∀ i k, x15 (ix2 i k) = D.wb i k) (h16 : ∀ i k, x16 (ix2 i k) = D.wc i k)
    (h17 : ∀ i k, x17 (ix2 i k) = D.wo i k) (h18 : ∀ k, x18 (ix2 0 k) = D.scale k) (h19 : ∀ k, x19 (ix2 0 k) = D.shift k) (k : Fin 1024) :
    k0_pay1 (k0_pay10 (k0_pay2 (View.ld x1 r0_0) (View.ld x14 r0_1)) (k0_pay4 (k0_pay3 (View.ld x3 r0_2) (View.ld x6 r0_2) (View.ld x9 r0_2) (View.ld x2 r0_2) (View.ld x5 r0_2) (View.ld x8 r0_2) (View.ld x4 r0_2) (View.ld x7 r0_2) (View.ld x10 r0_2)) (View.ld x15 r0_3)) (k0_pay5 (View.ld x11 r0_4) (View.ld x12 r0_5) (View.ld x12 r0_6)) (k0_pay7 (k0_pay6 (View.ld x11 r0_7) (View.ld x12 r0_8)) (View.ld x12 r0_9)) (k0_pay8 (View.ld x11 r0_10) (View.ld x12 r0_11) (View.ld x12 r0_12)) (k0_pay9 (View.ld x11 r0_13) (View.ld x12 r0_14)) (View.ld x12 r0_15) (View.ld x16 r0_1) (View.ld x13 r0_16) (View.ld x13 r0_17) (View.ld x13 r0_18) (View.ld x17 r0_19) (View.ld x0 r0_3)) (k0_pay11 (View.ld x18 r0_20)) (k0_pay12 (View.ld x19 r0_20)) (ix2 r k)
      = out D l k := by
  have e0 : ∀ k, View.ld x0 r0_3 (ix2 r k) = D.h l k := fun k => (ld_rows x0 r k).trans (h0 k)
  have e1 : ∀ i, View.ld x1 r0_0 (ix2 r i) = D.y l i := fun i => (ld_branch x1 r i).trans (h1 i)
  have e2 : ∀ i, View.ld x2 r0_2 (ix2 r i) = D.a₀ l i := fun i => (ld_part x2 r i).trans (h2 i)
  have e3 : ∀ i, View.ld x3 r0_2 (ix2 r i) = D.m₀ l i := fun i => (ld_part x3 r i).trans (h3 i)
  have e4 : ∀ i, View.ld x4 r0_2 (ix2 r i) = D.l₀ l i := fun i => (ld_part x4 r i).trans (h4 i)
  have e5 : ∀ i, View.ld x5 r0_2 (ix2 r i) = D.a₁ l i := fun i => (ld_part x5 r i).trans (h5 i)
  have e6 : ∀ i, View.ld x6 r0_2 (ix2 r i) = D.m₁ l i := fun i => (ld_part x6 r i).trans (h6 i)
  have e7 : ∀ i, View.ld x7 r0_2 (ix2 r i) = D.l₁ l i := fun i => (ld_part x7 r i).trans (h7 i)
  have e8 : ∀ i, View.ld x8 r0_2 (ix2 r i) = D.a₂ l i := fun i => (ld_part x8 r i).trans (h8 i)
  have e9 : ∀ i, View.ld x9 r0_2 (ix2 r i) = D.m₂ l i := fun i => (ld_part x9 r i).trans (h9 i)
  have e10 : ∀ i, View.ld x10 r0_2 (ix2 r i) = D.l₂ l i := fun i => (ld_part x10 r i).trans (h10 i)
  have e14 : ∀ i k, View.ld x14 r0_1 (ix2 i k) = D.wa i k := fun i k => (ld_weights x14 i k).trans (h14 i k)
  have e15 : ∀ i k, View.ld x15 r0_3 (ix2 i k) = D.wb i k := fun i k => (ld_rows x15 i k).trans (h15 i k)
  have e16 : ∀ i k, View.ld x16 r0_1 (ix2 i k) = D.wc i k := fun i k => (ld_weights x16 i k).trans (h16 i k)
  have e17 : ∀ i k, View.ld x17 r0_19 (ix2 i k) = D.wo i k := fun i k => (ld_square x17 i k).trans (h17 i k)
  have e18 : ∀ k, View.ld x18 r0_20 (ix2 0 k) = D.scale k := fun k => (ld_line x18 k).trans (h18 k)
  have e19 : ∀ k, View.ld x19 r0_20 (ix2 0 k) = D.shift k := fun k => (ld_line x19 k).trans (h19 k)
  have hd : ∀ i, k0_pay3 (View.ld x3 r0_2) (View.ld x6 r0_2) (View.ld x9 r0_2) (View.ld x2 r0_2) (View.ld x5 r0_2) (View.ld x8 r0_2) (View.ld x4 r0_2) (View.ld x7 r0_2) (View.ld x10 r0_2) (ix2 r i) = dilated D l i := by
    intro i
    rw [mix_at]
    simp only [e2, e3, e4, e5, e6, e7, e8, e9, e10, dilated]
  have hg₀ : ∀ k, View.ld x13 r0_16 (ix2 r k) = D.g l (gate₀ k) := fun k => (ld_gate x13 0 _ r k _ (by simp only [gate₀]; omega)).trans (h13 _)
  have hg₁ : ∀ k, View.ld x13 r0_17 (ix2 r k) = D.g l (gate₁ k) := fun k => (ld_gate x13 1024 _ r k _ (by simp only [gate₁])).trans (h13 _)
  have hg₂ : ∀ k, View.ld x13 r0_18 (ix2 r k) = D.g l (gate₂ k) := fun k => (ld_gate x13 2048 _ r k _ (by simp only [gate₂])).trans (h13 _)
  rw [norm_at, head0, head1, head2, pay10_eq]
  simp only [sum_at, joined_at, fourier_at, dilated_at, hd, heads_eq D l r x11 x12 h11 h12, hg₀, hg₁, hg₂, line_eq, line_eq', e0, e1,
    e14, e15, e16, e17, e18, e19]
  rfl

end Cert.MergeTile

end
-- ==== Proof.MergeFinal.lean ====
/- The merge's array after its kernel has run over the 128 tiles. -/
module

public import proofs.«01_k».proof.Proof.Gen.MergeIdeal.Value
public import proofs.«01_k».proof.Proof.MergeTile

@[expose] public section

set_option maxRecDepth 16384

noncomputable section

namespace Cert.MergeValue

open Cert.MergeIdeal Cert.MergeIdeal.Gen Idealize.ShloMosaic Idealize.ShloMosaic.TcCoe

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val / 64, 0, 0] ∧ win0_13.index t = ![t.val, 0]
    ∧ win0_14.index t = ![0, 0] ∧ win0_15.index t = ![0, 0] ∧ win0_16.index t = ![0, 0] ∧ win0_17.index t = ![0, 0]
    ∧ win0_18.index t = ![0, 0] ∧ win0_19.index t = ![0, 0] ∧ win0_20.index t = ![t.val, 0] :=
  (by decide +kernel : ∀ t : Fin grid0.N, _)

/-- the arrays the call is given -/
def given (c : Dev nD) : Branch.Data where
  h l k := (V m c main_arg0 : FVec Ideal S32768x1024 .f32) (ix2 l k)
  y l i := (V m c main_arg1 : FVec Ideal S32768x512 .f32) (ix2 l i)
  a₀ l i := (V m c main_arg2 : FVec Ideal S32768x256 .f32) (ix2 l i)
  m₀ l i := (V m c main_arg3 : FVec Ideal S32768x256 .f32) (ix2 l i)
  l₀ l i := (V m c main_arg4 : FVec Ideal S32768x256 .f32) (ix2 l i)
  a₁ l i := (V m c main_arg5 : FVec Ideal S32768x256 .f32) (ix2 l i)
  m₁ l i := (V m c main_arg6 : FVec Ideal S32768x256 .f32) (ix2 l i)
  l₁ l i := (V m c main_arg7 : FVec Ideal S32768x256 .f32) (ix2 l i)
  a₂ l i := (V m c main_arg8 : FVec Ideal S32768x256 .f32) (ix2 l i)
  m₂ l i := (V m c main_arg9 : FVec Ideal S32768x256 .f32) (ix2 l i)
  l₂ l i := (V m c main_arg10 : FVec Ideal S32768x256 .f32) (ix2 l i)
  q l i := (V m c main_arg11 : FVec Ideal S32768x512 .bf16) (ix2 l i)
  kv s j i := (V m c main_arg12 : FVec Ideal S2x256x1024 .bf16) (ix3 s j i)
  g l k := (V m c main_arg13 : FVec Ideal S32768x3072 .f32) (ix2 l k)
  wa i k := (V m c main_v1 : FVec Ideal S512x1024 .bf16) (ix2 i k)
  wb i k := (V m c main_v3 : FVec Ideal S256x1024 .bf16) (ix2 i k)
  wc i k := (V m c main_v5 : FVec Ideal S512x1024 .bf16) (ix2 i k)
  wo i k := (V m c main_v7 : FVec Ideal S1024x1024 .bf16) (ix2 i k)
  scale k := (V m c main_v9 : FVec Ideal S1x1024 .f32) (ix2 0 k)
  shift k := (V m c main_v11 : FVec Ideal S1x1024 .f32) (ix2 0 k)

section Blocks

variable (c : Dev nD) (t : Fin cfg0.N) (r : Fin 256) (l : Fin 32768) (hl : l.val = 256 * t.val + r.val)
include hl

theorem blk0 (k : Fin 1024) : (iblk m c 0 t : Vec Ideal S256x1024 .f32) (ix2 r k) = (given m c).h l k := by
  unfold given; blk_ext [iblk, V, idx t]
theorem blk1 (k : Fin 512) : (iblk m c 1 t : Vec Ideal S256x512 .f32) (ix2 r k) = (given m c).y l k := by
  unfold given; blk_ext [iblk, V, idx t]
theorem blk2 (k : Fin 256) : (iblk m c 2 t : Vec Ideal S256x256 .f32) (ix2 r k) = (given m c).a₀ l k := by
  unfold given; blk_ext [iblk, V, idx t]
theorem blk3 (k : Fin 256) : (iblk m c 3 t : Vec Ideal S256x256 .f32) (ix2 r k) = (given m c).m₀ l k := by
  unfold given; blk_ext [iblk, V, idx t]
theorem blk4 (k : Fin 256) : (iblk m c 4 t : Vec Ideal S256x256 .f32) (ix2 r k) = (given m c).l₀ l k := by
  unfold given; blk_ext [iblk, V, idx t]
theorem blk5 (k : Fin 256) : (iblk m c 5 t : Vec Ideal S256x256 .f32) (ix2 r k) = (given m c).a₁ l k := by
  unfold given; blk_ext [iblk, V, idx t]
theorem blk6 (k : Fin 256) : (iblk m c 6 t : Vec Ideal S256x256 .f32) (ix2 r k) = (given m c).m₁ l k := by
  unfold given; blk_ext [iblk, V, idx t]
theorem blk7 (k : Fin 256) : (iblk m c 7 t : Vec Ideal S256x256 .f32) (ix2 r k) = (given m c).l₁ l k := by
  unfold given; blk_ext [iblk, V, idx t]
theorem blk8 (k : Fin 256) : (iblk m c 8 t : Vec Ideal S256x256 .f32) (ix2 r k) = (given m c).a₂ l k := by
  unfold given; blk_ext [iblk, V, idx t]
theorem blk9 (k : Fin 256) : (iblk m c 9 t : Vec Ideal S256x256 .f32) (ix2 r k) = (given m c).m₂ l k := by
  unfold given; blk_ext [iblk, V, idx t]
theorem blk10 (k : Fin 256) : (iblk m c 10 t : Vec Ideal S256x256 .f32) (ix2 r k) = (given m c).l₂ l k := by
  unfold given; blk_ext [iblk, V, idx t]
theorem blk11 (k : Fin 512) : (iblk m c 11 t : Vec Ideal S256x512 .bf16) (ix2 r k) = (given m c).q l k := by
  unfold given; blk_ext [iblk, V, idx t]
theorem blk12 (j : Fin 256) (k : Fin 1024) : (iblk m c 12 t : Vec Ideal S1x256x1024 .bf16) (ix3 0 j k) = (given m c).kv (Branch.seqOf l) j k := by
  have hs : l.val / 16384 = t.val / 64 := by have := r.isLt; omega
  unfold given Branch.seqOf; blk_ext [iblk, V, idx t]
theorem blk13 (k : Fin 3072) : (iblk m c 13 t : Vec Ideal S256x3072 .f32) (ix2 r k) = (given m c).g l k := by
  unfold given; blk_ext [iblk, V, idx t]

end Blocks

section Whole

variable (c : Dev nD) (t : Fin cfg0.N)

theorem blk14 (i : Fin 512) (k : Fin 1024) : (iblk m c 14 t : Vec Ideal S512x1024 .bf16) (ix2 i k) = (given m c).wa i k := by
  unfold given; blk_ext [iblk, V, idx t]
theorem blk15 (i : Fin 256) (k : Fin 1024) : (iblk m c 15 t : Vec Ideal S256x1024 .bf16) (ix2 i k) = (given m c).wb i k := by
  unfold given; blk_ext [iblk, V, idx t]
theorem blk16 (i : Fin 512) (k : Fin 1024) : (iblk m c 16 t : Vec Ideal S512x1024 .bf16) (ix2 i k) = (given m c).wc i k := by
  unfold given; blk_ext [iblk, V, idx t]
theorem blk17 (i : Fin 1024) (k : Fin 1024) : (iblk m c 17 t : Vec Ideal S1024x1024 .bf16) (ix2 i k) = (given m c).wo i k := by
  unfold given; blk_ext [iblk, V, idx t]
theorem blk18 (k : Fin 1024) : (iblk m c 18 t : Vec Ideal S1x1024 .f32) (ix2 0 k) = (given m c).scale k := by
  unfold given; blk_ext [iblk, V, idx t]
theorem blk19 (k : Fin 1024) : (iblk m c 19 t : Vec Ideal S1x1024 .f32) (ix2 0 k) = (given m c).shift k := by
  unfold given; blk_ext [iblk, V, idx t]

end Whole

/-- the merge's array -/
def merged (D : Branch.Data) : FVec Ideal S32768x1024 .f32 := fun j => Branch.out D (j 0) (j 1)

theorem emb (t : Fin cfg0.N) (y : S256x1024.Idx) :
    ((((View.whole main_v12).slice (win0_20.rect t)).emb y : S32768x1024.Idx) 0).val = 256 * t.val + (y 0).val
    ∧ ((((View.whole main_v12).slice (win0_20.rect t)).emb y : S32768x1024.Idx) 1).val = (y 1).val := by
  refine ⟨?_, ?_⟩ <;> blk_simp [idx t] <;> omega

set_option maxHeartbeats 1000000 in
theorem final (c : Dev nD) : (dats m 0 c).arrAt 20 (cfgs 0).N = merged (given m c) := by
  refine (dats m 0 c).arrAt_eq_of_covers 20 _ (by decide +kernel) fun t hf y => ?_
  obtain ⟨e0, e1⟩ := emb t y
  blk_simp
  rw [after0_20]
  unfold out0_20
  canon_tiles x h
  all_goals idx_vars x
  have hl := e0.trans (by rw [h0])
  exact (MergeTile.tile_eq (given m c) _ x0 _ _ _ _ _ _ _ _ _ _ _ _ _ _ _ _ _ _ _ _
    (blk0 m c t x0 _ hl) (blk1 m c t x0 _ hl) (blk2 m c t x0 _ hl) (blk3 m c t x0 _ hl) (blk4 m c t x0 _ hl) (blk5 m c t x0 _ hl)
    (blk6 m c t x0 _ hl) (blk7 m c t x0 _ hl) (blk8 m c t x0 _ hl) (blk9 m c t x0 _ hl) (blk10 m c t x0 _ hl) (blk11 m c t x0 _ hl)
    (blk12 m c t x0 _ hl) (blk13 m c t x0 _ hl) (blk14 m c t) (blk15 m c t) (blk16 m c t) (blk17 m c t) (blk18 m c t) (blk19 m c t) x1).trans
    (congrArg _ (Fin.ext (e1.trans h1).symm))

end Cert.MergeValue

end
-- ==== Proof.MergeOperands.lean ====
/- The arrays the merge's call is given, as the host lays them out, and with them its result in terms of the arguments. -/
module

public import proofs.«01_k».proof.Proof.MergeFinal
public import Idealize.ShloMosaic.Lib.StableHlo.RunRead

@[expose] public section

set_option maxRecDepth 16384

noncomputable section

namespace Cert.MergeValue

open Cert.MergeIdeal Cert.MergeIdeal.Gen Idealize.ShloMosaic Idealize.ShloMosaic.TcCoe Idealize.SL.Sem

variable (m : (ℓ : Loc nD τ sig) → Buf (Elt Ideal) ℓ)

/-- weights of 512, 256 and 1024 rows, in the format of the product -/
def weights512 (x : FVec Ideal S1x512x1024 .f32) : FVec Ideal S512x1024 .bf16 :=
  truncf .bf16 (shapeCast S512x1024 x shapeCasts_S1x512x1024_S512x1024 : FVec Ideal S512x1024 .f32) bitsLt_bf16_f32

def weights256 (x : FVec Ideal S1x256x1024 .f32) : FVec Ideal S256x1024 .bf16 :=
  truncf .bf16 (shapeCast S256x1024 x shapeCasts_S1x256x1024_S256x1024 : FVec Ideal S256x1024 .f32) bitsLt_bf16_f32

def weights1024 (x : FVec Ideal S1x1024x1024 .f32) : FVec Ideal S1024x1024 .bf16 :=
  truncf .bf16 (shapeCast S1024x1024 x shapeCasts_S1x1024x1024_S1024x1024 : FVec Ideal S1024x1024 .f32) bitsLt_bf16_f32

/-- a scale or a shift -/
def lineK (x : FVec Ideal S1x1024 .f32) : FVec Ideal S1x1024 .f32 :=
  shapeCast S1x1024 (shapeCast S1024 x shapeCasts_S1x1024_S1024 : FVec Ideal S1024 .f32) shapeCasts_S1024_S1x1024

theorem V_wa (c : Dev nD) : V m c main_v1 = weights512 (m ((c : Thread nD τ).loc main_arg14)) := by
  unfold V
  simp only [hostOps0, List.flatten_cons, List.flatten_nil, List.append_nil, List.cons_append, List.nil_append]
  after_reads_simp
  rfl

theorem V_wb (c : Dev nD) : V m c main_v3 = weights256 (m ((c : Thread nD τ).loc main_arg15)) := by
  unfold V
  simp only [hostOps0, List.flatten_cons, List.flatten_nil, List.append_nil, List.cons_append, List.nil_append]
  after_reads_simp
  rfl

theorem V_wc (c : Dev nD) : V m c main_v5 = weights512 (m ((c : Thread nD τ).loc main_arg16)) := by
  unfold V
  simp only [hostOps0, List.flatten_cons, List.flatten_nil, List.append_nil, List.cons_append, List.nil_append]
  after_reads_simp
  rfl

theorem V_wo (c : Dev nD) : V m c main_v7 = weights1024 (m ((c : Thread nD τ).loc main_arg17)) := by
  unfold V
  simp only [hostOps0, List.flatten_cons, List.flatten_nil, List.append_nil, List.cons_append, List.nil_append]
  after_reads_simp
  rfl

theorem V_scale (c : Dev nD) : V m c main_v9 = lineK (m ((c : Thread nD τ).loc main_arg18)) := by
  unfold V
  simp only [hostOps0, List.flatten_cons, List.flatten_nil, List.append_nil, List.cons_append, List.nil_append]
  after_reads_simp
  rfl

theorem V_shift (c : Dev nD) : V m c main_v11 = lineK (m ((c : Thread nD τ).loc main_arg19)) := by
  unfold V
  simp only [hostOps0, List.flatten_cons, List.flatten_nil, List.append_nil, List.cons_append, List.nil_append]
  after_reads_simp
  rfl

theorem weights512_at (x : FVec Ideal S1x512x1024 .f32) (i : Fin 512) (k : Fin 1024) : weights512 x (ix2 i k) = x (ix3 0 i k) := by
  pointwise [weights512]

theorem weights256_at (x : FVec Ideal S1x256x1024 .f32) (i : Fin 256) (k : Fin 1024) : weights256 x (ix2 i k) = x (ix3 0 i k) := by
  pointwise [weights256]

theorem weights1024_at (x : FVec Ideal S1x1024x1024 .f32) (i : Fin 1024) (k : Fin 1024) : weights1024 x (ix2 i k) = x (ix3 0 i k) := by
  pointwise [weights1024]

theorem line_at (x : FVec Ideal S1x1024 .f32) (k : Fin 1024) : lineK x (ix2 0 k) = x (ix2 0 k) := by
  pointwise [lineK]

/-- the arguments, by row and column -/
def data (x0 : FVec Ideal S32768x1024 .f32) (x1 : FVec Ideal S32768x512 .f32) (x2 x3 x4 x5 x6 x7 x8 x9 x10 : FVec Ideal S32768x256 .f32)
    (x11 : FVec Ideal S32768x512 .bf16) (x12 : FVec Ideal S2x256x1024 .bf16) (x13 : FVec Ideal S32768x3072 .f32)
    (x14 : FVec Ideal S1x512x1024 .f32) (x15 : FVec Ideal S1x256x1024 .f32) (x16 : FVec Ideal S1x512x1024 .f32)
    (x17 : FVec Ideal S1x1024x1024 .f32) (x18 x19 : FVec Ideal S1x1024 .f32) : Branch.Data where
  h l k := x0 (ix2 l k)
  y l i := x1 (ix2 l i)
  a₀ l i := x2 (ix2 l i)
  m₀ l i := x3 (ix2 l i)
  l₀ l i := x4 (ix2 l i)
  a₁ l i := x5 (ix2 l i)
  m₁ l i := x6 (ix2 l i)
  l₁ l i := x7 (ix2 l i)
  a₂ l i := x8 (ix2 l i)
  m₂ l i := x9 (ix2 l i)
  l₂ l i := x10 (ix2 l i)
  q l i := x11 (ix2 l i)
  kv s j i := x12 (ix3 s j i)
  g l k := x13 (ix2 l k)
  wa i k := x14 (ix3 0 i k)
  wb i k := x15 (ix3 0 i k)
  wc i k := x16 (ix3 0 i k)
  wo i k := x17 (ix3 0 i k)
  scale k := x18 (ix2 0 k)
  shift k := x19 (ix2 0 k)

/-- the arguments' contents, by row and column -/
abbrev args (c : Dev nD) : Branch.Data :=
  data (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18)) (m ((c : Thread nD τ).loc main_arg19))

/-- the arrays the call is given, by row and column -/
def laid (x0 : FVec Ideal S32768x1024 .f32) (x1 : FVec Ideal S32768x512 .f32) (x2 x3 x4 x5 x6 x7 x8 x9 x10 : FVec Ideal S32768x256 .f32)
    (x11 : FVec Ideal S32768x512 .bf16) (x12 : FVec Ideal S2x256x1024 .bf16) (x13 : FVec Ideal S32768x3072 .f32)
    (x14 : FVec Ideal S512x1024 .bf16) (x15 : FVec Ideal S256x1024 .bf16) (x16 : FVec Ideal S512x1024 .bf16)
    (x17 : FVec Ideal S1024x1024 .bf16) (x18 x19 : FVec Ideal S1x1024 .f32) : Branch.Data where
  h l k := x0 (ix2 l k)
  y l i := x1 (ix2 l i)
  a₀ l i := x2 (ix2 l i)
  m₀ l i := x3 (ix2 l i)
  l₀ l i := x4 (ix2 l i)
  a₁ l i := x5 (ix2 l i)
  m₁ l i := x6 (ix2 l i)
  l₁ l i := x7 (ix2 l i)
  a₂ l i := x8 (ix2 l i)
  m₂ l i := x9 (ix2 l i)
  l₂ l i := x10 (ix2 l i)
  q l i := x11 (ix2 l i)
  kv s j i := x12 (ix3 s j i)
  g l k := x13 (ix2 l k)
  wa i k := x14 (ix2 i k)
  wb i k := x15 (ix2 i k)
  wc i k := x16 (ix2 i k)
  wo i k := x17 (ix2 i k)
  scale k := x18 (ix2 0 k)
  shift k := x19 (ix2 0 k)

theorem given_laid (c : Dev nD) : given m c = laid (V m c main_arg0) (V m c main_arg1) (V m c main_arg2) (V m c main_arg3) (V m c main_arg4)
    (V m c main_arg5) (V m c main_arg6) (V m c main_arg7) (V m c main_arg8) (V m c main_arg9) (V m c main_arg10) (V m c main_arg11)
    (V m c main_arg12) (V m c main_arg13) (V m c main_v1) (V m c main_v3) (V m c main_v5) (V m c main_v7) (V m c main_v9) (V m c main_v11) := rfl

theorem laid_eq (x0 : FVec Ideal S32768x1024 .f32) (x1 : FVec Ideal S32768x512 .f32) (x2 x3 x4 x5 x6 x7 x8 x9 x10 : FVec Ideal S32768x256 .f32)
    (x11 : FVec Ideal S32768x512 .bf16) (x12 : FVec Ideal S2x256x1024 .bf16) (x13 : FVec Ideal S32768x3072 .f32)
    (x14 : FVec Ideal S1x512x1024 .f32) (x15 : FVec Ideal S1x256x1024 .f32) (x16 : FVec Ideal S1x512x1024 .f32)
    (x17 : FVec Ideal S1x1024x1024 .f32) (x18 x19 : FVec Ideal S1x1024 .f32) :
    laid x0 x1 x2 x3 x4 x5 x6 x7 x8 x9 x10 x11 x12 x13 (weights512 x14) (weights256 x15) (weights512 x16) (weights1024 x17) (lineK x18) (lineK x19)
      = data x0 x1 x2 x3 x4 x5 x6 x7 x8 x9 x10 x11 x12 x13 x14 x15 x16 x17 x18 x19 := by
  unfold laid data
  simp only [weights512_at, weights256_at, weights1024_at, line_at]

theorem given_eq (c : Dev nD) : given m c = args m c := by
  rw [given_laid, V_main_arg0, V_main_arg1, V_main_arg2, V_main_arg3, V_main_arg4, V_main_arg5, V_main_arg6, V_main_arg7, V_main_arg8, V_main_arg9,
    V_main_arg10, V_main_arg11, V_main_arg12, V_main_arg13, V_wa, V_wb, V_wc, V_wo, V_scale, V_shift]
  exact laid_eq _ _ _ _ _ _ _ _ _ _ _ _ _ _ _ _ _ _ _ _

/-- every execution ends with the merge, and the arguments as they were -/
theorem run (g : Dev nD → PrngReg) :
    θ_run (defs (F := Ideal)) (onTc (τ := τ) (main (F := Ideal))) ⟨m, fun _ => 0, g⟩ fun r => ∀ c : Dev nD,
      r.2.mem ((c : Thread nD τ).loc main_v12) = merged (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun _ h c => ⟨(h c).1.trans ((final m c).trans (congrArg merged (given_eq m c))), (h c).2⟩) (Value.run_blocks m g)

end Cert.MergeValue

end
-- ==== Proof.Merging.lean ====
/- What the reference of the merge computes, as chains of named steps, each read at an index. -/
module

public import proofs.«01_k».proof.Proof.Gen.MergedIdeal
public import Idealize.ShloMosaic.Lib.Pointwise
public import proofs.«01_k».proof.Proof.Branch

@[expose] public section

set_option maxRecDepth 16384

noncomputable section

namespace Cert.Merging

open Cert.MergedIdeal Cert.MergedIdeal.Gen Cert.Branch Idealize.ShloMosaic Idealize.ShloMosaic.TcCoe

/-! The three dilations together -/

/-- the exponential of a part's greatest scores, relative to all three parts' -/
def part (m m₀ m₁ m₂ : FVec Ideal S32768x256 .f32) : FVec Ideal S32768x256 .f32 := Host.exp (subf m (maximumf (maximumf m₀ m₁) m₂))

/-- three arrays added up with these -/
def added (m₀ m₁ m₂ x₀ x₁ x₂ : FVec Ideal S32768x256 .f32) : FVec Ideal S32768x256 .f32 :=
  addf (addf (mulf (part m₀ m₀ m₁ m₂) x₀) (mulf (part m₁ m₀ m₁ m₂) x₁)) (mulf (part m₂ m₀ m₁ m₂) x₂)

def dilatedR (m₀ m₁ m₂ a₀ a₁ a₂ l₀ l₁ l₂ : FVec Ideal S32768x256 .f32) : FVec Ideal S32768x256 .f32 :=
  Host.divf (added m₀ m₁ m₂ a₀ a₁ a₂) (added m₀ m₁ m₂ l₀ l₁ l₂)

theorem dilatedR_at (m₀ m₁ m₂ a₀ a₁ a₂ l₀ l₁ l₂ : FVec Ideal S32768x256 .f32) (l : Fin 32768) (i : Fin 256) :
    dilatedR m₀ m₁ m₂ a₀ a₁ a₂ l₀ l₁ l₂ (ix2 l i) = mix (m₀ (ix2 l i)) (m₁ (ix2 l i)) (m₂ (ix2 l i)) (a₀ (ix2 l i)) (a₁ (ix2 l i)) (a₂ (ix2 l i))
      (l₀ (ix2 l i)) (l₁ (ix2 l i)) (l₂ (ix2 l i)) := by
  pointwise [dilatedR, added, part]
  rfl

/-! The attention over the memory -/

/-- the queries by sequence, position, head and channel -/
def queries (q : FVec Ideal S32768x512 .bf16) : FVec Ideal S2x16384x4x128 .f32 :=
  shapeCast S2x16384x4x128 (extf .f32 q bitsLt_bf16_f32 : FVec Ideal S32768x512 .f32) shapeCasts_S32768x512_S2x16384x4x128

/-- the memory's keys and values, apart -/
def split (kv : FVec Ideal S2x256x1024 .bf16) : FVec Ideal S2x256x2x4x128 .f32 :=
  shapeCast S2x256x2x4x128 (extf .f32 kv bitsLt_bf16_f32 : FVec Ideal S2x256x1024 .f32) shapeCasts_S2x256x1024_S2x256x2x4x128

def keys (kv : FVec Ideal S2x256x1024 .bf16) : FVec Ideal S2x256x4x128 .f32 :=
  shapeCast S2x256x4x128 (extractStridedSlice S2x256x1x4x128 ![0, 0, 0, 0, 0] (split kv) slices_S2x256x2x4x128_S2x256x1x4x128_0_0_0_0_0)
    shapeCasts_S2x256x1x4x128_S2x256x4x128

def values (kv : FVec Ideal S2x256x1024 .bf16) : FVec Ideal S2x256x4x128 .f32 :=
  shapeCast S2x256x4x128 (extractStridedSlice S2x256x1x4x128 ![0, 0, 1, 0, 0] (split kv) slices_S2x256x2x4x128_S2x256x1x4x128_0_0_1_0_0)
    shapeCasts_S2x256x1x4x128_S2x256x4x128

/-- the scores -/
def scores (Q : FVec Ideal S2x16384x4x128 .f32) (K : FVec Ideal S2x256x4x128 .f32) : FVec Ideal S2x4x16384x256 .f32 :=
  mulf (Host.dotGeneral dot_S2x16384x4x128_S2x256x4x128_S2x4x16384x256_3_3_1_1_02_02 none Q K)
    (broadcastInDim S2x4x16384x256 ![] bcast_S_S2x4x16384x256 (constant S_ .f32 0x3DB504F3#32))

/-- every query's greatest score -/
def maxima (S : FVec Ideal S2x4x16384x256 .f32) : FVec Ideal S2x4x16384 .f32 :=
  Host.reduce FloatOps.maximumf S (constant S_ .f32 0xFF800000#32) reducesTo_S2x4x16384x256_S2x4x16384_d3 h_S_

/-- a number per query and head, not below −∞ -/
def raised (U : FVec Ideal S2x4x16384 .f32) : FVec Ideal S2x4x16384 .f32 :=
  maximumf (broadcastInDim S2x4x16384 ![] bcast_S_S2x4x16384 (constant S_ .f32 0xFF800000#32)) U

/-- a number per query and head, repeated over the memory -/
def repeated (U : FVec Ideal S2x4x16384 .f32) : FVec Ideal S2x4x16384x256 .f32 :=
  broadcastInDim S2x4x16384x256 ![0, 1, 2, 3] bcast_S2x4x16384x1_S2x4x16384x256_0_1_2_3
    (broadcastInDim S2x4x16384x1 ![0, 1, 2] bcast_S2x4x16384_S2x4x16384x1_0_1_2 U)

/-- the exponentials of the scores relative to the greatest -/
def exps (S : FVec Ideal S2x4x16384x256 .f32) : FVec Ideal S2x4x16384x256 .f32 :=
  Host.exp (subf S (repeated (raised (maxima S))))

def sums (E : FVec Ideal S2x4x16384x256 .f32) : FVec Ideal S2x4x16384 .f32 :=
  Host.reduceAdd E (constant S_ .f32 0x00000000#32) reducesTo_S2x4x16384x256_S2x4x16384_d3 h_S_

/-- the softmax, from the exponentials -/
def softmax (E : FVec Ideal S2x4x16384x256 .f32) : FVec Ideal S2x4x16384x256 .f32 := Host.divf E (repeated (sums E))

/-- the values mixed by the softmax, laid out by row and channel -/
def mixed (P : FVec Ideal S2x4x16384x256 .f32) (W : FVec Ideal S2x256x4x128 .f32) : FVec Ideal S32768x512 .f32 :=
  shapeCast S32768x512 (transpose S2x16384x4x128 [0, 3, 1, 2]
      (Host.dotGeneral dot_S2x256x4x128_S2x4x16384x256_S2x4x128x16384_1_3_3_2_02_01 none W P) transposes_S2x4x128x16384_S2x16384x4x128_0_3_1_2
      : FVec Ideal S2x16384x4x128 .f32) shapeCasts_S2x16384x4x128_S32768x512

def crossedR (q : FVec Ideal S32768x512 .bf16) (kv : FVec Ideal S2x256x1024 .bf16) : FVec Ideal S32768x512 .f32 :=
  mixed (softmax (exps (scores (queries q) (keys kv)))) (values kv)

theorem neg_inf : Ideal.ofBits .f32 0xFF800000#32 = ⊥ := by simp [Ideal.ofBits, Ideal.ieee]

theorem queries_at (q : FVec Ideal S32768x512 .bf16) (s : Fin 2) (p : Fin 16384) (h : Fin 4) (d : Fin 128) (l : Fin 32768) (c : Fin 512)
    (hl : l.val = 16384 * s.val + p.val) (hc : c.val = 128 * h.val + d.val) : queries q (ix4 s p h d) = q (ix2 l c) := by
  pointwise [queries]
  congr 2 <;> apply Fin.ext <;> simp only <;> omega

theorem keys_at (kv : FVec Ideal S2x256x1024 .bf16) (s : Fin 2) (j : Fin 256) (h : Fin 4) (d : Fin 128) (c : Fin 1024)
    (hc : c.val = 128 * h.val + d.val) : keys kv (ix4 s j h d) = kv (ix3 s j c) := by
  pointwise [keys, split]
  congr 2 <;> apply Fin.ext <;> simp only <;> omega

theorem values_at (kv : FVec Ideal S2x256x1024 .bf16) (s : Fin 2) (j : Fin 256) (h : Fin 4) (d : Fin 128) (c : Fin 1024)
    (hc : c.val = 512 + (128 * h.val + d.val)) : values kv (ix4 s j h d) = kv (ix3 s j c) := by
  pointwise [values, split]
  congr 2 <;> apply Fin.ext <;> simp only <;> omega

theorem scores_at (Q : FVec Ideal S2x16384x4x128 .f32) (K : FVec Ideal S2x256x4x128 .f32) (s : Fin 2) (h : Fin 4) (p : Fin 16384) (j : Fin 256) :
    scores Q K (ix4 s h p j) = score (fun d => Q (ix4 s p h d)) fun d => K (ix4 s j h d) := by
  pointwise [scores]
  rfl

theorem maxima_at (S : FVec Ideal S2x4x16384x256 .f32) (s : Fin 2) (h : Fin 4) (p : Fin 16384) :
    maxima S (ix3 s h p) = Band.top fun j : Fin 256 => S (ix4 s h p j) := by
  pointwise [maxima]
  rw [neg_inf]
  rfl

theorem raised_at (U : FVec Ideal S2x4x16384 .f32) (i : S2x4x16384.Idx) : raised U i = U i := by
  pointwise [raised]
  rw [neg_inf]
  exact max_eq_right bot_le

theorem peaks_at (S : FVec Ideal S2x4x16384x256 .f32) (s : Fin 2) (h : Fin 4) (p : Fin 16384) :
    raised (maxima S) (ix3 s h p) = Band.top fun j : Fin 256 => S (ix4 s h p j) :=
  (raised_at _ _).trans (maxima_at S s h p)

theorem repeated_at (U : FVec Ideal S2x4x16384 .f32) (s : Fin 2) (h : Fin 4) (p : Fin 16384) (j : Fin 256) :
    repeated U (ix4 s h p j) = U (ix3 s h p) := by
  pointwise [repeated]

theorem exps_at (S : FVec Ideal S2x4x16384x256 .f32) (s : Fin 2) (h : Fin 4) (p : Fin 16384) (j : Fin 256) :
    exps S (ix4 s h p j) = Band.weight (fun j : Fin 256 => S (ix4 s h p j)) j := by
  pointwise [exps, repeated_at]
  rw [peaks_at]
  rfl

theorem sums_at (E : FVec Ideal S2x4x16384x256 .f32) (s : Fin 2) (h : Fin 4) (p : Fin 16384) :
    sums E (ix3 s h p) = ∑ j : Fin 256, E (ix4 s h p j) := by
  pointwise [sums]

theorem softmax_at (E : FVec Ideal S2x4x16384x256 .f32) (s : Fin 2) (h : Fin 4) (p : Fin 16384) (j : Fin 256) :
    softmax E (ix4 s h p j) = Ideal.div (E (ix4 s h p j)) (∑ i : Fin 256, E (ix4 s h p i)) := by
  pointwise [softmax, repeated_at, sums_at]

theorem mixed_at (P : FVec Ideal S2x4x16384x256 .f32) (W : FVec Ideal S2x256x4x128 .f32) (l : Fin 32768) (c : Fin 512) :
    mixed P W (ix2 l c) = ∑ j : Fin 256, P (ix4 ⟨l.val / 16384, by omega⟩ ⟨c.val / 128, by omega⟩ ⟨l.val % 16384, by omega⟩ j)
      * W (ix4 ⟨l.val / 16384, by omega⟩ j ⟨c.val / 128, by omega⟩ ⟨c.val % 128, by omega⟩) := by
  pointwise [mixed]
  exact Finset.sum_congr rfl fun j _ => mul_comm _ _

theorem crossedR_at (q : FVec Ideal S32768x512 .bf16) (kv : FVec Ideal S2x256x1024 .bf16) (l : Fin 32768) (c : Fin 512) :
    crossedR q kv (ix2 l c) = attend (fun d => q (ix2 l (chan c d))) (fun j d => kv (ix3 (seqOf l) j (keyChan c d)))
      fun j => kv (ix3 (seqOf l) j (valChan c)) := by
  unfold crossedR attend soft
  rw [mixed_at]
  refine Finset.sum_congr rfl fun j _ => ?_
  have hq : ∀ d : Fin 128, queries q (ix4 ⟨l.val / 16384, by omega⟩ ⟨l.val % 16384, by omega⟩ ⟨c.val / 128, by omega⟩ d) = q (ix2 l (chan c d)) :=
    fun d => queries_at q _ _ _ _ _ _ (by simp only; omega) rfl
  have hk : ∀ (i : Fin 256) (d : Fin 128), keys kv (ix4 ⟨l.val / 16384, by omega⟩ i ⟨c.val / 128, by omega⟩ d) = kv (ix3 (seqOf l) i (keyChan c d)) :=
    fun i d => keys_at kv _ _ _ _ _ rfl
  have hv : values kv (ix4 ⟨l.val / 16384, by omega⟩ j ⟨c.val / 128, by omega⟩ ⟨c.val % 128, by omega⟩) = kv (ix3 (seqOf l) j (valChan c)) :=
    values_at kv _ _ _ _ _ (by simp only [valChan]; omega)
  simp only [softmax_at, exps_at, scores_at, hq, hk, hv]

/-! The branches together, and the norm -/

/-- the gates -/
def gates (g : FVec Ideal S32768x3072 .f32) : FVec Ideal S32768x3072 .f32 :=
  Host.divf (broadcastInDim S32768x3072 ![] bcast_S_S32768x3072 (constant S_ .f32 0x3F800000#32))
    (addf (broadcastInDim S32768x3072 ![] bcast_S_S32768x3072 (constant S_ .f32 0x3F800000#32)) (Host.exp (Host.negf g)))

def joinedR (G : FVec Ideal S32768x3072 .f32) (y₀ y₁ y₂ : FVec Ideal S32768x1024 .f32) : FVec Ideal S32768x1024 .f32 :=
  addf (addf (mulf (extractStridedSlice S32768x1024 ![0, 0] G slices_S32768x3072_S32768x1024_0_0) y₀)
      (mulf (extractStridedSlice S32768x1024 ![0, 1024] G slices_S32768x3072_S32768x1024_0_1024) y₁))
    (mulf (extractStridedSlice S32768x1024 ![0, 2048] G slices_S32768x3072_S32768x1024_0_2048) y₂)

/-- a branch of 512 channels, projected -/
def broad (x : FVec Ideal S32768x512 .f32) (w : FVec Ideal S1x512x1024 .f32) : FVec Ideal S32768x1024 .f32 :=
  Host.dotGeneral dot_S32768x512_S512x1024_S32768x1024_1_0_0_1_n_n none x
    (shapeCast S512x1024 w shapeCasts_S1x512x1024_S512x1024 : FVec Ideal S512x1024 .f32)

/-- a branch of 256 channels, projected -/
def narrow (x : FVec Ideal S32768x256 .f32) (w : FVec Ideal S1x256x1024 .f32) : FVec Ideal S32768x1024 .f32 :=
  Host.dotGeneral dot_S32768x256_S256x1024_S32768x1024_1_0_0_1_n_n none x
    (shapeCast S256x1024 w shapeCasts_S1x256x1024_S256x1024 : FVec Ideal S256x1024 .f32)

/-- the residual with the projection of the branches together -/
def sumR (h z : FVec Ideal S32768x1024 .f32) (w : FVec Ideal S1x1024x1024 .f32) : FVec Ideal S32768x1024 .f32 :=
  addf (mulf (broadcastInDim S32768x1024 ![] bcast_S_S32768x1024 (constant S_ .f32 0x3F9837F0#32)) h)
    (Host.dotGeneral dot_S32768x1024_S1024x1024_S32768x1024_1_0_0_1_n_n none z
      (shapeCast S1024x1024 w shapeCasts_S1x1024x1024_S1024x1024 : FVec Ideal S1024x1024 .f32))

/-- the mean of every row, as a column -/
def means (x : FVec Ideal S32768x1024 .f32) : FVec Ideal S32768x1 .f32 :=
  Host.divf (broadcastInDim S32768x1 ![0] bcast_S32768_S32768x1_0
      (Host.reduceAdd x (constant S_ .f32 0x00000000#32) reducesTo_S32768x1024_S32768_d1 h_S_))
    (broadcastInDim S32768x1 ![] bcast_S_S32768x1 (constant S_ .f32 0x44800000#32))

/-- each row less its mean -/
def centred (x : FVec Ideal S32768x1024 .f32) : FVec Ideal S32768x1024 .f32 :=
  subf x (broadcastInDim S32768x1024 ![0, 1] bcast_S32768x1_S32768x1024_0_1 (means x))

/-- a scale or a shift, repeated over the rows -/
def line (g : FVec Ideal S1x1024 .f32) : FVec Ideal S32768x1024 .f32 :=
  broadcastInDim S32768x1024 ![0, 1] bcast_S1x1024_S32768x1024_0_1
    (broadcastInDim S1x1024 ![1] bcast_S1024_S1x1024_1 (shapeCast S1024 g shapeCasts_S1x1024_S1024 : FVec Ideal S1024 .f32))

/-- the normalized rows -/
def normR (x : FVec Ideal S32768x1024 .f32) (g b : FVec Ideal S1x1024 .f32) : FVec Ideal S32768x1024 .f32 :=
  addf (mulf (mulf (centred x) (broadcastInDim S32768x1024 ![0, 1] bcast_S32768x1_S32768x1024_0_1
        (Host.rsqrt (addf (means (mulf (centred x) (centred x))) (broadcastInDim S32768x1 ![] bcast_S_S32768x1 (constant S_ .f32 0x3727C5AC#32))))))
      (line g)) (line b)

theorem gates_at (g : FVec Ideal S32768x3072 .f32) (l : Fin 32768) (k : Fin 3072) : gates g (ix2 l k) = Ideal.logistic (g (ix2 l k)) := by
  pointwise [gates]
  rfl

theorem broad_at (x : FVec Ideal S32768x512 .f32) (w : FVec Ideal S1x512x1024 .f32) (l : Fin 32768) (k : Fin 1024) :
    broad x w (ix2 l k) = dot (fun i => x (ix2 l i)) fun i => w (ix3 0 i k) := by
  pointwise [broad]
  rfl

theorem narrow_at (x : FVec Ideal S32768x256 .f32) (w : FVec Ideal S1x256x1024 .f32) (l : Fin 32768) (k : Fin 1024) :
    narrow x w (ix2 l k) = dot (fun i => x (ix2 l i)) fun i => w (ix3 0 i k) := by
  pointwise [narrow]
  rfl

theorem joinedR_at (g : FVec Ideal S32768x3072 .f32) (y₀ y₁ y₂ : FVec Ideal S32768x1024 .f32) (l : Fin 32768) (k : Fin 1024) :
    joinedR (gates g) y₀ y₁ y₂ (ix2 l k) = gated (g (ix2 l (gate₀ k))) (g (ix2 l (gate₁ k))) (g (ix2 l (gate₂ k)))
      (y₀ (ix2 l k)) (y₁ (ix2 l k)) (y₂ (ix2 l k)) := by
  pointwise [joinedR, gates_at]
  rfl

theorem sumR_at (h z : FVec Ideal S32768x1024 .f32) (w : FVec Ideal S1x1024x1024 .f32) (l : Fin 32768) (k : Fin 1024) :
    sumR h z w (ix2 l k) = residual (h (ix2 l k)) (dot (fun i => z (ix2 l i)) fun i => w (ix3 0 i k)) := by
  pointwise [sumR]
  rfl

theorem means_at (x : FVec Ideal S32768x1024 .f32) (l : Fin 32768) : means x (ix2 l 0) = Norm.mean fun k => x (ix2 l k) := by
  pointwise [means]
  rfl

theorem centred_at (x : FVec Ideal S32768x1024 .f32) (l : Fin 32768) (k : Fin 1024) :
    centred x (ix2 l k) = x (ix2 l k) - Norm.mean fun k => x (ix2 l k) := by
  pointwise [centred, means_at]

theorem line_at (g : FVec Ideal S1x1024 .f32) (l : Fin 32768) (k : Fin 1024) : line g (ix2 l k) = g (ix2 0 k) := by
  pointwise [line]

theorem normR_at (x : FVec Ideal S32768x1024 .f32) (g b : FVec Ideal S1x1024 .f32) (l : Fin 32768) (k : Fin 1024) :
    normR x g b (ix2 l k) = Norm.normed (fun k => x (ix2 l k)) (fun k => g (ix2 0 k)) (fun k => b (ix2 0 k)) k := by
  pointwise [normR, means_at, centred_at, line_at]
  rfl

end Cert.Merging

end
-- ==== Proof.MergingRun.lean ====
/- The reference of the merge: every execution ends with the merge of its arguments, read by row and column. -/
module

public import proofs.«01_k».proof.Proof.Gen.MergedIdeal.Run
public import proofs.«01_k».proof.Proof.Merging

@[expose] public section

set_option maxRecDepth 16384

noncomputable section

namespace Cert.Merging

open Cert.MergedIdeal Cert.MergedIdeal.Gen Cert.Branch Idealize.ShloMosaic Idealize.ShloMosaic.TcCoe Idealize.SL.Sem

/-- the arguments, by row and column -/
def data (x0 : FVec Ideal S32768x1024 .f32) (x1 : FVec Ideal S32768x512 .f32) (x2 x3 x4 x5 x6 x7 x8 x9 x10 : FVec Ideal S32768x256 .f32)
    (x11 : FVec Ideal S32768x512 .bf16) (x12 : FVec Ideal S2x256x1024 .bf16) (x13 : FVec Ideal S32768x3072 .f32)
    (x14 : FVec Ideal S1x512x1024 .f32) (x15 : FVec Ideal S1x256x1024 .f32) (x16 : FVec Ideal S1x512x1024 .f32)
    (x17 : FVec Ideal S1x1024x1024 .f32) (x18 x19 : FVec Ideal S1x1024 .f32) : Data where
  h l k := x0 (ix2 l k)
  y l i := x1 (ix2 l i)
  a₀ l i := x2 (ix2 l i)
  m₀ l i := x3 (ix2 l i)
  l₀ l i := x4 (ix2 l i)
  a₁ l i := x5 (ix2 l i)
  m₁ l i := x6 (ix2 l i)
  l₁ l i := x7 (ix2 l i)
  a₂ l i := x8 (ix2 l i)
  m₂ l i := x9 (ix2 l i)
  l₂ l i := x10 (ix2 l i)
  q l i := x11 (ix2 l i)
  kv s j i := x12 (ix3 s j i)
  g l k := x13 (ix2 l k)
  wa i k := x14 (ix3 0 i k)
  wb i k := x15 (ix3 0 i k)
  wc i k := x16 (ix3 0 i k)
  wo i k := x17 (ix3 0 i k)
  scale k := x18 (ix2 0 k)
  shift k := x19 (ix2 0 k)

/-- the merge's array -/
def merged (D : Data) : FVec Ideal S32768x1024 .f32 := fun j => out D (j 0) (j 1)

theorem merged_eq (x0 : FVec Ideal S32768x1024 .f32) (x1 : FVec Ideal S32768x512 .f32) (x2 x3 x4 x5 x6 x7 x8 x9 x10 : FVec Ideal S32768x256 .f32)
    (x11 : FVec Ideal S32768x512 .bf16) (x12 : FVec Ideal S2x256x1024 .bf16) (x13 : FVec Ideal S32768x3072 .f32)
    (x14 : FVec Ideal S1x512x1024 .f32) (x15 : FVec Ideal S1x256x1024 .f32) (x16 : FVec Ideal S1x512x1024 .f32)
    (x17 : FVec Ideal S1x1024x1024 .f32) (x18 x19 : FVec Ideal S1x1024 .f32) :
    normR (sumR x0 (joinedR (gates x13) (broad x1 x14) (narrow (dilatedR x3 x6 x9 x2 x5 x8 x4 x7 x10) x15) (broad (crossedR x11 x12) x16)) x17) x18 x19
      = merged (data x0 x1 x2 x3 x4 x5 x6 x7 x8 x9 x10 x11 x12 x13 x14 x15 x16 x17 x18 x19) := by
  funext j
  idx_vars j
  simp only [normR_at, sumR_at, joinedR_at, broad_at, narrow_at, dilatedR_at, crossedR_at]
  rfl

/-- the arguments' contents, by row and column -/
abbrev given (m : (ℓ : Loc nD τ sig) → Buf (Elt Ideal) ℓ) (c : Dev nD) : Data :=
  data (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18)) (m ((c : Thread nD τ).loc main_arg19))

theorem result_eq (m : (ℓ : Loc nD τ sig) → Buf (Elt Ideal) ℓ) (c : Dev nD) : Value.res_main_v94 m c = merged (given m c) := by
  refine Eq.trans ?_ (merged_eq _ _ _ _ _ _ _ _ _ _ _ _ _ _ _ _ _ _ _ _)
  rfl

/-- every execution of the reference ends with the merge, and its arguments as they were -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c : Thread nD τ).loc main_v94) = merged (given m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19) :=
  (θ_run defs _ _).mono (fun _ h c => ⟨(h c).1.trans (result_eq m c), (h c).2⟩) (Value.run m g)

end Cert.Merging

end
-- ==== Proof.Remembered.lean ====
/- What the reference of the memory's projection computes: every entry of the memory's product with the weights, column by column. -/
module

public import proofs.«01_k».proof.Proof.Gen.RememberedIdeal.Run
public import Idealize.ShloMosaic.Lib.Pointwise
public import proofs.«01_k».proof.Proof.Branch

@[expose] public section

set_option maxRecDepth 16384

noncomputable section

namespace Cert.Remembered

open Cert.RememberedIdeal Cert.RememberedIdeal.Gen Idealize.ShloMosaic Idealize.ShloMosaic.TcCoe Idealize.SL.Sem

/-- the sequence a row belongs to, and the entry of that sequence's memory -/
def seqOf (r : Fin 512) : Fin 2 := ⟨r.val / 256, Nat.div_lt_of_lt_mul r.isLt⟩
def slotOf (r : Fin 512) : Fin 256 := ⟨r.val % 256, Nat.mod_lt _ (by decide)⟩

section Spec

variable (X : FVec Ideal S2x256x1024 .f32) (W : FVec Ideal S1x1024x1024 .f32)

/-- one column of an entry's product with the weights -/
def entry (s : Fin 2) (l : Fin 256) (c : Fin 1024) : EReal := Branch.dot (fun k => X (ix3 s l k)) (fun k => W (ix3 0 k c))

/-- the keys and values of both sequences' memories, one row per entry -/
def projected : FVec Ideal S512x1024 .bf16 := fun j => entry X W (seqOf (j 0)) (slotOf (j 0)) (j 1)

theorem projected_eq : truncf .bf16 (shapeCast S512x1024 (Host.dotGeneral dot_S2x256x1024_S1024x1024_S2x256x1024_2_0_01_1_n_n none X
      (shapeCast S1024x1024 W shapeCasts_S1x1024x1024_S1024x1024 : FVec Ideal S1024x1024 .f32)) shapeCasts_S2x256x1024_S512x1024 : FVec Ideal S512x1024 .f32)
    bitsLt_bf16_f32 = projected X W := by
  funext j
  idx_vars j
  pointwise
  rfl

end Spec

/-- an argument's contents -/
abbrev arg (m : (ℓ : Loc nD τ sig) → Buf (Elt Ideal) ℓ) (c : Dev nD) (b : Ref sig .tc) : Buf (Elt Ideal) ((c : Thread nD τ).loc b) :=
  m ((c : Thread nD τ).loc b)

/-- every execution of the reference ends with this array, and its arguments as they were -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c : Thread nD τ).loc main_v3) = projected (arg m c main_arg0) (arg m c main_arg1)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Value.run m g)
  obtain ⟨h0, h1⟩ := h c
  exact ⟨h0.trans (projected_eq _ _), h1⟩

end Cert.Remembered

end
-- ==== Proof.MemoryFinal.lean ====
/- The memory's projection: what its kernel computes from the arrays it is given, how the host lays these out, and with both the kernel's
   result in terms of the arguments. -/
module

public import proofs.«01_k».proof.Proof.Gen.MemoryIdeal.Value
public import proofs.«01_k».proof.Proof.Remembered
public import Idealize.ShloMosaic.Lib.Pipeline.ValueKit
public import Idealize.ShloMosaic.Lib.StableHlo.RunRead

@[expose] public section

set_option maxRecDepth 16384

noncomputable section

namespace Cert.MemoryValue

open Cert.MemoryIdeal Cert.MemoryIdeal.Gen Idealize.ShloMosaic Idealize.ShloMosaic.TcCoe Idealize.SL.Sem

variable (m : (ℓ : Loc nD τ sig) → Buf (Elt Ideal) ℓ)

/-- the memories of both sequences, one row per entry -/
def rowsK (x : FVec Ideal S2x256x1024 .f32) : FVec Ideal S512x1024 .f32 := shapeCast S512x1024 x shapeCasts_S2x256x1024_S512x1024

/-- the layer's weights, in the format of the product -/
def weightsK (x : FVec Ideal S1x1024x1024 .f32) : FVec Ideal S1024x1024 .bf16 :=
  truncf .bf16 (shapeCast S1024x1024 x shapeCasts_S1x1024x1024_S1024x1024 : FVec Ideal S1024x1024 .f32) bitsLt_bf16_f32

theorem V_x (c : Dev nD) : V m c main_v0 = rowsK (m ((c : Thread nD τ).loc main_arg0)) := by
  unfold V
  simp only [hostOps0, List.flatten_cons, List.flatten_nil, List.append_nil, List.cons_append, List.nil_append]
  after_reads_simp
  rfl

theorem V_w (c : Dev nD) : V m c main_v2 = weightsK (m ((c : Thread nD τ).loc main_arg1)) := by
  unfold V
  simp only [hostOps0, List.flatten_cons, List.flatten_nil, List.append_nil, List.cons_append, List.nil_append]
  after_reads_simp
  rfl

theorem rows_at (X : FVec Ideal S2x256x1024 .f32) (l : Fin 512) (k : Fin 1024) :
    rowsK X (ix2 l k) = X (ix3 (Remembered.seqOf l) (Remembered.slotOf l) k) := by
  pointwise [rowsK]
  rfl

theorem weights_at (W : FVec Ideal S1x1024x1024 .f32) (k c : Fin 1024) : weightsK W (ix2 k c) = W (ix3 0 k c) := by
  pointwise [weightsK]

/-- the product of the rows `X` with the weights `W` -/
def product (X : FVec Ideal S512x1024 .f32) (W : FVec Ideal S1024x1024 .bf16) : FVec Ideal S512x1024 .bf16 :=
  fun j => Branch.dot (fun k => X (ix2 (j 0) k)) (fun k => W (ix2 k (j 1)))

theorem product_eq (X : FVec Ideal S2x256x1024 .f32) (W : FVec Ideal S1x1024x1024 .f32) :
    product (rowsK X) (weightsK W) = Remembered.projected X W := by
  funext j
  exact congrArg₂ Branch.dot (funext fun k => rows_at X (j 0) k) (funext fun k => weights_at W k (j 1))

theorem ld_rows (x : Vec Ideal S512x1024 .f32) (r : Fin 512) (k : Fin 1024) : View.ld x r0_0 (ix2 r k) = x (ix2 r k) := by
  pointwise

theorem ld_weights (x : Vec Ideal S1024x1024 .bf16) (k c : Fin 1024) : View.ld x r0_1 (ix2 k c) = x (ix2 k c) := by
  pointwise

/-- the body's result is the product of its blocks -/
theorem body (x : Vec Ideal S512x1024 .f32) (w : Vec Ideal S1024x1024 .bf16) (r : Fin 512) (c : Fin 1024) :
    k0_pay1 (View.ld x r0_0) (View.ld w r0_1) (ix2 r c) = Branch.dot (fun k => x (ix2 r k)) (fun k => w (ix2 k c)) := by
  pointwise [k0_pay1, ld_rows, ld_weights]
  rfl

theorem idx : ∀ t : Fin cfg0.N, win0_0.index t = ![0, 0] ∧ win0_1.index t = ![0, 0] ∧ win0_2.index t = ![0, 0] :=
  (by decide +kernel : ∀ t : Fin grid0.N, _)

theorem blk0 (c : Dev nD) (t : Fin cfg0.N) (r : Fin 512) (k : Fin 1024) :
    (iblk m c 0 t : Vec Ideal S512x1024 .f32) (ix2 r k) = (V m c main_v0 : FVec Ideal S512x1024 .f32) (ix2 r k) := by
  blk_ext [iblk, V, idx t]

theorem blk1 (c : Dev nD) (t : Fin cfg0.N) (k i : Fin 1024) :
    (iblk m c 1 t : Vec Ideal S1024x1024 .bf16) (ix2 k i) = (V m c main_v2 : FVec Ideal S1024x1024 .bf16) (ix2 k i) := by
  blk_ext [iblk, V, idx t]

theorem emb2 (t : Fin cfg0.N) (y : S512x1024.Idx) :
    ((((View.whole main_v3).slice (win0_2.rect t)).emb y : S512x1024.Idx) 0).val = (y 0).val
    ∧ ((((View.whole main_v3).slice (win0_2.rect t)).emb y : S512x1024.Idx) 1).val = (y 1).val := by
  refine ⟨?_, ?_⟩ <;> blk_simp [idx t] <;> omega

set_option maxHeartbeats 1000000 in
theorem final (c : Dev nD) : (dats m 0 c).arrAt 2 (cfgs 0).N = product (V m c main_v0) (V m c main_v2) := by
  refine (dats m 0 c).arrAt_eq_of_covers 2 _ (by decide +kernel) fun t hf y => ?_
  obtain ⟨e0, e1⟩ := emb2 t y
  blk_simp
  rw [after0_2]
  unfold out0_2
  canon_tiles x h
  all_goals idx_vars x
  refine (body _ _ x0 x1).trans ?_
  simp only [blk0, blk1]
  unfold product
  rw [show x0 = _ from Fin.ext (h0.symm.trans e0.symm), show x1 = _ from Fin.ext (h1.symm.trans e1.symm)]

/-- every execution of the kernel ends with the reference's array, and its arguments as they were -/
theorem run (g : Dev nD → PrngReg) :
    θ_run (defs (F := Ideal)) (onTc (τ := τ) (main (F := Ideal))) ⟨m, fun _ => 0, g⟩ fun r => ∀ c : Dev nD,
      r.2.mem ((c : Thread nD τ).loc main_v3)
        = Remembered.projected (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ?_) (Value.run_blocks m g)
  obtain ⟨h0, h1⟩ := h c
  refine ⟨h0.trans ?_, h1⟩
  rw [show cfg0.N = (cfgs 0).N from rfl, final, V_x, V_w, product_eq]

end Cert.MemoryValue

end
-- ==== Proof.lean ====
/- The certificate: the kernels of the wide projection, of dilated attention, of the merge and of the memory's projection run and leave their arguments alone, the idealization
   differs by the named mask of the attention alone, and over the extended reals their results are the references'. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Attn
public import proofs.«01_k».proof.Proof.ReferenceValue
public import proofs.«01_k».proof.Proof.ReferenceRun
public import proofs.«01_k».proof.Proof.Gen.Projection
public import proofs.«01_k».proof.Proof.Gen.Projection.Frame
public import proofs.«01_k».proof.Proof.Gen.ProjectionIdeal
public import proofs.«01_k».proof.Proof.Gen.ProjectionIdeal.Frame
public import proofs.«01_k».proof.Proof.Gen.ProjectedIdeal
public import proofs.«01_k».proof.Proof.ProjectionOperands
public import proofs.«01_k».proof.Proof.Projected
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergedIdeal
public import proofs.«01_k».proof.Proof.MergeOperands
public import proofs.«01_k».proof.Proof.MergingRun
public import proofs.«01_k».proof.Proof.Gen.Memory
public import proofs.«01_k».proof.Proof.Gen.Memory.Frame
public import proofs.«01_k».proof.Proof.Gen.MemoryIdeal
public import proofs.«01_k».proof.Proof.Gen.MemoryIdeal.Frame
public import proofs.«01_k».proof.Proof.Gen.RememberedIdeal
public import proofs.«01_k».proof.Proof.MemoryFinal
public import proofs.«01_k».proof.Proof.Remembered
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts
  Cert.Projection.Gen.facts Cert.ProjectionIdeal.Gen.facts Cert.ProjectedIdeal.Gen.facts
  Cert.Merge.Gen.facts Cert.MergeIdeal.Gen.facts Cert.MergedIdeal.Gen.facts
  Cert.Memory.Gen.facts Cert.MemoryIdeal.Gen.facts Cert.RememberedIdeal.Gen.facts

open Idealize.ShloMosaic.TcCoe in
/-- the kernel's three results, in terms of its arguments alone -/
theorem kernel_mixed (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 4 (Cert.KernelIdeal.cfgs 0).N
      = Attn.mixed (m ((c : Thread Cert.KernelIdeal.nD Cert.KernelIdeal.τ).loc Cert.KernelIdeal.main_arg0))
          (m ((c : Thread Cert.KernelIdeal.nD Cert.KernelIdeal.τ).loc Cert.KernelIdeal.main_arg1)) := by
  rw [KernelValue.final4, Operands.V_q, Operands.V_k, Operands.V_v, Operands.V_b, Attn.G4_eq]

open Idealize.ShloMosaic.TcCoe in
theorem kernel_greatest (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 5 (Cert.KernelIdeal.cfgs 0).N
      = Attn.greatest (m ((c : Thread Cert.KernelIdeal.nD Cert.KernelIdeal.τ).loc Cert.KernelIdeal.main_arg0))
          (m ((c : Thread Cert.KernelIdeal.nD Cert.KernelIdeal.τ).loc Cert.KernelIdeal.main_arg1)) := by
  rw [KernelValue.final5, Operands.V_q, Operands.V_k, Operands.V_b, Attn.G5_eq]

open Idealize.ShloMosaic.TcCoe in
theorem kernel_summed (m : (ℓ : Loc Cert.KernelIdeal.nD Cert.KernelIdeal.τ Cert.KernelIdeal.sig) → Buf (Elt Ideal) ℓ) (c : Dev Cert.KernelIdeal.nD) :
    (Cert.KernelIdeal.Gen.dats m 0 c).arrAt 6 (Cert.KernelIdeal.cfgs 0).N
      = Attn.summed (m ((c : Thread Cert.KernelIdeal.nD Cert.KernelIdeal.τ).loc Cert.KernelIdeal.main_arg0))
          (m ((c : Thread Cert.KernelIdeal.nD Cert.KernelIdeal.τ).loc Cert.KernelIdeal.main_arg1)) := by
  rw [KernelValue.final6, Operands.V_q, Operands.V_k, Operands.V_b, Attn.G6_eq]

theorem frame_reference : quiescent_ReferenceIdeal := fun m g _ =>
  (θ_run Cert.ReferenceIdeal.defs _ _).mono
    (fun r h => ⟨fun c => ⟨(h c).2.2.2.1, (h c).2.2.2.2⟩, sem_eq_zero_of_no_sems (by decide) r.2⟩) (Cert.Reference.run m g)

open Idealize.ShloMosaic.TcCoe in
theorem run_kernel (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ fun r =>
      ∀ c : Dev Cert.KernelIdeal.nD,
        r.2.mem ((c : Thread Cert.KernelIdeal.nD Cert.KernelIdeal.τ).loc Cert.KernelIdeal.main_v64_0)
          = Attn.mixed (m ((c : Thread Cert.KernelIdeal.nD Cert.KernelIdeal.τ).loc Cert.KernelIdeal.main_arg0))
            (m ((c : Thread Cert.KernelIdeal.nD Cert.KernelIdeal.τ).loc Cert.KernelIdeal.main_arg1))
        ∧ r.2.mem ((c : Thread Cert.KernelIdeal.nD Cert.KernelIdeal.τ).loc Cert.KernelIdeal.main_v64_1)
          = Attn.greatest (m ((c : Thread Cert.KernelIdeal.nD Cert.KernelIdeal.τ).loc Cert.KernelIdeal.main_arg0))
            (m ((c : Thread Cert.KernelIdeal.nD Cert.KernelIdeal.τ).loc Cert.KernelIdeal.main_arg1))
        ∧ r.2.mem ((c : Thread Cert.KernelIdeal.nD Cert.KernelIdeal.τ).loc Cert.KernelIdeal.main_v64_2)
          = Attn.summed (m ((c : Thread Cert.KernelIdeal.nD Cert.KernelIdeal.τ).loc Cert.KernelIdeal.main_arg0))
            (m ((c : Thread Cert.KernelIdeal.nD Cert.KernelIdeal.τ).loc Cert.KernelIdeal.main_arg1))
        ∧ r.2.mem ((c : Thread Cert.KernelIdeal.nD Cert.KernelIdeal.τ).loc Cert.KernelIdeal.main_arg0)
          = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1)
          = m ((c : Thread Cert.KernelIdeal.nD Cert.KernelIdeal.τ).loc Cert.KernelIdeal.main_arg1) :=
  (θ_run Cert.KernelIdeal.defs _ _).mono
    (fun _ h c => ⟨((h.1 c).1 4).trans (kernel_mixed m c), ((h.1 c).1 5).trans (kernel_greatest m c), ((h.1 c).1 6).trans (kernel_summed m c),
      (h.2 c).1, (h.2 c).2⟩)
    (θ_run_and (Cert.KernelIdeal.Gen.run_main m g) (Cert.KernelIdeal.Gen.unchanged m g))

theorem algebraic : algebraic_KernelIdeal_ReferenceIdeal := by
  intro m g m' g' _ hagree
  refine ⟨_, _, _, run_kernel m g, (θ_run Cert.ReferenceIdeal.defs _ _).mono (fun r h c => ?_) (Cert.Reference.run m' g')⟩
  obtain ⟨h0, h1, h2, h3⟩ := h c
  rw [Cert.Reference.mixed_eq] at h0
  rw [Cert.Reference.greatest_eq] at h1
  rw [Cert.Reference.summed_eq] at h2
  rw [(hagree c).1, (hagree c).2] at h0 h1 h2
  exact ⟨h0, h1, h2, h3⟩

theorem frame_projected : quiescent_ProjectedIdeal := fun m g _ =>
  (θ_run Cert.ProjectedIdeal.defs _ _).mono
    (fun r h => ⟨fun c => (h c).2.2.2.2.2, sem_eq_zero_of_no_sems (by decide) r.2⟩) (Cert.Projected.run m g)

theorem algebraic_projection : algebraic_ProjectionIdeal_ProjectedIdeal := by
  intro m g m' g' _ hagree
  refine ⟨_, _, _, _, _, ProjectionValue.run m g, (θ_run Cert.ProjectedIdeal.defs _ _).mono (fun r h c => ?_) (Cert.Projected.run m' g')⟩
  obtain ⟨h0, h1, h2, h3, h4, h5⟩ := h c
  obtain ⟨a0, a1, a2, a3, a4⟩ := hagree c
  rw [Projected.arg, Projected.arg, Projected.arg, a0, a1, a2] at h0
  rw [Projected.arg, Projected.arg, Projected.arg, Projected.arg, Projected.arg, a0, a1, a2, a3, a4] at h1 h2 h3 h4
  exact ⟨h0, h1, h2, h3, h4, h5⟩

theorem frame_merged : quiescent_MergedIdeal := fun m g _ =>
  (θ_run Cert.MergedIdeal.defs _ _).mono
    (fun r h => ⟨fun c => (h c).2, sem_eq_zero_of_no_sems (by decide) r.2⟩) (Cert.Merging.run m g)

theorem algebraic_merge : algebraic_MergeIdeal_MergedIdeal := by
  intro m g m' g' _ hagree
  refine ⟨_, MergeValue.run m g, (θ_run Cert.MergedIdeal.defs _ _).mono (fun r h c => ?_) (Cert.Merging.run m' g')⟩
  obtain ⟨h0, h1⟩ := h c
  obtain ⟨a0, a1, a2, a3, a4, a5, a6, a7, a8, a9, a10, a11, a12, a13, a14, a15, a16, a17, a18, a19⟩ := hagree c
  rw [Merging.given, a0, a1, a2, a3, a4, a5, a6, a7, a8, a9, a10, a11, a12, a13, a14, a15, a16, a17, a18, a19] at h0
  exact ⟨h0, h1⟩

theorem frame_remembered : quiescent_RememberedIdeal := fun m g _ =>
  (θ_run Cert.RememberedIdeal.defs _ _).mono
    (fun r h => ⟨fun c => (h c).2, sem_eq_zero_of_no_sems (by decide) r.2⟩) (Cert.Remembered.run m g)

theorem algebraic_memory : algebraic_MemoryIdeal_RememberedIdeal := by
  intro m g m' g' _ hagree
  refine ⟨_, MemoryValue.run m g, (θ_run Cert.RememberedIdeal.defs _ _).mono (fun r h c => ?_) (Cert.Remembered.run m' g')⟩
  obtain ⟨h0, h1⟩ := h c
  obtain ⟨a0, a1⟩ := hagree c
  rw [Remembered.arg, Remembered.arg, a0, a1] at h0
  exact ⟨h0, h1⟩

theorem claim : Cert.Claim :=
  ⟨Cert.Kernel.Gen.facts, Cert.KernelIdeal.Gen.facts, Cert.ReferenceIdeal.Gen.facts,
    Cert.Projection.Gen.facts, Cert.ProjectionIdeal.Gen.facts, Cert.ProjectedIdeal.Gen.facts,
    Cert.Merge.Gen.facts, Cert.MergeIdeal.Gen.facts, Cert.MergedIdeal.Gen.facts,
    Cert.Memory.Gen.facts, Cert.MemoryIdeal.Gen.facts, Cert.RememberedIdeal.Gen.facts,
    fun m g _ => Cert.Kernel.Gen.frame m g, fun m g _ => Cert.KernelIdeal.Gen.frame m g, frame_reference,
    fun m g _ => Cert.Projection.Gen.frame m g, fun m g _ => Cert.ProjectionIdeal.Gen.frame m g, frame_projected,
    fun m g _ => Cert.Merge.Gen.frame m g, fun m g _ => Cert.MergeIdeal.Gen.frame m g, frame_merged,
    fun m g _ => Cert.Memory.Gen.frame m g, fun m g _ => Cert.MemoryIdeal.Gen.frame m g, frame_remembered,
    IdealRules.named_const.statement Cert.KernelIdeal.κ "mask" .f32 0xF149F2CA#32 ⊥ rfl, algebraic,
    trivial, algebraic_projection, trivial, algebraic_merge, trivial, algebraic_memory⟩

end Cert.Proof

end
